-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S4096 : Shape := ⟨1, ![4096]⟩
abbrev S1x4096 : Shape := ⟨2, ![1, 4096]⟩

class Facts : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S_S4096 : S_.BroadcastsInDim S4096 (![] : Fin 0 → Fin S4096.rank)
  shapeCasts_S4096_S1x4096 : S4096.ShapeCasts S1x4096
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S_S_ : S_.BroadcastsInDim S_ (![] : Fin 0 → Fin S_.rank)
  reduceWindows_S8192x4096_S8192x4096_w1s1p0_0_w4096s1p4095_0 : S8192x4096.ReduceWindows (![1, 4096] : Fin 2 → Nat) ![1, 1] ![0, 4095] ![0, 0] S8192x4096
  bcast_S_S8192x1 : S_.BroadcastsInDim S8192x1 (![] : Fin 0 → Fin S8192x1.rank)
  natLt_1_32 : 1 < 32
  bcast_S_S8192 : S_.BroadcastsInDim S8192 (![] : Fin 0 → Fin S8192.rank)
  reducesTo_S8192_S_d0 : S8192.ReducesTo [0] S_

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S8192x4096 .f32) : FVec F S8192x4096 .f32 :=
  let v0 : FVec F S8192x4096 .f32 := (fun x => Host.sort S8192x4096 1 comparator_f32_d1 x) arg0
  v0

def fn_cumsum_0 {F : FTy → Type} [FloatOps F] (arg0 : FVec F S8192x4096 .f32) : FVec F S8192x4096 .f32 :=
  let cst : FVec F S_ .f32 := constant S_ .f32 0x00000000#32
  let v0 : FVec F S_ .f32 := broadcastInDim S_ ![] bcast_S_S_ cst
  let v1 : FVec F S8192x4096 .f32 := (fun x v => Host.reduceWindowAdd ![1, 4096] ![1, 1] ![0, 4095] ![0, 0] x v reduceWindows_S8192x4096_S8192x4096_w1s1p0_0_w4096s1p4095_0 h_S_) arg0 v0
  v1

def fn_cumsum {F : FTy → Type} [FloatOps F] (arg0 : FVec F S8192x4096 .f32) : FVec F S8192x4096 .f32 :=
  let v0 : FVec F S8192x4096 .f32 := fn_cumsum_0 (F := F) arg0
  v0

def fn_part2 {F : FTy → Type} [FloatOps F] (main_v37 : IVec S8192 32) (main_c_7 : IVec S_ 32) : IVec S_ 1 :=
  let main_v38 : IVec S8192 32 := broadcastInDim S8192 ![] bcast_S_S8192 main_c_7
  let main_v39 : IVec S8192 1 := cmpi .sle main_v37 main_v38
  let main_c_8 : IVec S_ 1 := constantI S_ 1 1#1
  let main_v40 : IVec S_ 1 := (fun x v => Host.reduce IntOp.andi x v reducesTo_S8192_S_d0 h_S_) main_v39 main_c_8
  main_v40

def fn_part1 {F : FTy → Type} [FloatOps F] (main_v3 : FVec F S8192x4096 .f32) (main_v6 : FVec F S8192x4096 .f32) (main_v17 : FVec F S8192x4096 .f32) (main_v19 : FVec F S8192x4096 .f32) (main_cst_2 : FVec F S_ .f32) : IVec S_ 1 :=
  let main_v20 : FVec F S8192 .f32 := (fun x v => Host.reduce FloatOps.maximumf x v reducesTo_S8192x4096_S8192_d1 h_S_) main_v19 main_cst_2
  let main_v21 : FVec F S8192x1 .f32 := broadcastInDim S8192x1 ![0] bcast_S8192_S8192x1_0 main_v20
  let main_v22 : FVec F S8192x4096 .f32 := mulf main_v17 main_v6
  let main_cst_3 : FVec F S_ .f32 := constant S_ .f32 0x00000000#32
  let main_v23 : FVec F S8192 .f32 := (fun x v => Host.reduceAdd x v reducesTo_S8192x4096_S8192_d1 h_S_) main_v22 main_cst_3
  let main_v24 : FVec F S8192x1 .f32 := broadcastInDim S8192x1 ![0] bcast_S8192_S8192x1_0 main_v23
  let main_cst_4 : FVec F S_ .f32 := constant S_ .f32 0x3F800000#32
  let main_v25 : FVec F S8192x1 .f32 := broadcastInDim S8192x1 ![] bcast_S_S8192x1 main_cst_4
  let main_v26 : FVec F S8192x1 .f32 := subf main_v24 main_v25
  let main_v27 : FVec F S8192x1 .f32 := Host.divf main_v26 main_v21
  let main_v28 : FVec F S8192x4096 .f32 := broadcastInDim S8192x4096 ![0, 1] bcast_S8192x1_S8192x4096_0_1 main_v27
  let main_v29 : FVec F S8192x4096 .f32 := subf main_v3 main_v28
  let main_v30 : FVec F S8192x4096 .f32 := Host.absf main_v29
  let main_cst_5 : FVec F S_ .f32 := constant S_ .f32 0x00000000#32
  let main_v31 : FVec F S8192x4096 .f32 := broadcastInDim S8192x4096 ![] bcast_S_S8192x4096 main_cst_5
  let main_v32 : IVec S8192x4096 1 := cmpf .ogt main_v30 main_v31
  let main_cst_6 : FVec F S_ .f32 := constant S_ .f32 0x37000000#32
  let main_v33 : FVec F S8192x4096 .f32 := broadcastInDim S8192x4096 ![] bcast_S_S8192x4096 main_cst_6
  let main_v34 : IVec S8192x4096 1 := cmpf .ole main_v30 main_v33
  let main_v35 : IVec S8192x4096 1 := andi main_v32 main_v34
  let main_v36 : IVec S8192x4096 32 := (extui 32 · natLt_1_32) main_v35
  let main_c : IVec S_ 32 := constantI S_ 32 0#32
  let main_v37 : IVec S8192 32 := (fun x v => Host.reduce IntOp.addi x v reducesTo_S8192x4096_S8192_d1 h_S_) main_v36 main_c
  let main_c_7 : IVec S_ 32 := constantI S_ 32 1#32
  fn_part2 (F := F) main_v37 main_c_7

def fn {F : FTy → Type} [FloatOps F] (main_arg0 : FVec F S8192x4096 .f32) : IVec S_ 1 :=
  let main_cst : FVec F S_ .f32 := constant S_ .f32 0xFF800000#32
  let main_v0 : FVec F S8192 .f32 := (fun x v => Host.reduce FloatOps.maximumf x v reducesTo_S8192x4096_S8192_d1 h_S_) main_arg0 main_cst
  let main_v1 : FVec F S8192x1 .f32 := broadcastInDim S8192x1 ![0] bcast_S8192_S8192x1_0 main_v0
  let main_v2 : FVec F S8192x4096 .f32 := broadcastInDim S8192x4096 ![0, 1] bcast_S8192x1_S8192x4096_0_1 main_v1
  let main_v3 : FVec F S8192x4096 .f32 := subf main_arg0 main_v2
  let main_v4 : FVec F S8192x4096 .f32 := Host.negf main_v3
  let main_v5 : FVec F S8192x4096 .f32 := fn_sort (F := F) main_v4
  let main_v6 : FVec F S8192x4096 .f32 := Host.negf main_v5
  let main_v7 : FVec F S4096 .f32 := sitofp .f32 (iotaInDim S4096 32 0)
  let main_cst_0 : FVec F S_ .f32 := constant S_ .f32 0x3F800000#32
  let main_v8 : FVec F S4096 .f32 := broadcastInDim S4096 ![] bcast_S_S4096 main_cst_0
  let main_v9 : FVec F S4096 .f32 := addf main_v8 main_v7
  let main_v10 : FVec F S1x4096 .f32 := shapeCast S1x4096 main_v9 shapeCasts_S4096_S1x4096
  let main_v11 : FVec F S8192x4096 .f32 := broadcastInDim S8192x4096 ![0, 1] bcast_S1x4096_S8192x4096_0_1 main_v10
  let main_v12 : FVec F S8192x4096 .f32 := mulf main_v11 main_v6
  let main_cst_1 : FVec F S_ .f32 := constant S_ .f32 0x3F800000#32
  let main_v13 : FVec F S8192x4096 .f32 := broadcastInDim S8192x4096 ![] bcast_S_S8192x4096 main_cst_1
  let main_v14 : FVec F S8192x4096 .f32 := addf main_v13 main_v12
  let main_v15 : FVec F S8192x4096 .f32 := fn_cumsum (F := F) main_v6
  let main_v16 : IVec S8192x4096 1 := cmpf .ogt main_v14 main_v15
  let main_v17 : FVec F S8192x4096 .f32 := uitofp .f32 main_v16
  let main_v18 : FVec F S8192x4096 .f32 := broadcastInDim S8192x4096 ![0, 1] bcast_S1x4096_S8192x4096_0_1 main_v10
  let main_v19 : FVec F S8192x4096 .f32 := mulf main_v17 main_v18
  let main_cst_2 : FVec F S_ .f32 := constant S_ .f32 0xFF800000#32
  fn_part1 (F := F) main_v3 main_v6 main_v17 main_v19 main_cst_2
-- ==== Kernel.lean ====
abbrev S8192x4096 : Shape := ⟨2, ![8192, 4096]⟩
abbrev S3x8x4096 : Shape := ⟨3, ![3, 8, 4096]⟩
abbrev S4112 : Shape := ⟨1, ![4112]⟩
abbrev S256 : Shape := ⟨1, ![256]⟩
abbrev S16 : Shape := ⟨1, ![16]⟩
abbrev S3 : Shape := ⟨1, ![3]⟩
abbrev S1x8x4096 : Shape := ⟨3, ![1, 8, 4096]⟩
abbrev S8x4096 : Shape := ⟨2, ![8, 4096]⟩
abbrev S1 : Shape := ⟨1, ![1]⟩
abbrev S_ : Shape := ⟨0, ![]⟩
abbrev S1x1x16 : Shape := ⟨3, ![1, 1, 16]⟩

abbrev nBuf : Table → Nat
  | .hbm => 2
  | .local .scVector .vmem => 4
  | _ => 0

abbrev bufTy : (tb : Table) → Fin (nBuf tb) → BufTy
  | .hbm, ⟨0, _⟩ => ⟨S8192x4096, .f32⟩
  | .hbm, ⟨1, _⟩ => ⟨S8192x4096, .f32⟩
  | .local .scVector .vmem, ⟨0, _⟩ => ⟨S3x8x4096, .f32⟩
  | .local .scVector .vmem, ⟨1, _⟩ => ⟨S4112, .f32⟩
  | .local .scVector .vmem, ⟨2, _⟩ => ⟨S256, .f32⟩
  | .local .scVector .vmem, ⟨3, _⟩ => ⟨S16, .f32⟩
  | _, _ => ⟨S8192x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v5 : BitVec 32 := Scalar.addi v2 c0_i32
  let c0_i32_5 : BitVec 32 := 0#32
  ![v5.toNat, 0]
def k0_off1_at (r : Fin 4) : BitVec 32 :=
  if r.val < 2 then
    if r.val < 1 then
      0#32
    else
      232#32
  else
    if r.val < 3 then
      240#32
    else
      248#32
@[reducible] def k0_t1_loop : Scf.Loop 32 :=
  let c0_i32_10 : BitVec 32 := 0#32
  let c32_i32 : BitVec 32 := 32#32
  let v14 : BitVec 32 := Scalar.addi c0_i32_10 c32_i32
  let c1_i32 : BitVec 32 := 1#32
  ⟨c0_i32_10, v14, c1_i32⟩
def k0_off2 (k0_t1 : Fin k0_t1_loop.trips) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let c0_i32_38 : BitVec 32 := 0#32
  let c0_i32_39 : BitVec 32 := 0#32
  ![v43.toNat, 0, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_10 : BitVec 32 := 0#32
  let c1_i32 : BitVec 32 := 1#32
  let arg10 : BitVec 32 := Scf.iv c0_i32_10 c1_i32 k0_t1
  let c8_i32 : BitVec 32 := 8#32
  let v46 : BitVec 32 := Scalar.muli arg10 c8_i32
  let v47 : BitVec 32 := Scalar.addi v2 v46
  let c0_i32_40 : BitVec 32 := 0#32
  ![v47.toNat, 0]
def k0_off4 (k0_t1 : Fin k0_t1_loop.trips) : Fin 1 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  ![v43.toNat]
def k0_cond1 (k0_t1 : Fin k0_t1_loop.trips) : BitVec 1 :=
  let c0_i32_10 : BitVec 32 := 0#32
  let c1_i32 : BitVec 32 := 1#32
  let arg10 : BitVec 32 := Scf.iv c0_i32_10 c1_i32 k0_t1
  let c2_i32_44 : BitVec 32 := 2#32
  let v56 : BitVec 1 := Scalar.cmpi .sge arg10 c2_i32_44
  let c1_i32_45 : BitVec 32 := 1#32
  let v57 : BitVec 32 := Scalar.addi arg10 c1_i32_45
  let c32_i32_46 : BitVec 32 := 32#32
  let v58 : BitVec 1 := Scalar.cmpi .slt v57 c32_i32_46
  let v59 : BitVec 1 := Scalar.andi v56 v58
  let v60 : BitVec 32 := Scalar.extui v59
  let c0_i32_47 : BitVec 32 := 0#32
  let v61 : BitVec 1 := Scalar.cmpi .ne v60 c0_i32_47
  v61

def k0_off5 (k0_t1 : Fin k0_t1_loop.trips) : Fin 3 → Nat :=
  let c0_i32_10 : BitVec 32 := 0#32
  let c1_i32 : BitVec 32 := 1#32
  let arg10 : BitVec 32 := Scf.iv c0_i32_10 c1_i32 k0_t1
  let c1_i32_36 : BitVec 32 := 1#32
  let v44 : BitVec 32 := Scalar.addi arg10 c1_i32_36
  let c3_i32_37 : BitVec 32 := 3#32
  let v45 : BitVec 32 := Scalar.remsi v44 c3_i32_37
  let c0_i32_66 : BitVec 32 := 0#32
  let c0_i32_67 : BitVec 32 := 0#32
  ![v45.toNat, 0, 0]
def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_10 : BitVec 32 := 0#32
  let c1_i32 : BitVec 32 := 1#32
  let arg10 : BitVec 32 := Scf.iv c0_i32_10 c1_i32 k0_t1
  let c2_i32_64 : BitVec 32 := 2#32
  let v78 : BitVec 32 := Scalar.subi arg10 c2_i32_64
  let c8_i32_65 : BitVec 32 := 8#32
  let v79 : BitVec 32 := Scalar.muli v78 c8_i32_65
  let v80 : BitVec 32 := Scalar.addi v2 v79
  let c0_i32_68 : BitVec 32 := 0#32
  ![v80.toNat, 0]
def k0_off7 (k0_t1 : Fin k0_t1_loop.trips) : Fin 1 → Nat :=
  let c0_i32_10 : BitVec 32 := 0#32
  let c1_i32 : BitVec 32 := 1#32
  let arg10 : BitVec 32 := Scf.iv c0_i32_10 c1_i32 k0_t1
  let c1_i32_36 : BitVec 32 := 1#32
  let v44 : BitVec 32 := Scalar.addi arg10 c1_i32_36
  let c3_i32_37 : BitVec 32 := 3#32
  let v45 : BitVec 32 := Scalar.remsi v44 c3_i32_37
  ![v45.toNat]
def k0_cond2 (k0_t1 : Fin k0_t1_loop.trips) : BitVec 1 :=
  let c0_i32_10 : BitVec 32 := 0#32
  let c1_i32 : BitVec 32 := 1#32
  let arg10 : BitVec 32 := Scf.iv c0_i32_10 c1_i32 k0_t1
  let c1_i32_48 : BitVec 32 := 1#32
  let v62 : BitVec 32 := Scalar.addi arg10 c1_i32_48
  let c32_i32_49 : BitVec 32 := 32#32
  let v63 : BitVec 1 := Scalar.cmpi .slt v62 c32_i32_49
  let v64 : BitVec 32 := Scalar.extui v63
  let c0_i32_50 : BitVec 32 := 0#32
  let v65 : BitVec 1 := Scalar.cmpi .ne v64 c0_i32_50
  v65

def k0_off8 (k0_t1 : Fin k0_t1_loop.trips) : Fin 3 → Nat :=
  let c0_i32_10 : BitVec 32 := 0#32
  let c1_i32 : BitVec 32 := 1#32
  let arg10 : BitVec 32 := Scf.iv c0_i32_10 c1_i32 k0_t1
  let c1_i32_36 : BitVec 32 := 1#32
  let v44 : BitVec 32 := Scalar.addi arg10 c1_i32_36
  let c3_i32_37 : BitVec 32 := 3#32
  let v45 : BitVec 32 := Scalar.remsi v44 c3_i32_37
  let c0_i32_66 : BitVec 32 := 0#32
  let c0_i32_67 : BitVec 32 := 0#32
  ![v45.toNat, 0, 0]
def k0_off9 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_10 : BitVec 32 := 0#32
  let c1_i32 : BitVec 32 := 1#32
  let arg10 : BitVec 32 := Scf.iv c0_i32_10 c1_i32 k0_t1
  let c1_i32_64 : BitVec 32 := 1#32
  let v78 : BitVec 32 := Scalar.addi arg10 c1_i32_64
  let c8_i32_65 : BitVec 32 := 8#32
  let v79 : BitVec 32 := Scalar.muli v78 c8_i32_65
  let v80 : BitVec 32 := Scalar.addi v2 v79
  let c0_i32_68 : BitVec 32 := 0#32
  ![v80.toNat, 0]
def k0_off10 (k0_t1 : Fin k0_t1_loop.trips) : Fin 1 → Nat :=
  let c0_i32_10 : BitVec 32 := 0#32
  let c1_i32 : BitVec 32 := 1#32
  let arg10 : BitVec 32 := Scf.iv c0_i32_10 c1_i32 k0_t1
  let c1_i32_36 : BitVec 32 := 1#32
  let v44 : BitVec 32 := Scalar.addi arg10 c1_i32_36
  let c3_i32_37 : BitVec 32 := 3#32
  let v45 : BitVec 32 := Scalar.remsi v44 c3_i32_37
  ![v45.toNat]
@[reducible] def k0_t2_loop : Scf.Loop 32 :=
  let c0_i32_52 : BitVec 32 := 0#32
  let c8_i32_53 : BitVec 32 := 8#32
  let v66 : BitVec 32 := Scalar.addi c0_i32_52 c8_i32_53
  let c1_i32_54 : BitVec 32 := 1#32
  ⟨c0_i32_52, v66, c1_i32_54⟩
def k0_off11 (k0_t1 : Fin k0_t1_loop.trips) (k0_t2 : Fin k0_t2_loop.trips) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v78 : Index := Scalar.indexCast v43
  let c0_i32_52 : BitVec 32 := 0#32
  let c1_i32_54 : BitVec 32 := 1#32
  let arg12 : BitVec 32 := Scf.iv c0_i32_52 c1_i32_54 k0_t2
  let v79 : Index := Scalar.indexCast arg12
  let c0 : Index := 0#32
  ![v78.toNat, v79.toNat, 0]
@[reducible] def k0_t3_loop : Scf.Loop 32 :=
  let c0_i32_64 : BitVec 32 := 0#32
  let c16_i32 : BitVec 32 := 16#32
  let v81 : BitVec 32 := Scalar.addi c0_i32_64 c16_i32
  let c1_i32_65 : BitVec 32 := 1#32
  ⟨c0_i32_64, v81, c1_i32_65⟩
def k0_off12 (k0_t1 : Fin k0_t1_loop.trips) (k0_t2 : Fin k0_t2_loop.trips) (k0_t3 : Fin k0_t3_loop.trips) (c0_i32_174 : BitVec 32) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v344 : Index := Scalar.indexCast v43
  let c0_i32_52 : BitVec 32 := 0#32
  let c1_i32_54 : BitVec 32 := 1#32
  let arg12 : BitVec 32 := Scf.iv c0_i32_52 c1_i32_54 k0_t2
  let v345 : Index := Scalar.indexCast arg12
  let c0_i32_64 : BitVec 32 := 0#32
  let c1_i32_65 : BitVec 32 := 1#32
  let arg14 : BitVec 32 := Scf.iv c0_i32_64 c1_i32_65 k0_t3
  let c16_i32_173 : BitVec 32 := 16#32
  let v341 : BitVec 32 := Scalar.muli arg14 c16_i32_173
  let v342 : BitVec 32 := Scalar.addi v341 c0_i32_174
  let c16_i32_175 : BitVec 32 := 16#32
  let v343 : BitVec 32 := Scalar.muli v342 c16_i32_175
  let v346 : Index := Scalar.indexCast v343
  ![v344.toNat, v345.toNat, v346.toNat]
@[reducible] def k0_t4_loop : Scf.Loop 32 :=
  let c1_i32_185 : BitVec 32 := 1#32
  let c3_i32_186 : BitVec 32 := 3#32
  let v369 : BitVec 32 := Scalar.addi c1_i32_185 c3_i32_186
  let c1_i32_187 : BitVec 32 := 1#32
  ⟨c1_i32_185, v369, c1_i32_187⟩
def k0_off13 (k0_t1 : Fin k0_t1_loop.trips) (k0_t2 : Fin k0_t2_loop.trips) (k0_t3 : Fin k0_t3_loop.trips) (k0_t4 : Fin k0_t4_loop.trips) (c0_i32_192 : BitVec 32) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v383 : Index := Scalar.indexCast v43
  let c0_i32_52 : BitVec 32 := 0#32
  let c1_i32_54 : BitVec 32 := 1#32
  let arg12 : BitVec 32 := Scf.iv c0_i32_52 c1_i32_54 k0_t2
  let v384 : Index := Scalar.indexCast arg12
  let c0_i32_64 : BitVec 32 := 0#32
  let c1_i32_65 : BitVec 32 := 1#32
  let arg14 : BitVec 32 := Scf.iv c0_i32_64 c1_i32_65 k0_t3
  let c16_i32_190 : BitVec 32 := 16#32
  let v378 : BitVec 32 := Scalar.muli arg14 c16_i32_190
  let c1_i32_185 : BitVec 32 := 1#32
  let c1_i32_187 : BitVec 32 := 1#32
  let arg16 : BitVec 32 := Scf.iv c1_i32_185 c1_i32_187 k0_t4
  let c4_i32_191 : BitVec 32 := 4#32
  let v379 : BitVec 32 := Scalar.muli arg16 c4_i32_191
  let v380 : BitVec 32 := Scalar.addi v378 v379
  let v381 : BitVec 32 := Scalar.addi v380 c0_i32_192
  let c16_i32_193 : BitVec 32 := 16#32
  let v382 : BitVec 32 := Scalar.muli v381 c16_i32_193
  let v385 : Index := Scalar.indexCast v382
  ![v383.toNat, v384.toNat, v385.toNat]
def k0_off14 (k0_t3 : Fin k0_t3_loop.trips) : Fin 1 → Nat :=
  let c0_i32_64 : BitVec 32 := 0#32
  let c1_i32_65 : BitVec 32 := 1#32
  let arg14 : BitVec 32 := Scf.iv c0_i32_64 c1_i32_65 k0_t3
  let c16_i32_189 : BitVec 32 := 16#32
  let v374 : BitVec 32 := Scalar.muli arg14 c16_i32_189
  let v375 : Index := Scalar.indexCast v374
  ![v375.toNat]

def k0_chk1 (v85 : IVec S16 32) : Prop :=
  (∀ a x, ((![v85] : Fin 1 → IVec S16 32) a x).toNat < S16.size a)
theorem k0_idx1_inb : ∀ (v85 : IVec S16 32) (k0_hw1 : k0_chk1 v85), ∀ a x, ((![v85] : Fin 1 → IVec S16 32) a x).toNat < S16.size a := fun v85 k0_hw1 => k0_hw1

def k0_chk2 (v90 : IVec S16 32) : Prop :=
  (∀ a x, ((![v90] : Fin 1 → IVec S16 32) a x).toNat < S16.size a)
theorem k0_idx2_inb : ∀ (v90 : IVec S16 32) (k0_hw2 : k0_chk2 v90), ∀ a x, ((![v90] : Fin 1 → IVec S16 32) a x).toNat < S16.size a := fun v90 k0_hw2 => k0_hw2

def k0_chk3 (v95 : IVec S16 32) : Prop :=
  (∀ a x, ((![v95] : Fin 1 → IVec S16 32) a x).toNat < S16.size a)
theorem k0_idx3_inb : ∀ (v95 : IVec S16 32) (k0_hw3 : k0_chk3 v95), ∀ a x, ((![v95] : Fin 1 → IVec S16 32) a x).toNat < S16.size a := fun v95 k0_hw3 => k0_hw3

def k0_chk4 (v100 : IVec S16 32) : Prop :=
  (∀ a x, ((![v100] : Fin 1 → IVec S16 32) a x).toNat < S16.size a)
theorem k0_idx4_inb : ∀ (v100 : IVec S16 32) (k0_hw4 : k0_chk4 v100), ∀ a x, ((![v100] : Fin 1 → IVec S16 32) a x).toNat < S16.size a := fun v100 k0_hw4 => k0_hw4
@[reducible] def k0_t5_loop : Scf.Loop 32 :=
  let c0_i32_173 : BitVec 32 := 0#32
  let c16_i32_174 : BitVec 32 := 16#32
  let v341 : BitVec 32 := Scalar.addi c0_i32_173 c16_i32_174
  let c1_i32_175 : BitVec 32 := 1#32
  ⟨c0_i32_173, v341, c1_i32_175⟩
def k0_off15 (k0_t1 : Fin k0_t1_loop.trips) (k0_t2 : Fin k0_t2_loop.trips) (k0_t5 : Fin k0_t5_loop.trips) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v345 : Index := Scalar.indexCast v43
  let c0_i32_52 : BitVec 32 := 0#32
  let c1_i32_54 : BitVec 32 := 1#32
  let arg12 : BitVec 32 := Scf.iv c0_i32_52 c1_i32_54 k0_t2
  let v346 : Index := Scalar.indexCast arg12
  let c0_i32_177 : BitVec 32 := 0#32
  let c0_i32_173 : BitVec 32 := 0#32
  let c1_i32_175 : BitVec 32 := 1#32
  let arg14 : BitVec 32 := Scf.iv c0_i32_173 c1_i32_175 k0_t5
  let v343 : BitVec 32 := Scalar.addi c0_i32_177 arg14
  let c16_i32_178 : BitVec 32 := 16#32
  let v344 : BitVec 32 := Scalar.muli v343 c16_i32_178
  let v347 : Index := Scalar.indexCast v344
  ![v345.toNat, v346.toNat, v347.toNat]
def k0_cond3 (v113 : BitVec 32) : BitVec 1 :=
  let c0_i32_77 : BitVec 32 := 0#32
  let v114 : BitVec 1 := Scalar.cmpi .sgt v113 c0_i32_77
  let v115 : BitVec 32 := Scalar.extui v114
  let c0_i32_79 : BitVec 32 := 0#32
  let v116 : BitVec 1 := Scalar.cmpi .ne v115 c0_i32_79
  v116

def k0_chk5 (v113 : BitVec 32) (v357 : IVec S16 32) : Prop :=
  (∀ (k0_h3 : k0_cond3 v113 = 1#1), ∀ a x, ((![v357] : Fin 1 → IVec S16 32) a x).toNat < S4112.size a)
theorem k0_idx5_inb : ∀ (v113 : BitVec 32) (v357 : IVec S16 32) (k0_hw5 : k0_chk5 v113 v357), ∀ (k0_h3 : k0_cond3 v113 = 1#1), ∀ a x, ((![v357] : Fin 1 → IVec S16 32) a x).toNat < S4112.size a := fun v113 v357 k0_hw5 k0_h3 => k0_hw5 k0_h3
@[reducible] def k0_t6_loop : Scf.Loop 32 :=
  let c0_i32_173 : BitVec 32 := 0#32
  let c16_i32_174 : BitVec 32 := 16#32
  let v341 : BitVec 32 := Scalar.addi c0_i32_173 c16_i32_174
  let c1_i32_175 : BitVec 32 := 1#32
  ⟨c0_i32_173, v341, c1_i32_175⟩
def k0_off16 (k0_t1 : Fin k0_t1_loop.trips) (k0_t2 : Fin k0_t2_loop.trips) (k0_t6 : Fin k0_t6_loop.trips) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v345 : Index := Scalar.indexCast v43
  let c0_i32_52 : BitVec 32 := 0#32
  let c1_i32_54 : BitVec 32 := 1#32
  let arg12 : BitVec 32 := Scf.iv c0_i32_52 c1_i32_54 k0_t2
  let v346 : Index := Scalar.indexCast arg12
  let c16_i32_177 : BitVec 32 := 16#32
  let c0_i32_173 : BitVec 32 := 0#32
  let c1_i32_175 : BitVec 32 := 1#32
  let arg14 : BitVec 32 := Scf.iv c0_i32_173 c1_i32_175 k0_t6
  let v343 : BitVec 32 := Scalar.addi c16_i32_177 arg14
  let c16_i32_178 : BitVec 32 := 16#32
  let v344 : BitVec 32 := Scalar.muli v343 c16_i32_178
  let v347 : Index := Scalar.indexCast v344
  ![v345.toNat, v346.toNat, v347.toNat]
def k0_cond4 (v126 : BitVec 32) : BitVec 1 :=
  let c0_i32_83 : BitVec 32 := 0#32
  let v127 : BitVec 1 := Scalar.cmpi .sgt v126 c0_i32_83
  let v128 : BitVec 32 := Scalar.extui v127
  let c0_i32_84 : BitVec 32 := 0#32
  let v129 : BitVec 1 := Scalar.cmpi .ne v128 c0_i32_84
  v129

def k0_chk6 (v126 : BitVec 32) (v357 : IVec S16 32) : Prop :=
  (∀ (k0_h4 : k0_cond4 v126 = 1#1), ∀ a x, ((![v357] : Fin 1 → IVec S16 32) a x).toNat < S4112.size a)
theorem k0_idx6_inb : ∀ (v126 : BitVec 32) (v357 : IVec S16 32) (k0_hw6 : k0_chk6 v126 v357), ∀ (k0_h4 : k0_cond4 v126 = 1#1), ∀ a x, ((![v357] : Fin 1 → IVec S16 32) a x).toNat < S4112.size a := fun v126 v357 k0_hw6 k0_h4 => k0_hw6 k0_h4
@[reducible] def k0_t7_loop : Scf.Loop 32 :=
  let c0_i32_173 : BitVec 32 := 0#32
  let c16_i32_174 : BitVec 32 := 16#32
  let v341 : BitVec 32 := Scalar.addi c0_i32_173 c16_i32_174
  let c1_i32_175 : BitVec 32 := 1#32
  ⟨c0_i32_173, v341, c1_i32_175⟩
def k0_off17 (k0_t1 : Fin k0_t1_loop.trips) (k0_t2 : Fin k0_t2_loop.trips) (k0_t7 : Fin k0_t7_loop.trips) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v345 : Index := Scalar.indexCast v43
  let c0_i32_52 : BitVec 32 := 0#32
  let c1_i32_54 : BitVec 32 := 1#32
  let arg12 : BitVec 32 := Scf.iv c0_i32_52 c1_i32_54 k0_t2
  let v346 : Index := Scalar.indexCast arg12
  let c32_i32_177 : BitVec 32 := 32#32
  let c0_i32_173 : BitVec 32 := 0#32
  let c1_i32_175 : BitVec 32 := 1#32
  let arg14 : BitVec 32 := Scf.iv c0_i32_173 c1_i32_175 k0_t7
  let v343 : BitVec 32 := Scalar.addi c32_i32_177 arg14
  let c16_i32_178 : BitVec 32 := 16#32
  let v344 : BitVec 32 := Scalar.muli v343 c16_i32_178
  let v347 : Index := Scalar.indexCast v344
  ![v345.toNat, v346.toNat, v347.toNat]
def k0_cond5 (v139 : BitVec 32) : BitVec 1 :=
  let c0_i32_88 : BitVec 32 := 0#32
  let v140 : BitVec 1 := Scalar.cmpi .sgt v139 c0_i32_88
  let v141 : BitVec 32 := Scalar.extui v140
  let c0_i32_89 : BitVec 32 := 0#32
  let v142 : BitVec 1 := Scalar.cmpi .ne v141 c0_i32_89
  v142

def k0_chk7 (v139 : BitVec 32) (v357 : IVec S16 32) : Prop :=
  (∀ (k0_h5 : k0_cond5 v139 = 1#1), ∀ a x, ((![v357] : Fin 1 → IVec S16 32) a x).toNat < S4112.size a)
theorem k0_idx7_inb : ∀ (v139 : BitVec 32) (v357 : IVec S16 32) (k0_hw7 : k0_chk7 v139 v357), ∀ (k0_h5 : k0_cond5 v139 = 1#1), ∀ a x, ((![v357] : Fin 1 → IVec S16 32) a x).toNat < S4112.size a := fun v139 v357 k0_hw7 k0_h5 => k0_hw7 k0_h5
@[reducible] def k0_t8_loop : Scf.Loop 32 :=
  let c0_i32_173 : BitVec 32 := 0#32
  let c16_i32_174 : BitVec 32 := 16#32
  let v341 : BitVec 32 := Scalar.addi c0_i32_173 c16_i32_174
  let c1_i32_175 : BitVec 32 := 1#32
  ⟨c0_i32_173, v341, c1_i32_175⟩
def k0_off18 (k0_t1 : Fin k0_t1_loop.trips) (k0_t2 : Fin k0_t2_loop.trips) (k0_t8 : Fin k0_t8_loop.trips) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v345 : Index := Scalar.indexCast v43
  let c0_i32_52 : BitVec 32 := 0#32
  let c1_i32_54 : BitVec 32 := 1#32
  let arg12 : BitVec 32 := Scf.iv c0_i32_52 c1_i32_54 k0_t2
  let v346 : Index := Scalar.indexCast arg12
  let c48_i32 : BitVec 32 := 48#32
  let c0_i32_173 : BitVec 32 := 0#32
  let c1_i32_175 : BitVec 32 := 1#32
  let arg14 : BitVec 32 := Scf.iv c0_i32_173 c1_i32_175 k0_t8
  let v343 : BitVec 32 := Scalar.addi c48_i32 arg14
  let c16_i32_177 : BitVec 32 := 16#32
  let v344 : BitVec 32 := Scalar.muli v343 c16_i32_177
  let v347 : Index := Scalar.indexCast v344
  ![v345.toNat, v346.toNat, v347.toNat]
def k0_cond6 (v152 : BitVec 32) : BitVec 1 :=
  let c0_i32_93 : BitVec 32 := 0#32
  let v153 : BitVec 1 := Scalar.cmpi .sgt v152 c0_i32_93
  let v154 : BitVec 32 := Scalar.extui v153
  let c0_i32_94 : BitVec 32 := 0#32
  let v155 : BitVec 1 := Scalar.cmpi .ne v154 c0_i32_94
  v155

def k0_chk8 (v152 : BitVec 32) (v357 : IVec S16 32) : Prop :=
  (∀ (k0_h6 : k0_cond6 v152 = 1#1), ∀ a x, ((![v357] : Fin 1 → IVec S16 32) a x).toNat < S4112.size a)
theorem k0_idx8_inb : ∀ (v152 : BitVec 32) (v357 : IVec S16 32) (k0_hw8 : k0_chk8 v152 v357), ∀ (k0_h6 : k0_cond6 v152 = 1#1), ∀ a x, ((![v357] : Fin 1 → IVec S16 32) a x).toNat < S4112.size a := fun v152 v357 k0_hw8 k0_h6 => k0_hw8 k0_h6
@[reducible] def k0_t9_loop : Scf.Loop 32 :=
  let c0_i32_173 : BitVec 32 := 0#32
  let c16_i32_174 : BitVec 32 := 16#32
  let v341 : BitVec 32 := Scalar.addi c0_i32_173 c16_i32_174
  let c1_i32_175 : BitVec 32 := 1#32
  ⟨c0_i32_173, v341, c1_i32_175⟩
def k0_off19 (k0_t1 : Fin k0_t1_loop.trips) (k0_t2 : Fin k0_t2_loop.trips) (k0_t9 : Fin k0_t9_loop.trips) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v345 : Index := Scalar.indexCast v43
  let c0_i32_52 : BitVec 32 := 0#32
  let c1_i32_54 : BitVec 32 := 1#32
  let arg12 : BitVec 32 := Scf.iv c0_i32_52 c1_i32_54 k0_t2
  let v346 : Index := Scalar.indexCast arg12
  let c64_i32 : BitVec 32 := 64#32
  let c0_i32_173 : BitVec 32 := 0#32
  let c1_i32_175 : BitVec 32 := 1#32
  let arg14 : BitVec 32 := Scf.iv c0_i32_173 c1_i32_175 k0_t9
  let v343 : BitVec 32 := Scalar.addi c64_i32 arg14
  let c16_i32_177 : BitVec 32 := 16#32
  let v344 : BitVec 32 := Scalar.muli v343 c16_i32_177
  let v347 : Index := Scalar.indexCast v344
  ![v345.toNat, v346.toNat, v347.toNat]
def k0_cond7 (v165 : BitVec 32) : BitVec 1 :=
  let c0_i32_98 : BitVec 32 := 0#32
  let v166 : BitVec 1 := Scalar.cmpi .sgt v165 c0_i32_98
  let v167 : BitVec 32 := Scalar.extui v166
  let c0_i32_99 : BitVec 32 := 0#32
  let v168 : BitVec 1 := Scalar.cmpi .ne v167 c0_i32_99
  v168

def k0_chk9 (v165 : BitVec 32) (v357 : IVec S16 32) : Prop :=
  (∀ (k0_h7 : k0_cond7 v165 = 1#1), ∀ a x, ((![v357] : Fin 1 → IVec S16 32) a x).toNat < S4112.size a)
theorem k0_idx9_inb : ∀ (v165 : BitVec 32) (v357 : IVec S16 32) (k0_hw9 : k0_chk9 v165 v357), ∀ (k0_h7 : k0_cond7 v165 = 1#1), ∀ a x, ((![v357] : Fin 1 → IVec S16 32) a x).toNat < S4112.size a := fun v165 v357 k0_hw9 k0_h7 => k0_hw9 k0_h7
@[reducible] def k0_t10_loop : Scf.Loop 32 :=
  let c0_i32_173 : BitVec 32 := 0#32
  let c16_i32_174 : BitVec 32 := 16#32
  let v341 : BitVec 32 := Scalar.addi c0_i32_173 c16_i32_174
  let c1_i32_175 : BitVec 32 := 1#32
  ⟨c0_i32_173, v341, c1_i32_175⟩
def k0_off20 (k0_t1 : Fin k0_t1_loop.trips) (k0_t2 : Fin k0_t2_loop.trips) (k0_t10 : Fin k0_t10_loop.trips) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v345 : Index := Scalar.indexCast v43
  let c0_i32_52 : BitVec 32 := 0#32
  let c1_i32_54 : BitVec 32 := 1#32
  let arg12 : BitVec 32 := Scf.iv c0_i32_52 c1_i32_54 k0_t2
  let v346 : Index := Scalar.indexCast arg12
  let c80_i32 : BitVec 32 := 80#32
  let c0_i32_173 : BitVec 32 := 0#32
  let c1_i32_175 : BitVec 32 := 1#32
  let arg14 : BitVec 32 := Scf.iv c0_i32_173 c1_i32_175 k0_t10
  let v343 : BitVec 32 := Scalar.addi c80_i32 arg14
  let c16_i32_177 : BitVec 32 := 16#32
  let v344 : BitVec 32 := Scalar.muli v343 c16_i32_177
  let v347 : Index := Scalar.indexCast v344
  ![v345.toNat, v346.toNat, v347.toNat]
def k0_cond8 (v178 : BitVec 32) : BitVec 1 :=
  let c0_i32_103 : BitVec 32 := 0#32
  let v179 : BitVec 1 := Scalar.cmpi .sgt v178 c0_i32_103
  let v180 : BitVec 32 := Scalar.extui v179
  let c0_i32_104 : BitVec 32 := 0#32
  let v181 : BitVec 1 := Scalar.cmpi .ne v180 c0_i32_104
  v181

def k0_chk10 (v178 : BitVec 32) (v357 : IVec S16 32) : Prop :=
  (∀ (k0_h8 : k0_cond8 v178 = 1#1), ∀ a x, ((![v357] : Fin 1 → IVec S16 32) a x).toNat < S4112.size a)
theorem k0_idx10_inb : ∀ (v178 : BitVec 32) (v357 : IVec S16 32) (k0_hw10 : k0_chk10 v178 v357), ∀ (k0_h8 : k0_cond8 v178 = 1#1), ∀ a x, ((![v357] : Fin 1 → IVec S16 32) a x).toNat < S4112.size a := fun v178 v357 k0_hw10 k0_h8 => k0_hw10 k0_h8
@[reducible] def k0_t11_loop : Scf.Loop 32 :=
  let c0_i32_173 : BitVec 32 := 0#32
  let c16_i32_174 : BitVec 32 := 16#32
  let v341 : BitVec 32 := Scalar.addi c0_i32_173 c16_i32_174
  let c1_i32_175 : BitVec 32 := 1#32
  ⟨c0_i32_173, v341, c1_i32_175⟩
def k0_off21 (k0_t1 : Fin k0_t1_loop.trips) (k0_t2 : Fin k0_t2_loop.trips) (k0_t11 : Fin k0_t11_loop.trips) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v345 : Index := Scalar.indexCast v43
  let c0_i32_52 : BitVec 32 := 0#32
  let c1_i32_54 : BitVec 32 := 1#32
  let arg12 : BitVec 32 := Scf.iv c0_i32_52 c1_i32_54 k0_t2
  let v346 : Index := Scalar.indexCast arg12
  let c96_i32 : BitVec 32 := 96#32
  let c0_i32_173 : BitVec 32 := 0#32
  let c1_i32_175 : BitVec 32 := 1#32
  let arg14 : BitVec 32 := Scf.iv c0_i32_173 c1_i32_175 k0_t11
  let v343 : BitVec 32 := Scalar.addi c96_i32 arg14
  let c16_i32_177 : BitVec 32 := 16#32
  let v344 : BitVec 32 := Scalar.muli v343 c16_i32_177
  let v347 : Index := Scalar.indexCast v344
  ![v345.toNat, v346.toNat, v347.toNat]
def k0_cond9 (v191 : BitVec 32) : BitVec 1 :=
  let c0_i32_108 : BitVec 32 := 0#32
  let v192 : BitVec 1 := Scalar.cmpi .sgt v191 c0_i32_108
  let v193 : BitVec 32 := Scalar.extui v192
  let c0_i32_109 : BitVec 32 := 0#32
  let v194 : BitVec 1 := Scalar.cmpi .ne v193 c0_i32_109
  v194

def k0_chk11 (v191 : BitVec 32) (v357 : IVec S16 32) : Prop :=
  (∀ (k0_h9 : k0_cond9 v191 = 1#1), ∀ a x, ((![v357] : Fin 1 → IVec S16 32) a x).toNat < S4112.size a)
theorem k0_idx11_inb : ∀ (v191 : BitVec 32) (v357 : IVec S16 32) (k0_hw11 : k0_chk11 v191 v357), ∀ (k0_h9 : k0_cond9 v191 = 1#1), ∀ a x, ((![v357] : Fin 1 → IVec S16 32) a x).toNat < S4112.size a := fun v191 v357 k0_hw11 k0_h9 => k0_hw11 k0_h9
@[reducible] def k0_t12_loop : Scf.Loop 32 :=
  let c0_i32_173 : BitVec 32 := 0#32
  let c16_i32_174 : BitVec 32 := 16#32
  let v341 : BitVec 32 := Scalar.addi c0_i32_173 c16_i32_174
  let c1_i32_175 : BitVec 32 := 1#32
  ⟨c0_i32_173, v341, c1_i32_175⟩
def k0_off22 (k0_t1 : Fin k0_t1_loop.trips) (k0_t2 : Fin k0_t2_loop.trips) (k0_t12 : Fin k0_t12_loop.trips) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v345 : Index := Scalar.indexCast v43
  let c0_i32_52 : BitVec 32 := 0#32
  let c1_i32_54 : BitVec 32 := 1#32
  let arg12 : BitVec 32 := Scf.iv c0_i32_52 c1_i32_54 k0_t2
  let v346 : Index := Scalar.indexCast arg12
  let c112_i32 : BitVec 32 := 112#32
  let c0_i32_173 : BitVec 32 := 0#32
  let c1_i32_175 : BitVec 32 := 1#32
  let arg14 : BitVec 32 := Scf.iv c0_i32_173 c1_i32_175 k0_t12
  let v343 : BitVec 32 := Scalar.addi c112_i32 arg14
  let c16_i32_177 : BitVec 32 := 16#32
  let v344 : BitVec 32 := Scalar.muli v343 c16_i32_177
  let v347 : Index := Scalar.indexCast v344
  ![v345.toNat, v346.toNat, v347.toNat]
def k0_cond10 (v204 : BitVec 32) : BitVec 1 :=
  let c0_i32_113 : BitVec 32 := 0#32
  let v205 : BitVec 1 := Scalar.cmpi .sgt v204 c0_i32_113
  let v206 : BitVec 32 := Scalar.extui v205
  let c0_i32_114 : BitVec 32 := 0#32
  let v207 : BitVec 1 := Scalar.cmpi .ne v206 c0_i32_114
  v207

def k0_chk12 (v204 : BitVec 32) (v357 : IVec S16 32) : Prop :=
  (∀ (k0_h10 : k0_cond10 v204 = 1#1), ∀ a x, ((![v357] : Fin 1 → IVec S16 32) a x).toNat < S4112.size a)
theorem k0_idx12_inb : ∀ (v204 : BitVec 32) (v357 : IVec S16 32) (k0_hw12 : k0_chk12 v204 v357), ∀ (k0_h10 : k0_cond10 v204 = 1#1), ∀ a x, ((![v357] : Fin 1 → IVec S16 32) a x).toNat < S4112.size a := fun v204 v357 k0_hw12 k0_h10 => k0_hw12 k0_h10
@[reducible] def k0_t13_loop : Scf.Loop 32 :=
  let c0_i32_173 : BitVec 32 := 0#32
  let c16_i32_174 : BitVec 32 := 16#32
  let v341 : BitVec 32 := Scalar.addi c0_i32_173 c16_i32_174
  let c1_i32_175 : BitVec 32 := 1#32
  ⟨c0_i32_173, v341, c1_i32_175⟩
def k0_off23 (k0_t1 : Fin k0_t1_loop.trips) (k0_t2 : Fin k0_t2_loop.trips) (k0_t13 : Fin k0_t13_loop.trips) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v345 : Index := Scalar.indexCast v43
  let c0_i32_52 : BitVec 32 := 0#32
  let c1_i32_54 : BitVec 32 := 1#32
  let arg12 : BitVec 32 := Scf.iv c0_i32_52 c1_i32_54 k0_t2
  let v346 : Index := Scalar.indexCast arg12
  let c128_i32 : BitVec 32 := 128#32
  let c0_i32_173 : BitVec 32 := 0#32
  let c1_i32_175 : BitVec 32 := 1#32
  let arg14 : BitVec 32 := Scf.iv c0_i32_173 c1_i32_175 k0_t13
  let v343 : BitVec 32 := Scalar.addi c128_i32 arg14
  let c16_i32_177 : BitVec 32 := 16#32
  let v344 : BitVec 32 := Scalar.muli v343 c16_i32_177
  let v347 : Index := Scalar.indexCast v344
  ![v345.toNat, v346.toNat, v347.toNat]
def k0_cond11 (v217 : BitVec 32) : BitVec 1 :=
  let c0_i32_118 : BitVec 32 := 0#32
  let v218 : BitVec 1 := Scalar.cmpi .sgt v217 c0_i32_118
  let v219 : BitVec 32 := Scalar.extui v218
  let c0_i32_119 : BitVec 32 := 0#32
  let v220 : BitVec 1 := Scalar.cmpi .ne v219 c0_i32_119
  v220

def k0_chk13 (v217 : BitVec 32) (v357 : IVec S16 32) : Prop :=
  (∀ (k0_h11 : k0_cond11 v217 = 1#1), ∀ a x, ((![v357] : Fin 1 → IVec S16 32) a x).toNat < S4112.size a)
theorem k0_idx13_inb : ∀ (v217 : BitVec 32) (v357 : IVec S16 32) (k0_hw13 : k0_chk13 v217 v357), ∀ (k0_h11 : k0_cond11 v217 = 1#1), ∀ a x, ((![v357] : Fin 1 → IVec S16 32) a x).toNat < S4112.size a := fun v217 v357 k0_hw13 k0_h11 => k0_hw13 k0_h11
@[reducible] def k0_t14_loop : Scf.Loop 32 :=
  let c0_i32_173 : BitVec 32 := 0#32
  let c16_i32_174 : BitVec 32 := 16#32
  let v341 : BitVec 32 := Scalar.addi c0_i32_173 c16_i32_174
  let c1_i32_175 : BitVec 32 := 1#32
  ⟨c0_i32_173, v341, c1_i32_175⟩
def k0_off24 (k0_t1 : Fin k0_t1_loop.trips) (k0_t2 : Fin k0_t2_loop.trips) (k0_t14 : Fin k0_t14_loop.trips) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v345 : Index := Scalar.indexCast v43
  let c0_i32_52 : BitVec 32 := 0#32
  let c1_i32_54 : BitVec 32 := 1#32
  let arg12 : BitVec 32 := Scf.iv c0_i32_52 c1_i32_54 k0_t2
  let v346 : Index := Scalar.indexCast arg12
  let c144_i32 : BitVec 32 := 144#32
  let c0_i32_173 : BitVec 32 := 0#32
  let c1_i32_175 : BitVec 32 := 1#32
  let arg14 : BitVec 32 := Scf.iv c0_i32_173 c1_i32_175 k0_t14
  let v343 : BitVec 32 := Scalar.addi c144_i32 arg14
  let c16_i32_177 : BitVec 32 := 16#32
  let v344 : BitVec 32 := Scalar.muli v343 c16_i32_177
  let v347 : Index := Scalar.indexCast v344
  ![v345.toNat, v346.toNat, v347.toNat]
def k0_cond12 (v230 : BitVec 32) : BitVec 1 :=
  let c0_i32_123 : BitVec 32 := 0#32
  let v231 : BitVec 1 := Scalar.cmpi .sgt v230 c0_i32_123
  let v232 : BitVec 32 := Scalar.extui v231
  let c0_i32_124 : BitVec 32 := 0#32
  let v233 : BitVec 1 := Scalar.cmpi .ne v232 c0_i32_124
  v233

def k0_chk14 (v230 : BitVec 32) (v357 : IVec S16 32) : Prop :=
  (∀ (k0_h12 : k0_cond12 v230 = 1#1), ∀ a x, ((![v357] : Fin 1 → IVec S16 32) a x).toNat < S4112.size a)
theorem k0_idx14_inb : ∀ (v230 : BitVec 32) (v357 : IVec S16 32) (k0_hw14 : k0_chk14 v230 v357), ∀ (k0_h12 : k0_cond12 v230 = 1#1), ∀ a x, ((![v357] : Fin 1 → IVec S16 32) a x).toNat < S4112.size a := fun v230 v357 k0_hw14 k0_h12 => k0_hw14 k0_h12
@[reducible] def k0_t15_loop : Scf.Loop 32 :=
  let c0_i32_173 : BitVec 32 := 0#32
  let c16_i32_174 : BitVec 32 := 16#32
  let v341 : BitVec 32 := Scalar.addi c0_i32_173 c16_i32_174
  let c1_i32_175 : BitVec 32 := 1#32
  ⟨c0_i32_173, v341, c1_i32_175⟩
def k0_off25 (k0_t1 : Fin k0_t1_loop.trips) (k0_t2 : Fin k0_t2_loop.trips) (k0_t15 : Fin k0_t15_loop.trips) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v345 : Index := Scalar.indexCast v43
  let c0_i32_52 : BitVec 32 := 0#32
  let c1_i32_54 : BitVec 32 := 1#32
  let arg12 : BitVec 32 := Scf.iv c0_i32_52 c1_i32_54 k0_t2
  let v346 : Index := Scalar.indexCast arg12
  let c160_i32 : BitVec 32 := 160#32
  let c0_i32_173 : BitVec 32 := 0#32
  let c1_i32_175 : BitVec 32 := 1#32
  let arg14 : BitVec 32 := Scf.iv c0_i32_173 c1_i32_175 k0_t15
  let v343 : BitVec 32 := Scalar.addi c160_i32 arg14
  let c16_i32_177 : BitVec 32 := 16#32
  let v344 : BitVec 32 := Scalar.muli v343 c16_i32_177
  let v347 : Index := Scalar.indexCast v344
  ![v345.toNat, v346.toNat, v347.toNat]
def k0_cond13 (v243 : BitVec 32) : BitVec 1 :=
  let c0_i32_128 : BitVec 32 := 0#32
  let v244 : BitVec 1 := Scalar.cmpi .sgt v243 c0_i32_128
  let v245 : BitVec 32 := Scalar.extui v244
  let c0_i32_129 : BitVec 32 := 0#32
  let v246 : BitVec 1 := Scalar.cmpi .ne v245 c0_i32_129
  v246

def k0_chk15 (v243 : BitVec 32) (v357 : IVec S16 32) : Prop :=
  (∀ (k0_h13 : k0_cond13 v243 = 1#1), ∀ a x, ((![v357] : Fin 1 → IVec S16 32) a x).toNat < S4112.size a)
theorem k0_idx15_inb : ∀ (v243 : BitVec 32) (v357 : IVec S16 32) (k0_hw15 : k0_chk15 v243 v357), ∀ (k0_h13 : k0_cond13 v243 = 1#1), ∀ a x, ((![v357] : Fin 1 → IVec S16 32) a x).toNat < S4112.size a := fun v243 v357 k0_hw15 k0_h13 => k0_hw15 k0_h13
@[reducible] def k0_t16_loop : Scf.Loop 32 :=
  let c0_i32_173 : BitVec 32 := 0#32
  let c16_i32_174 : BitVec 32 := 16#32
  let v341 : BitVec 32 := Scalar.addi c0_i32_173 c16_i32_174
  let c1_i32_175 : BitVec 32 := 1#32
  ⟨c0_i32_173, v341, c1_i32_175⟩
def k0_off26 (k0_t1 : Fin k0_t1_loop.trips) (k0_t2 : Fin k0_t2_loop.trips) (k0_t16 : Fin k0_t16_loop.trips) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v345 : Index := Scalar.indexCast v43
  let c0_i32_52 : BitVec 32 := 0#32
  let c1_i32_54 : BitVec 32 := 1#32
  let arg12 : BitVec 32 := Scf.iv c0_i32_52 c1_i32_54 k0_t2
  let v346 : Index := Scalar.indexCast arg12
  let c176_i32 : BitVec 32 := 176#32
  let c0_i32_173 : BitVec 32 := 0#32
  let c1_i32_175 : BitVec 32 := 1#32
  let arg14 : BitVec 32 := Scf.iv c0_i32_173 c1_i32_175 k0_t16
  let v343 : BitVec 32 := Scalar.addi c176_i32 arg14
  let c16_i32_177 : BitVec 32 := 16#32
  let v344 : BitVec 32 := Scalar.muli v343 c16_i32_177
  let v347 : Index := Scalar.indexCast v344
  ![v345.toNat, v346.toNat, v347.toNat]
def k0_cond14 (v256 : BitVec 32) : BitVec 1 :=
  let c0_i32_133 : BitVec 32 := 0#32
  let v257 : BitVec 1 := Scalar.cmpi .sgt v256 c0_i32_133
  let v258 : BitVec 32 := Scalar.extui v257
  let c0_i32_134 : BitVec 32 := 0#32
  let v259 : BitVec 1 := Scalar.cmpi .ne v258 c0_i32_134
  v259

def k0_chk16 (v256 : BitVec 32) (v357 : IVec S16 32) : Prop :=
  (∀ (k0_h14 : k0_cond14 v256 = 1#1), ∀ a x, ((![v357] : Fin 1 → IVec S16 32) a x).toNat < S4112.size a)
theorem k0_idx16_inb : ∀ (v256 : BitVec 32) (v357 : IVec S16 32) (k0_hw16 : k0_chk16 v256 v357), ∀ (k0_h14 : k0_cond14 v256 = 1#1), ∀ a x, ((![v357] : Fin 1 → IVec S16 32) a x).toNat < S4112.size a := fun v256 v357 k0_hw16 k0_h14 => k0_hw16 k0_h14
@[reducible] def k0_t17_loop : Scf.Loop 32 :=
  let c0_i32_173 : BitVec 32 := 0#32
  let c16_i32_174 : BitVec 32 := 16#32
  let v341 : BitVec 32 := Scalar.addi c0_i32_173 c16_i32_174
  let c1_i32_175 : BitVec 32 := 1#32
  ⟨c0_i32_173, v341, c1_i32_175⟩
def k0_off27 (k0_t1 : Fin k0_t1_loop.trips) (k0_t2 : Fin k0_t2_loop.trips) (k0_t17 : Fin k0_t17_loop.trips) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v345 : Index := Scalar.indexCast v43
  let c0_i32_52 : BitVec 32 := 0#32
  let c1_i32_54 : BitVec 32 := 1#32
  let arg12 : BitVec 32 := Scf.iv c0_i32_52 c1_i32_54 k0_t2
  let v346 : Index := Scalar.indexCast arg12
  let c192_i32 : BitVec 32 := 192#32
  let c0_i32_173 : BitVec 32 := 0#32
  let c1_i32_175 : BitVec 32 := 1#32
  let arg14 : BitVec 32 := Scf.iv c0_i32_173 c1_i32_175 k0_t17
  let v343 : BitVec 32 := Scalar.addi c192_i32 arg14
  let c16_i32_177 : BitVec 32 := 16#32
  let v344 : BitVec 32 := Scalar.muli v343 c16_i32_177
  let v347 : Index := Scalar.indexCast v344
  ![v345.toNat, v346.toNat, v347.toNat]
def k0_cond15 (v269 : BitVec 32) : BitVec 1 :=
  let c0_i32_138 : BitVec 32 := 0#32
  let v270 : BitVec 1 := Scalar.cmpi .sgt v269 c0_i32_138
  let v271 : BitVec 32 := Scalar.extui v270
  let c0_i32_139 : BitVec 32 := 0#32
  let v272 : BitVec 1 := Scalar.cmpi .ne v271 c0_i32_139
  v272

def k0_chk17 (v269 : BitVec 32) (v357 : IVec S16 32) : Prop :=
  (∀ (k0_h15 : k0_cond15 v269 = 1#1), ∀ a x, ((![v357] : Fin 1 → IVec S16 32) a x).toNat < S4112.size a)
theorem k0_idx17_inb : ∀ (v269 : BitVec 32) (v357 : IVec S16 32) (k0_hw17 : k0_chk17 v269 v357), ∀ (k0_h15 : k0_cond15 v269 = 1#1), ∀ a x, ((![v357] : Fin 1 → IVec S16 32) a x).toNat < S4112.size a := fun v269 v357 k0_hw17 k0_h15 => k0_hw17 k0_h15
@[reducible] def k0_t18_loop : Scf.Loop 32 :=
  let c0_i32_173 : BitVec 32 := 0#32
  let c16_i32_174 : BitVec 32 := 16#32
  let v341 : BitVec 32 := Scalar.addi c0_i32_173 c16_i32_174
  let c1_i32_175 : BitVec 32 := 1#32
  ⟨c0_i32_173, v341, c1_i32_175⟩
def k0_off28 (k0_t1 : Fin k0_t1_loop.trips) (k0_t2 : Fin k0_t2_loop.trips) (k0_t18 : Fin k0_t18_loop.trips) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v345 : Index := Scalar.indexCast v43
  let c0_i32_52 : BitVec 32 := 0#32
  let c1_i32_54 : BitVec 32 := 1#32
  let arg12 : BitVec 32 := Scf.iv c0_i32_52 c1_i32_54 k0_t2
  let v346 : Index := Scalar.indexCast arg12
  let c208_i32 : BitVec 32 := 208#32
  let c0_i32_173 : BitVec 32 := 0#32
  let c1_i32_175 : BitVec 32 := 1#32
  let arg14 : BitVec 32 := Scf.iv c0_i32_173 c1_i32_175 k0_t18
  let v343 : BitVec 32 := Scalar.addi c208_i32 arg14
  let c16_i32_177 : BitVec 32 := 16#32
  let v344 : BitVec 32 := Scalar.muli v343 c16_i32_177
  let v347 : Index := Scalar.indexCast v344
  ![v345.toNat, v346.toNat, v347.toNat]
def k0_cond16 (v282 : BitVec 32) : BitVec 1 :=
  let c0_i32_143 : BitVec 32 := 0#32
  let v283 : BitVec 1 := Scalar.cmpi .sgt v282 c0_i32_143
  let v284 : BitVec 32 := Scalar.extui v283
  let c0_i32_144 : BitVec 32 := 0#32
  let v285 : BitVec 1 := Scalar.cmpi .ne v284 c0_i32_144
  v285

def k0_chk18 (v282 : BitVec 32) (v357 : IVec S16 32) : Prop :=
  (∀ (k0_h16 : k0_cond16 v282 = 1#1), ∀ a x, ((![v357] : Fin 1 → IVec S16 32) a x).toNat < S4112.size a)
theorem k0_idx18_inb : ∀ (v282 : BitVec 32) (v357 : IVec S16 32) (k0_hw18 : k0_chk18 v282 v357), ∀ (k0_h16 : k0_cond16 v282 = 1#1), ∀ a x, ((![v357] : Fin 1 → IVec S16 32) a x).toNat < S4112.size a := fun v282 v357 k0_hw18 k0_h16 => k0_hw18 k0_h16
@[reducible] def k0_t19_loop : Scf.Loop 32 :=
  let c0_i32_173 : BitVec 32 := 0#32
  let c16_i32_174 : BitVec 32 := 16#32
  let v341 : BitVec 32 := Scalar.addi c0_i32_173 c16_i32_174
  let c1_i32_175 : BitVec 32 := 1#32
  ⟨c0_i32_173, v341, c1_i32_175⟩
def k0_off29 (k0_t1 : Fin k0_t1_loop.trips) (k0_t2 : Fin k0_t2_loop.trips) (k0_t19 : Fin k0_t19_loop.trips) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v345 : Index := Scalar.indexCast v43
  let c0_i32_52 : BitVec 32 := 0#32
  let c1_i32_54 : BitVec 32 := 1#32
  let arg12 : BitVec 32 := Scf.iv c0_i32_52 c1_i32_54 k0_t2
  let v346 : Index := Scalar.indexCast arg12
  let c224_i32 : BitVec 32 := 224#32
  let c0_i32_173 : BitVec 32 := 0#32
  let c1_i32_175 : BitVec 32 := 1#32
  let arg14 : BitVec 32 := Scf.iv c0_i32_173 c1_i32_175 k0_t19
  let v343 : BitVec 32 := Scalar.addi c224_i32 arg14
  let c16_i32_177 : BitVec 32 := 16#32
  let v344 : BitVec 32 := Scalar.muli v343 c16_i32_177
  let v347 : Index := Scalar.indexCast v344
  ![v345.toNat, v346.toNat, v347.toNat]
def k0_cond17 (v295 : BitVec 32) : BitVec 1 :=
  let c0_i32_148 : BitVec 32 := 0#32
  let v296 : BitVec 1 := Scalar.cmpi .sgt v295 c0_i32_148
  let v297 : BitVec 32 := Scalar.extui v296
  let c0_i32_149 : BitVec 32 := 0#32
  let v298 : BitVec 1 := Scalar.cmpi .ne v297 c0_i32_149
  v298

def k0_chk19 (v295 : BitVec 32) (v357 : IVec S16 32) : Prop :=
  (∀ (k0_h17 : k0_cond17 v295 = 1#1), ∀ a x, ((![v357] : Fin 1 → IVec S16 32) a x).toNat < S4112.size a)
theorem k0_idx19_inb : ∀ (v295 : BitVec 32) (v357 : IVec S16 32) (k0_hw19 : k0_chk19 v295 v357), ∀ (k0_h17 : k0_cond17 v295 = 1#1), ∀ a x, ((![v357] : Fin 1 → IVec S16 32) a x).toNat < S4112.size a := fun v295 v357 k0_hw19 k0_h17 => k0_hw19 k0_h17
@[reducible] def k0_t20_loop : Scf.Loop 32 :=
  let c0_i32_173 : BitVec 32 := 0#32
  let c16_i32_174 : BitVec 32 := 16#32
  let v341 : BitVec 32 := Scalar.addi c0_i32_173 c16_i32_174
  let c1_i32_175 : BitVec 32 := 1#32
  ⟨c0_i32_173, v341, c1_i32_175⟩
def k0_off30 (k0_t1 : Fin k0_t1_loop.trips) (k0_t2 : Fin k0_t2_loop.trips) (k0_t20 : Fin k0_t20_loop.trips) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v345 : Index := Scalar.indexCast v43
  let c0_i32_52 : BitVec 32 := 0#32
  let c1_i32_54 : BitVec 32 := 1#32
  let arg12 : BitVec 32 := Scf.iv c0_i32_52 c1_i32_54 k0_t2
  let v346 : Index := Scalar.indexCast arg12
  let c240_i32_177 : BitVec 32 := 240#32
  let c0_i32_173 : BitVec 32 := 0#32
  let c1_i32_175 : BitVec 32 := 1#32
  let arg14 : BitVec 32 := Scf.iv c0_i32_173 c1_i32_175 k0_t20
  let v343 : BitVec 32 := Scalar.addi c240_i32_177 arg14
  let c16_i32_178 : BitVec 32 := 16#32
  let v344 : BitVec 32 := Scalar.muli v343 c16_i32_178
  let v347 : Index := Scalar.indexCast v344
  ![v345.toNat, v346.toNat, v347.toNat]
def k0_cond18 (v308 : BitVec 32) : BitVec 1 :=
  let c0_i32_153 : BitVec 32 := 0#32
  let v309 : BitVec 1 := Scalar.cmpi .sgt v308 c0_i32_153
  let v310 : BitVec 32 := Scalar.extui v309
  let c0_i32_154 : BitVec 32 := 0#32
  let v311 : BitVec 1 := Scalar.cmpi .ne v310 c0_i32_154
  v311

def k0_chk20 (v308 : BitVec 32) (v357 : IVec S16 32) : Prop :=
  (∀ (k0_h18 : k0_cond18 v308 = 1#1), ∀ a x, ((![v357] : Fin 1 → IVec S16 32) a x).toNat < S4112.size a)
theorem k0_idx20_inb : ∀ (v308 : BitVec 32) (v357 : IVec S16 32) (k0_hw20 : k0_chk20 v308 v357), ∀ (k0_h18 : k0_cond18 v308 = 1#1), ∀ a x, ((![v357] : Fin 1 → IVec S16 32) a x).toNat < S4112.size a := fun v308 v357 k0_hw20 k0_h18 => k0_hw20 k0_h18
def k0_off31 (v312 : BitVec 32) : Fin 1 → Nat :=
  let v314 : Index := Scalar.indexCast v312
  ![v314.toNat]

@[reducible] def k0_t21_loop : Scf.Loop 32 :=
  let c0_i32_174 : BitVec 32 := 0#32
  let c16_i32_175 : BitVec 32 := 16#32
  let v390 : BitVec 32 := Scalar.addi c0_i32_174 c16_i32_175
  let c1_i32_176 : BitVec 32 := 1#32
  ⟨c0_i32_174, v390, c1_i32_176⟩
@[reducible] def k0_t22_loop : Scf.Loop 32 :=
  let c0_i32_179 : BitVec 32 := 0#32
  let c2_i32_180 : BitVec 32 := 2#32
  let v395 : BitVec 32 := Scalar.addi c0_i32_179 c2_i32_180
  let c1_i32_181 : BitVec 32 := 1#32
  ⟨c0_i32_179, v395, c1_i32_181⟩
@[reducible] def k0_t23_loop : Scf.Loop 32 :=
  let c0_i32_173 : BitVec 32 := 0#32
  let c16_i32_174 : BitVec 32 := 16#32
  let v341 : BitVec 32 := Scalar.addi c0_i32_173 c16_i32_174
  let c1_i32_175 : BitVec 32 := 1#32
  ⟨c0_i32_173, v341, c1_i32_175⟩
@[reducible] def k0_t24_loop (v312 : BitVec 32) : Scf.Loop 32 :=
  let c0_i32_183 : BitVec 32 := 0#32
  let c16_i32_155 : BitVec 32 := 16#32
  let v316 : BitVec 32 := Scalar.addi v312 c16_i32_155
  let c1_i32_156 : BitVec 32 := 1#32
  let v317 : BitVec 32 := Scalar.subi v316 c1_i32_156
  let c0_i32_158 : BitVec 32 := 0#32
  let v319 : BitVec 1 := Scalar.cmpi .sgt v317 c0_i32_158
  let v320 : BitVec 32 := Scalar.extui v319
  let c0_i32_159 : BitVec 32 := 0#32
  let v321 : BitVec 1 := Scalar.cmpi .slt v317 c0_i32_159
  let v322 : BitVec 32 := Scalar.extui v321
  let v323 : BitVec 32 := Scalar.subi v320 v322
  let c16_i32_157 : BitVec 32 := 16#32
  let c0_i32_160 : BitVec 32 := 0#32
  let v324 : BitVec 1 := Scalar.cmpi .sgt c16_i32_157 c0_i32_160
  let v325 : BitVec 32 := Scalar.extui v324
  let c0_i32_161 : BitVec 32 := 0#32
  let v326 : BitVec 1 := Scalar.cmpi .slt c16_i32_157 c0_i32_161
  let v327 : BitVec 32 := Scalar.extui v326
  let v328 : BitVec 32 := Scalar.subi v325 v327
  let v329 : BitVec 1 := Scalar.cmpi .ne v323 v328
  let v330 : BitVec 32 := Scalar.remsi v317 c16_i32_157
  let c0_i32_162 : BitVec 32 := 0#32
  let v331 : BitVec 1 := Scalar.cmpi .ne v330 c0_i32_162
  let v332 : BitVec 1 := Scalar.andi v329 v331
  let v318 : BitVec 32 := Scalar.divsi v317 c16_i32_157
  let c1_i32_163 : BitVec 32 := 1#32
  let v333 : BitVec 32 := Scalar.subi v318 c1_i32_163
  let v334 : BitVec 32 := Scalar.select v332 v333 v318
  let v351 : BitVec 32 := Scalar.subi v334 c0_i32_183
  let c1_i32_184 : BitVec 32 := 1#32
  let v353 : BitVec 32 := Scalar.divsi v351 c1_i32_184
  let v354 : BitVec 32 := Scalar.muli v353 c1_i32_184
  let v355 : BitVec 32 := Scalar.addi c0_i32_183 v354
  let c1_i32_185 : BitVec 32 := 1#32
  ⟨c0_i32_183, v355, c1_i32_185⟩
def k0_cond19 (v312 : BitVec 32) : BitVec 1 :=
  let c16_i32_164 : BitVec 32 := 16#32
  let v335 : BitVec 1 := Scalar.cmpi .sle v312 c16_i32_164
  let v336 : BitVec 32 := Scalar.extui v335
  let c0_i32_166 : BitVec 32 := 0#32
  let v337 : BitVec 1 := Scalar.cmpi .ne v336 c0_i32_166
  v337

def k0_off32 (v312 : BitVec 32) (k0_t24 : Fin (k0_t24_loop v312).trips) : Fin 1 → Nat :=
  let c0_i32_183 : BitVec 32 := 0#32
  let c1_i32_185 : BitVec 32 := 1#32
  let arg17 : BitVec 32 := Scf.iv c0_i32_183 c1_i32_185 k0_t24
  let c16_i32_195 : BitVec 32 := 16#32
  let v382 : BitVec 32 := Scalar.muli arg17 c16_i32_195
  let v383 : Index := Scalar.indexCast v382
  ![v383.toNat]
@[reducible] def k0_t25_loop (v312 : BitVec 32) : Scf.Loop 32 :=
  let c0_i32_183 : BitVec 32 := 0#32
  let c16_i32_155 : BitVec 32 := 16#32
  let v316 : BitVec 32 := Scalar.addi v312 c16_i32_155
  let c1_i32_156 : BitVec 32 := 1#32
  let v317 : BitVec 32 := Scalar.subi v316 c1_i32_156
  let c0_i32_158 : BitVec 32 := 0#32
  let v319 : BitVec 1 := Scalar.cmpi .sgt v317 c0_i32_158
  let v320 : BitVec 32 := Scalar.extui v319
  let c0_i32_159 : BitVec 32 := 0#32
  let v321 : BitVec 1 := Scalar.cmpi .slt v317 c0_i32_159
  let v322 : BitVec 32 := Scalar.extui v321
  let v323 : BitVec 32 := Scalar.subi v320 v322
  let c16_i32_157 : BitVec 32 := 16#32
  let c0_i32_160 : BitVec 32 := 0#32
  let v324 : BitVec 1 := Scalar.cmpi .sgt c16_i32_157 c0_i32_160
  let v325 : BitVec 32 := Scalar.extui v324
  let c0_i32_161 : BitVec 32 := 0#32
  let v326 : BitVec 1 := Scalar.cmpi .slt c16_i32_157 c0_i32_161
  let v327 : BitVec 32 := Scalar.extui v326
  let v328 : BitVec 32 := Scalar.subi v325 v327
  let v329 : BitVec 1 := Scalar.cmpi .ne v323 v328
  let v330 : BitVec 32 := Scalar.remsi v317 c16_i32_157
  let c0_i32_162 : BitVec 32 := 0#32
  let v331 : BitVec 1 := Scalar.cmpi .ne v330 c0_i32_162
  let v332 : BitVec 1 := Scalar.andi v329 v331
  let v318 : BitVec 32 := Scalar.divsi v317 c16_i32_157
  let c1_i32_163 : BitVec 32 := 1#32
  let v333 : BitVec 32 := Scalar.subi v318 c1_i32_163
  let v334 : BitVec 32 := Scalar.select v332 v333 v318
  let v351 : BitVec 32 := Scalar.subi v334 c0_i32_183
  let c1_i32_184 : BitVec 32 := 1#32
  let v353 : BitVec 32 := Scalar.divsi v351 c1_i32_184
  let v354 : BitVec 32 := Scalar.muli v353 c1_i32_184
  let v355 : BitVec 32 := Scalar.addi c0_i32_183 v354
  let v352 : BitVec 32 := Scalar.addi c0_i32_183 v351
  let c1_i32_186 : BitVec 32 := 1#32
  ⟨v355, v352, c1_i32_186⟩
def k0_off33 (v312 : BitVec 32) (k0_t25 : Fin (k0_t25_loop v312).trips) : Fin 1 → Nat :=
  let c0_i32_183 : BitVec 32 := 0#32
  let c16_i32_155 : BitVec 32 := 16#32
  let v316 : BitVec 32 := Scalar.addi v312 c16_i32_155
  let c1_i32_156 : BitVec 32 := 1#32
  let v317 : BitVec 32 := Scalar.subi v316 c1_i32_156
  let c0_i32_158 : BitVec 32 := 0#32
  let v319 : BitVec 1 := Scalar.cmpi .sgt v317 c0_i32_158
  let v320 : BitVec 32 := Scalar.extui v319
  let c0_i32_159 : BitVec 32 := 0#32
  let v321 : BitVec 1 := Scalar.cmpi .slt v317 c0_i32_159
  let v322 : BitVec 32 := Scalar.extui v321
  let v323 : BitVec 32 := Scalar.subi v320 v322
  let c16_i32_157 : BitVec 32 := 16#32
  let c0_i32_160 : BitVec 32 := 0#32
  let v324 : BitVec 1 := Scalar.cmpi .sgt c16_i32_157 c0_i32_160
  let v325 : BitVec 32 := Scalar.extui v324
  let c0_i32_161 : BitVec 32 := 0#32
  let v326 : BitVec 1 := Scalar.cmpi .slt c16_i32_157 c0_i32_161
  let v327 : BitVec 32 := Scalar.extui v326
  let v328 : BitVec 32 := Scalar.subi v325 v327
  let v329 : BitVec 1 := Scalar.cmpi .ne v323 v328
  let v330 : BitVec 32 := Scalar.remsi v317 c16_i32_157
  let c0_i32_162 : BitVec 32 := 0#32
  let v331 : BitVec 1 := Scalar.cmpi .ne v330 c0_i32_162
  let v332 : BitVec 1 := Scalar.andi v329 v331
  let v318 : BitVec 32 := Scalar.divsi v317 c16_i32_157
  let c1_i32_163 : BitVec 32 := 1#32
  let v333 : BitVec 32 := Scalar.subi v318 c1_i32_163
  let v334 : BitVec 32 := Scalar.select v332 v333 v318
  let v351 : BitVec 32 := Scalar.subi v334 c0_i32_183
  let c1_i32_184 : BitVec 32 := 1#32
  let v353 : BitVec 32 := Scalar.divsi v351 c1_i32_184
  let v354 : BitVec 32 := Scalar.muli v353 c1_i32_184
  let v355 : BitVec 32 := Scalar.addi c0_i32_183 v354
  let c1_i32_186 : BitVec 32 := 1#32
  let arg17 : BitVec 32 := Scf.iv v355 c1_i32_186 k0_t25
  let c16_i32_195 : BitVec 32 := 16#32
  let v382 : BitVec 32 := Scalar.muli arg17 c16_i32_195
  let v383 : Index := Scalar.indexCast v382
  ![v383.toNat]

def k0_chk22 (v312 : BitVec 32) (v360 : IVec S16 32) : Prop :=
  (∀ (k0_h19 : ¬(k0_cond19 v312 = 1#1)), ∀ a x, ((![v360] : Fin 1 → IVec S16 32) a x).toNat < S16.size a)
theorem k0_idx21_inb : ∀ (v312 : BitVec 32) (v360 : IVec S16 32) (k0_hw22 : k0_chk22 v312 v360), ∀ (k0_h19 : ¬(k0_cond19 v312 = 1#1)), ∀ a x, ((![v360] : Fin 1 → IVec S16 32) a x).toNat < S16.size a := fun v312 v360 k0_hw22 k0_h19 => k0_hw22 k0_h19

def k0_chk23 (v312 : BitVec 32) (v365 : IVec S16 32) : Prop :=
  (∀ (k0_h19 : ¬(k0_cond19 v312 = 1#1)), ∀ a x, ((![v365] : Fin 1 → IVec S16 32) a x).toNat < S16.size a)
theorem k0_idx22_inb : ∀ (v312 : BitVec 32) (v365 : IVec S16 32) (k0_hw23 : k0_chk23 v312 v365), ∀ (k0_h19 : ¬(k0_cond19 v312 = 1#1)), ∀ a x, ((![v365] : Fin 1 → IVec S16 32) a x).toNat < S16.size a := fun v312 v365 k0_hw23 k0_h19 => k0_hw23 k0_h19

def k0_chk24 (v312 : BitVec 32) (v370 : IVec S16 32) : Prop :=
  (∀ (k0_h19 : ¬(k0_cond19 v312 = 1#1)), ∀ a x, ((![v370] : Fin 1 → IVec S16 32) a x).toNat < S16.size a)
theorem k0_idx23_inb : ∀ (v312 : BitVec 32) (v370 : IVec S16 32) (k0_hw24 : k0_chk24 v312 v370), ∀ (k0_h19 : ¬(k0_cond19 v312 = 1#1)), ∀ a x, ((![v370] : Fin 1 → IVec S16 32) a x).toNat < S16.size a := fun v312 v370 k0_hw24 k0_h19 => k0_hw24 k0_h19

def k0_chk25 (v312 : BitVec 32) (v375 : IVec S16 32) : Prop :=
  (∀ (k0_h19 : ¬(k0_cond19 v312 = 1#1)), ∀ a x, ((![v375] : Fin 1 → IVec S16 32) a x).toNat < S16.size a)
theorem k0_idx24_inb : ∀ (v312 : BitVec 32) (v375 : IVec S16 32) (k0_hw25 : k0_chk25 v312 v375), ∀ (k0_h19 : ¬(k0_cond19 v312 = 1#1)), ∀ a x, ((![v375] : Fin 1 → IVec S16 32) a x).toNat < S16.size a := fun v312 v375 k0_hw25 k0_h19 => k0_hw25 k0_h19
@[reducible] def k0_t26_loop : Scf.Loop 32 :=
  let c0_i32_178 : BitVec 32 := 0#32
  let c2_i32_179 : BitVec 32 := 2#32
  let v346 : BitVec 32 := Scalar.addi c0_i32_178 c2_i32_179
  let c1_i32_180 : BitVec 32 := 1#32
  ⟨c0_i32_178, v346, c1_i32_180⟩
@[reducible] def k0_t27_loop (v312 : BitVec 32) : Scf.Loop 32 :=
  let c0_i32_182 : BitVec 32 := 0#32
  let c16_i32_155 : BitVec 32 := 16#32
  let v316 : BitVec 32 := Scalar.addi v312 c16_i32_155
  let c1_i32_156 : BitVec 32 := 1#32
  let v317 : BitVec 32 := Scalar.subi v316 c1_i32_156
  let c0_i32_158 : BitVec 32 := 0#32
  let v319 : BitVec 1 := Scalar.cmpi .sgt v317 c0_i32_158
  let v320 : BitVec 32 := Scalar.extui v319
  let c0_i32_159 : BitVec 32 := 0#32
  let v321 : BitVec 1 := Scalar.cmpi .slt v317 c0_i32_159
  let v322 : BitVec 32 := Scalar.extui v321
  let v323 : BitVec 32 := Scalar.subi v320 v322
  let c16_i32_157 : BitVec 32 := 16#32
  let c0_i32_160 : BitVec 32 := 0#32
  let v324 : BitVec 1 := Scalar.cmpi .sgt c16_i32_157 c0_i32_160
  let v325 : BitVec 32 := Scalar.extui v324
  let c0_i32_161 : BitVec 32 := 0#32
  let v326 : BitVec 1 := Scalar.cmpi .slt c16_i32_157 c0_i32_161
  let v327 : BitVec 32 := Scalar.extui v326
  let v328 : BitVec 32 := Scalar.subi v325 v327
  let v329 : BitVec 1 := Scalar.cmpi .ne v323 v328
  let v330 : BitVec 32 := Scalar.remsi v317 c16_i32_157
  let c0_i32_162 : BitVec 32 := 0#32
  let v331 : BitVec 1 := Scalar.cmpi .ne v330 c0_i32_162
  let v332 : BitVec 1 := Scalar.andi v329 v331
  let v318 : BitVec 32 := Scalar.divsi v317 c16_i32_157
  let c1_i32_163 : BitVec 32 := 1#32
  let v333 : BitVec 32 := Scalar.subi v318 c1_i32_163
  let v334 : BitVec 32 := Scalar.select v332 v333 v318
  let v348 : BitVec 32 := Scalar.subi v334 c0_i32_182
  let c1_i32_183 : BitVec 32 := 1#32
  let v350 : BitVec 32 := Scalar.divsi v348 c1_i32_183
  let v351 : BitVec 32 := Scalar.muli v350 c1_i32_183
  let v352 : BitVec 32 := Scalar.addi c0_i32_182 v351
  let c1_i32_184 : BitVec 32 := 1#32
  ⟨c0_i32_182, v352, c1_i32_184⟩
def k0_off34 (v312 : BitVec 32) (k0_t27 : Fin (k0_t27_loop v312).trips) : Fin 1 → Nat :=
  let c0_i32_182 : BitVec 32 := 0#32
  let c1_i32_184 : BitVec 32 := 1#32
  let arg16 : BitVec 32 := Scf.iv c0_i32_182 c1_i32_184 k0_t27
  let c16_i32_202 : BitVec 32 := 16#32
  let v401 : BitVec 32 := Scalar.muli arg16 c16_i32_202
  let v402 : Index := Scalar.indexCast v401
  ![v402.toNat]
@[reducible] def k0_t28_loop (v312 : BitVec 32) : Scf.Loop 32 :=
  let c0_i32_182 : BitVec 32 := 0#32
  let c16_i32_155 : BitVec 32 := 16#32
  let v316 : BitVec 32 := Scalar.addi v312 c16_i32_155
  let c1_i32_156 : BitVec 32 := 1#32
  let v317 : BitVec 32 := Scalar.subi v316 c1_i32_156
  let c0_i32_158 : BitVec 32 := 0#32
  let v319 : BitVec 1 := Scalar.cmpi .sgt v317 c0_i32_158
  let v320 : BitVec 32 := Scalar.extui v319
  let c0_i32_159 : BitVec 32 := 0#32
  let v321 : BitVec 1 := Scalar.cmpi .slt v317 c0_i32_159
  let v322 : BitVec 32 := Scalar.extui v321
  let v323 : BitVec 32 := Scalar.subi v320 v322
  let c16_i32_157 : BitVec 32 := 16#32
  let c0_i32_160 : BitVec 32 := 0#32
  let v324 : BitVec 1 := Scalar.cmpi .sgt c16_i32_157 c0_i32_160
  let v325 : BitVec 32 := Scalar.extui v324
  let c0_i32_161 : BitVec 32 := 0#32
  let v326 : BitVec 1 := Scalar.cmpi .slt c16_i32_157 c0_i32_161
  let v327 : BitVec 32 := Scalar.extui v326
  let v328 : BitVec 32 := Scalar.subi v325 v327
  let v329 : BitVec 1 := Scalar.cmpi .ne v323 v328
  let v330 : BitVec 32 := Scalar.remsi v317 c16_i32_157
  let c0_i32_162 : BitVec 32 := 0#32
  let v331 : BitVec 1 := Scalar.cmpi .ne v330 c0_i32_162
  let v332 : BitVec 1 := Scalar.andi v329 v331
  let v318 : BitVec 32 := Scalar.divsi v317 c16_i32_157
  let c1_i32_163 : BitVec 32 := 1#32
  let v333 : BitVec 32 := Scalar.subi v318 c1_i32_163
  let v334 : BitVec 32 := Scalar.select v332 v333 v318
  let v348 : BitVec 32 := Scalar.subi v334 c0_i32_182
  let c1_i32_183 : BitVec 32 := 1#32
  let v350 : BitVec 32 := Scalar.divsi v348 c1_i32_183
  let v351 : BitVec 32 := Scalar.muli v350 c1_i32_183
  let v352 : BitVec 32 := Scalar.addi c0_i32_182 v351
  let v349 : BitVec 32 := Scalar.addi c0_i32_182 v348
  let c1_i32_185 : BitVec 32 := 1#32
  ⟨v352, v349, c1_i32_185⟩
def k0_off35 (v312 : BitVec 32) (k0_t28 : Fin (k0_t28_loop v312).trips) : Fin 1 → Nat :=
  let c0_i32_182 : BitVec 32 := 0#32
  let c16_i32_155 : BitVec 32 := 16#32
  let v316 : BitVec 32 := Scalar.addi v312 c16_i32_155
  let c1_i32_156 : BitVec 32 := 1#32
  let v317 : BitVec 32 := Scalar.subi v316 c1_i32_156
  let c0_i32_158 : BitVec 32 := 0#32
  let v319 : BitVec 1 := Scalar.cmpi .sgt v317 c0_i32_158
  let v320 : BitVec 32 := Scalar.extui v319
  let c0_i32_159 : BitVec 32 := 0#32
  let v321 : BitVec 1 := Scalar.cmpi .slt v317 c0_i32_159
  let v322 : BitVec 32 := Scalar.extui v321
  let v323 : BitVec 32 := Scalar.subi v320 v322
  let c16_i32_157 : BitVec 32 := 16#32
  let c0_i32_160 : BitVec 32 := 0#32
  let v324 : BitVec 1 := Scalar.cmpi .sgt c16_i32_157 c0_i32_160
  let v325 : BitVec 32 := Scalar.extui v324
  let c0_i32_161 : BitVec 32 := 0#32
  let v326 : BitVec 1 := Scalar.cmpi .slt c16_i32_157 c0_i32_161
  let v327 : BitVec 32 := Scalar.extui v326
  let v328 : BitVec 32 := Scalar.subi v325 v327
  let v329 : BitVec 1 := Scalar.cmpi .ne v323 v328
  let v330 : BitVec 32 := Scalar.remsi v317 c16_i32_157
  let c0_i32_162 : BitVec 32 := 0#32
  let v331 : BitVec 1 := Scalar.cmpi .ne v330 c0_i32_162
  let v332 : BitVec 1 := Scalar.andi v329 v331
  let v318 : BitVec 32 := Scalar.divsi v317 c16_i32_157
  let c1_i32_163 : BitVec 32 := 1#32
  let v333 : BitVec 32 := Scalar.subi v318 c1_i32_163
  let v334 : BitVec 32 := Scalar.select v332 v333 v318
  let v348 : BitVec 32 := Scalar.subi v334 c0_i32_182
  let c1_i32_183 : BitVec 32 := 1#32
  let v350 : BitVec 32 := Scalar.divsi v348 c1_i32_183
  let v351 : BitVec 32 := Scalar.muli v350 c1_i32_183
  let v352 : BitVec 32 := Scalar.addi c0_i32_182 v351
  let c1_i32_185 : BitVec 32 := 1#32
  let arg16 : BitVec 32 := Scf.iv v352 c1_i32_185 k0_t28
  let c16_i32_202 : BitVec 32 := 16#32
  let v401 : BitVec 32 := Scalar.muli arg16 c16_i32_202
  let v402 : Index := Scalar.indexCast v401
  ![v402.toNat]

def k0_chk21 (v312 : BitVec 32) : Prop :=
  (∀ a, (k0_off31 v312) a + S16.size a ≤ S4112.size a) ∧
  (∀ (k0_h19 : ¬(k0_cond19 v312 = 1#1)), (k0_t24_loop v312).OK) ∧
  (∀ k0_t24 : Fin (k0_t24_loop v312).trips, ∀ (k0_h19 : ¬(k0_cond19 v312 = 1#1)), ∀ a, (k0_off32 v312 k0_t24) a + S16.size a ≤ S4112.size a) ∧
  (∀ (k0_h19 : ¬(k0_cond19 v312 = 1#1)), (k0_t25_loop v312).OK) ∧
  (∀ k0_t25 : Fin (k0_t25_loop v312).trips, ∀ (k0_h19 : ¬(k0_cond19 v312 = 1#1)), ∀ a, (k0_off33 v312 k0_t25) a + S16.size a ≤ S4112.size a) ∧
  (∀ (k0_h19 : ¬(k0_cond19 v312 = 1#1)), (k0_t27_loop v312).OK) ∧
  (∀ k0_t27 : Fin (k0_t27_loop v312).trips, ∀ (k0_h19 : ¬(k0_cond19 v312 = 1#1)), ∀ a, (k0_off34 v312 k0_t27) a + S16.size a ≤ S4112.size a) ∧
  (∀ (k0_h19 : ¬(k0_cond19 v312 = 1#1)), (k0_t28_loop v312).OK) ∧
  (∀ k0_t28 : Fin (k0_t28_loop v312).trips, ∀ (k0_h19 : ¬(k0_cond19 v312 = 1#1)), ∀ a, (k0_off35 v312 k0_t28) a + S16.size a ≤ S4112.size a)
theorem k0_off31_inb : ∀ (v312 : BitVec 32) (k0_hw21 : k0_chk21 v312), ∀ a, (k0_off31 v312) a + S16.size a ≤ S4112.size a := fun v312 k0_hw21 => k0_hw21.1
theorem k0_t24_ok : ∀ (v312 : BitVec 32) (k0_hw21 : k0_chk21 v312), ∀ (k0_h19 : ¬(k0_cond19 v312 = 1#1)), (k0_t24_loop v312).OK := fun v312 k0_hw21 k0_h19 => k0_hw21.2.1 k0_h19
theorem k0_off32_inb : ∀ (v312 : BitVec 32) (k0_hw21 : k0_chk21 v312) (k0_t24 : Fin (k0_t24_loop v312).trips), ∀ (k0_h19 : ¬(k0_cond19 v312 = 1#1)), ∀ a, (k0_off32 v312 k0_t24) a + S16.size a ≤ S4112.size a := fun v312 k0_hw21 k0_t24 k0_h19 => k0_hw21.2.2.1 k0_t24 k0_h19
theorem k0_t25_ok : ∀ (v312 : BitVec 32) (k0_hw21 : k0_chk21 v312), ∀ (k0_h19 : ¬(k0_cond19 v312 = 1#1)), (k0_t25_loop v312).OK := fun v312 k0_hw21 k0_h19 => k0_hw21.2.2.2.1 k0_h19
theorem k0_off33_inb : ∀ (v312 : BitVec 32) (k0_hw21 : k0_chk21 v312) (k0_t25 : Fin (k0_t25_loop v312).trips), ∀ (k0_h19 : ¬(k0_cond19 v312 = 1#1)), ∀ a, (k0_off33 v312 k0_t25) a + S16.size a ≤ S4112.size a := fun v312 k0_hw21 k0_t25 k0_h19 => k0_hw21.2.2.2.2.1 k0_t25 k0_h19
theorem k0_t27_ok : ∀ (v312 : BitVec 32) (k0_hw21 : k0_chk21 v312), ∀ (k0_h19 : ¬(k0_cond19 v312 = 1#1)), (k0_t27_loop v312).OK := fun v312 k0_hw21 k0_h19 => k0_hw21.2.2.2.2.2.1 k0_h19
theorem k0_off34_inb : ∀ (v312 : BitVec 32) (k0_hw21 : k0_chk21 v312) (k0_t27 : Fin (k0_t27_loop v312).trips), ∀ (k0_h19 : ¬(k0_cond19 v312 = 1#1)), ∀ a, (k0_off34 v312 k0_t27) a + S16.size a ≤ S4112.size a := fun v312 k0_hw21 k0_t27 k0_h19 => k0_hw21.2.2.2.2.2.2.1 k0_t27 k0_h19
theorem k0_t28_ok : ∀ (v312 : BitVec 32) (k0_hw21 : k0_chk21 v312), ∀ (k0_h19 : ¬(k0_cond19 v312 = 1#1)), (k0_t28_loop v312).OK := fun v312 k0_hw21 k0_h19 => k0_hw21.2.2.2.2.2.2.2.1 k0_h19
theorem k0_off35_inb : ∀ (v312 : BitVec 32) (k0_hw21 : k0_chk21 v312) (k0_t28 : Fin (k0_t28_loop v312).trips), ∀ (k0_h19 : ¬(k0_cond19 v312 = 1#1)), ∀ a, (k0_off35 v312 k0_t28) a + S16.size a ≤ S4112.size a := fun v312 k0_hw21 k0_t28 k0_h19 => k0_hw21.2.2.2.2.2.2.2.2 k0_t28 k0_h19

def k0_chk26 (v312 : BitVec 32) (v357 : IVec S16 32) : Prop :=
  (∀ (k0_h19 : ¬(k0_cond19 v312 = 1#1)), ∀ a x, ((![v357] : Fin 1 → IVec S16 32) a x).toNat < S16.size a)
theorem k0_idx25_inb : ∀ (v312 : BitVec 32) (v357 : IVec S16 32) (k0_hw26 : k0_chk26 v312 v357), ∀ (k0_h19 : ¬(k0_cond19 v312 = 1#1)), ∀ a x, ((![v357] : Fin 1 → IVec S16 32) a x).toNat < S16.size a := fun v312 v357 k0_hw26 k0_h19 => k0_hw26 k0_h19

def k0_chk27 (v312 : BitVec 32) (v362 : IVec S16 32) : Prop :=
  (∀ (k0_h19 : ¬(k0_cond19 v312 = 1#1)), ∀ a x, ((![v362] : Fin 1 → IVec S16 32) a x).toNat < S16.size a)
theorem k0_idx26_inb : ∀ (v312 : BitVec 32) (v362 : IVec S16 32) (k0_hw27 : k0_chk27 v312 v362), ∀ (k0_h19 : ¬(k0_cond19 v312 = 1#1)), ∀ a x, ((![v362] : Fin 1 → IVec S16 32) a x).toNat < S16.size a := fun v312 v362 k0_hw27 k0_h19 => k0_hw27 k0_h19

def k0_chk28 (v312 : BitVec 32) (v367 : IVec S16 32) : Prop :=
  (∀ (k0_h19 : ¬(k0_cond19 v312 = 1#1)), ∀ a x, ((![v367] : Fin 1 → IVec S16 32) a x).toNat < S16.size a)
theorem k0_idx27_inb : ∀ (v312 : BitVec 32) (v367 : IVec S16 32) (k0_hw28 : k0_chk28 v312 v367), ∀ (k0_h19 : ¬(k0_cond19 v312 = 1#1)), ∀ a x, ((![v367] : Fin 1 → IVec S16 32) a x).toNat < S16.size a := fun v312 v367 k0_hw28 k0_h19 => k0_hw28 k0_h19

def k0_chk29 (v312 : BitVec 32) (v372 : IVec S16 32) : Prop :=
  (∀ (k0_h19 : ¬(k0_cond19 v312 = 1#1)), ∀ a x, ((![v372] : Fin 1 → IVec S16 32) a x).toNat < S16.size a)
theorem k0_idx28_inb : ∀ (v312 : BitVec 32) (v372 : IVec S16 32) (k0_hw29 : k0_chk29 v312 v372), ∀ (k0_h19 : ¬(k0_cond19 v312 = 1#1)), ∀ a x, ((![v372] : Fin 1 → IVec S16 32) a x).toNat < S16.size a := fun v312 v372 k0_hw29 k0_h19 => k0_hw29 k0_h19

def k0_chk30 (v312 : BitVec 32) (v378 : IVec S16 32) : Prop :=
  (∀ (k0_h19 : ¬(k0_cond19 v312 = 1#1)), ∀ a x, ((![v378] : Fin 1 → IVec S16 32) a x).toNat < S16.size a)
theorem k0_idx29_inb : ∀ (v312 : BitVec 32) (v378 : IVec S16 32) (k0_hw30 : k0_chk30 v312 v378), ∀ (k0_h19 : ¬(k0_cond19 v312 = 1#1)), ∀ a x, ((![v378] : Fin 1 → IVec S16 32) a x).toNat < S16.size a := fun v312 v378 k0_hw30 k0_h19 => k0_hw30 k0_h19

def k0_chk31 (v312 : BitVec 32) (v383 : IVec S16 32) : Prop :=
  (∀ (k0_h19 : ¬(k0_cond19 v312 = 1#1)), ∀ a x, ((![v383] : Fin 1 → IVec S16 32) a x).toNat < S16.size a)
theorem k0_idx30_inb : ∀ (v312 : BitVec 32) (v383 : IVec S16 32) (k0_hw31 : k0_chk31 v312 v383), ∀ (k0_h19 : ¬(k0_cond19 v312 = 1#1)), ∀ a x, ((![v383] : Fin 1 → IVec S16 32) a x).toNat < S16.size a := fun v312 v383 k0_hw31 k0_h19 => k0_hw31 k0_h19

def k0_chk32 (v312 : BitVec 32) (v388 : IVec S16 32) : Prop :=
  (∀ (k0_h19 : ¬(k0_cond19 v312 = 1#1)), ∀ a x, ((![v388] : Fin 1 → IVec S16 32) a x).toNat < S16.size a)
theorem k0_idx31_inb : ∀ (v312 : BitVec 32) (v388 : IVec S16 32) (k0_hw32 : k0_chk32 v312 v388), ∀ (k0_h19 : ¬(k0_cond19 v312 = 1#1)), ∀ a x, ((![v388] : Fin 1 → IVec S16 32) a x).toNat < S16.size a := fun v312 v388 k0_hw32 k0_h19 => k0_hw32 k0_h19

def k0_chk33 (v312 : BitVec 32) (v393 : IVec S16 32) : Prop :=
  (∀ (k0_h19 : ¬(k0_cond19 v312 = 1#1)), ∀ a x, ((![v393] : Fin 1 → IVec S16 32) a x).toNat < S16.size a)
theorem k0_idx32_inb : ∀ (v312 : BitVec 32) (v393 : IVec S16 32) (k0_hw33 : k0_chk33 v312 v393), ∀ (k0_h19 : ¬(k0_cond19 v312 = 1#1)), ∀ a x, ((![v393] : Fin 1 → IVec S16 32) a x).toNat < S16.size a := fun v312 v393 k0_hw33 k0_h19 => k0_hw33 k0_h19
@[reducible] def k0_t29_loop : Scf.Loop 32 :=
  let c0_i32_168 : BitVec 32 := 0#32
  let c32_i32_169 : BitVec 32 := 32#32
  let v339 : BitVec 32 := Scalar.addi c0_i32_168 c32_i32_169
  let c1_i32_170 : BitVec 32 := 1#32
  ⟨c0_i32_168, v339, c1_i32_170⟩
def k0_off36 (k0_t1 : Fin k0_t1_loop.trips) (k0_t2 : Fin k0_t2_loop.trips) (k0_t29 : Fin k0_t29_loop.trips) (c0_i32_174 : BitVec 32) : Fin 3 → Nat :=
  let c0_i32_10 : BitVec 32 := 0#32
  let c1_i32 : BitVec 32 := 1#32
  let arg10 : BitVec 32 := Scf.iv c0_i32_10 c1_i32 k0_t1
  let c3_i32 : BitVec 32 := 3#32
  let v43 : BitVec 32 := Scalar.remsi arg10 c3_i32
  let v344 : Index := Scalar.indexCast v43
  let c0_i32_52 : BitVec 32 := 0#32
  let c1_i32_54 : BitVec 32 := 1#32
  let arg12 : BitVec 32 := Scf.iv c0_i32_52 c1_i32_54 k0_t2
  let v345 : Index := Scalar.indexCast arg12
  let c0_i32_168 : BitVec 32 := 0#32
  let c1_i32_170 : BitVec 32 := 1#32
  let arg14 : BitVec 32 := Scf.iv c0_i32_168 c1_i32_170 k0_t29
  let c8_i32_173 : BitVec 32 := 8#32
  let v341 : BitVec 32 := Scalar.muli arg14 c8_i32_173
  let v342 : BitVec 32 := Scalar.addi v341 c0_i32_174
  let c16_i32_175 : BitVec 32 := 16#32
  let v343 : BitVec 32 := Scalar.muli v342 c16_i32_175
  let v346 : Index := Scalar.indexCast v343
  ![v344.toNat, v345.toNat, v346.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S4096 : Shape := ⟨1, ![4096]⟩
abbrev S1x4096 : Shape := ⟨2, ![1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S_, .f32⟩
  | .hbm, ⟨2, _⟩ => ⟨S8192, .f32⟩
  | .hbm, ⟨3, _⟩ => ⟨S8192x1, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S_, .f32⟩
  | .hbm, ⟨21, _⟩ => ⟨S8192x4096, .f32⟩
  | .hbm, ⟨22, _⟩ => ⟨S8192x4096, .i1⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x4096, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_call1_call0_cst : Ref sig .tc := ⟨.hbm, 19, rfl⟩
abbrev main_call1_call0_v0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Proof.Setup.lean ====
/- The kernel as the launch theorem sees it: its configuration, the ghost state of the handshakes and of the copies'
   counters, the buffers of one tile, and how one register's worth of a buffer is read and written. -/
module

public import proofs.«01_k».proof.Defs
public import Idealize.ShloMosaic.Lib.SparseCore.Quiescent
public import Idealize.ShloMosaic.Lib.SparseCore.Ops
public import Idealize.ShloMosaic.Lib.Transfers
public import Idealize.ShloMosaic.Lib.Pipeline.Value
public import Idealize.ShloMosaic.Lib.ValueIdx
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost state -/

abbrev UH : Type := URounds (GSem nD τ sig) ℕ
abbrev UU : Type := UH × Counters

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EC : UEmb Counters (MT nD τ sig (HIx 1) (Elt F) ℕ UU ℕ) :=
  (UEmb.inr : UEmb Counters UU).trans (uEmb (nD := nD) (sig := sig) (Ix := HIx 1) (Val := Elt F) (Name := ℕ) (U := UU) (Lvl := ℕ))

instance EH_landsIn : (EH : Emb UH 𝕄).LandsIn (upEmb : UEmb _ 𝕄) := by unfold EH; infer_instance
instance EC_landsIn : (EC : UEmb Counters 𝕄).LandsIn (upEmb : UEmb _ 𝕄) := by unfold EC; infer_instance

/-! ## The buffers of one tile -/

abbrev xM : Memref sig .scVector .hbm S8192x4096 .f32 := Memref.whole main_arg0_scv
abbrev oM : Memref sig .scVector .hbm S8192x4096 .f32 := Memref.whole main_v0_scv
abbrev bufM : Memref sig .scVector .vmem S3x8x4096 .f32 := Memref.whole cc0_scratch0
abbrev candM : Memref sig .scVector .vmem S4112 .f32 := Memref.whole cc0_scratch1
abbrev blksM : Memref sig .scVector .vmem S256 .f32 := Memref.whole cc0_scratch2
abbrev lanesM : Memref sig .scVector .vmem S16 .f32 := Memref.whole cc0_scratch3

abbrev cV (i : grid0.Coords) : Fin τ.nSC := (i 0).castLE hcore0
abbrev jV (i : grid0.Coords) : Fin τ.nSub := (i 1).castLE hsub0
/-- The tile at coordinates `i` of device `d`. -/
abbrev tl (d : Dev nD) (i : grid0.Coords) : Thread nD τ := V d (cV i) (jV i)

/-! ## One register's worth of a buffer -/

/-- Place `n` of a buffer of `N` words, taken round. -/
def ix1 (N : ℕ) (hN : 0 < N) (n : ℕ) : (⟨1, ![N]⟩ : Shape).Idx := fun | 0 => ⟨n % N, Nat.mod_lt _ hN⟩
/-- Place `(s, r, c)` of the ring of three slots of eight rows, taken round. -/
def ix3 (s r c : ℕ) : S3x8x4096.Idx :=
  fun | 0 => ⟨s % 3, Nat.mod_lt _ (by decide)⟩ | 1 => ⟨r % 8, Nat.mod_lt _ (by decide)⟩ | 2 => ⟨c % 4096, Nat.mod_lt _ (by decide)⟩

/-- Register `j` of a row: its sixteen elements from `16 j` on. -/
def vec {α : Type} (x : ℕ → α) (j : ℕ) : S16.Idx → α := fun l => x (16 * j + (l 0).val)

/-- The row `(s, r)` of the ring's contents. -/
def rowOf (f : Vec F S3x8x4096 .f32) (s r : ℕ) : ℕ → F .f32 := fun c => f (ix3 s r c)
def cd (f : Vec F S4112 .f32) : ℕ → F .f32 := fun n => f (ix1 4112 (by decide) n)
def bk (f : Vec F S256 .f32) : ℕ → F .f32 := fun n => f (ix1 256 (by decide) n)

theorem S16_ext {α : Type} {v w : S16.Idx → α} (h : ∀ l : Fin 16, v (Shape.ofLane l) = w (Shape.ofLane l)) : v = w := by
  funext l
  have : l = Shape.ofLane (d := ![16]) (l 0) := by funext a; obtain rfl : a = 0 := Subsingleton.elim _ _; rfl
  rw [this]; exact h _

theorem ofLane_val (l : Fin 16) : ((Shape.ofLane (d := ![16]) l : S16.Idx) 0).val = l.val := rfl

/-- A register read off the ring, squeezed, is the row's register. -/
theorem buf_read (f : Vec F S3x8x4096 .f32) (s r j : ℕ) (off : Fin 3 → ℕ) (h : ∀ a, off a + S1x1x16.size a ≤ S3x8x4096.size a)
    (he : off = ![s, r, 16 * j]) (hc : S1x1x16.ShapeCasts S16) :
    shapeCast S16 ((bufM : Memref sig .scVector .vmem S3x8x4096 .f32).view.readAt (Elt F) (Rect.unit (s := S3x8x4096) off S1x1x16.size h).toLoadRect f) hc
      = vec (rowOf f s r) j := by
  subst he
  funext l
  have hl : (l 0).val < 16 := (l 0).isLt
  have h0 := h 0; have h1 := h 1; have h2 := h 2
  simp at h0 h1 h2
  rw [shapeCast_apply _ _ l (show S1x1x16.Idx from fun | 0 => ⟨0, Nat.one_pos⟩ | 1 => ⟨0, Nat.one_pos⟩ | 2 => ⟨(l 0).val, hl⟩)
    (by rw [Shape.rowMajor_val_three, Shape.rowMajor_val_one]; simp)]
  rw [View.readAt_apply, View.read_whole]
  unfold vec rowOf
  congr 1
  funext a; apply Fin.ext; rw [LoadRect.idx_apply]
  match a with
  | 0 => simp [ix3]; omega
  | 1 => simp [ix3]; omega
  | 2 => simp [ix3]; omega

theorem cand_read (f : Vec F S4112 .f32) (off : Fin 1 → ℕ) (n : ℕ) (h : ∀ a, off a + S16.size a ≤ S4112.size a) (he : off 0 = n) :
    (candM : Memref sig .scVector .vmem S4112 .f32).view.readAt (Elt F) (Rect.unit (s := S4112) off S16.size h).toLoadRect f
      = fun l => cd f (n + (l 0).val) := by
  subst he
  funext l
  have hl : (l 0).val < 16 := (l 0).isLt
  have h0 := h 0
  simp at h0
  rw [View.readAt_apply, View.read_whole]
  unfold cd
  congr 1
  funext a; apply Fin.ext; rw [LoadRect.idx_apply]
  match a with
  | 0 => simp [ix1]; omega

theorem blks_read (f : Vec F S256 .f32) (off : Fin 1 → ℕ) (j : ℕ) (h : ∀ a, off a + S16.size a ≤ S256.size a) (he : off 0 = 16 * j) :
    (blksM : Memref sig .scVector .vmem S256 .f32).view.readAt (Elt F) (Rect.unit (s := S256) off S16.size h).toLoadRect f
      = vec (bk f) j := by
  funext l
  have hl : (l 0).val < 16 := (l 0).isLt
  have h0 := h 0
  simp at h0
  rw [View.readAt_apply, View.read_whole]
  unfold vec bk
  congr 1
  funext a; apply Fin.ext; rw [LoadRect.idx_apply]
  match a with
  | 0 => simp [ix1]; omega

/-- What is written at a place a view covers. -/
theorem write_at {κ : Kind} {sp : Space} {s : Shape} {e : EltTy} {v : View sig κ sp s e} (f : v.ty.Contents (Elt F)) (w : s.Idx → Elt F e)
    {x : s.Idx} {i : v.ty.Idx} (hx : v.emb x = i) :
    v.write (Elt F) f w Finset.univ i = _root_.cast (congrArg (Elt F) v.elt_eq.symm) (w x) := by
  rw [← hx]; exact View.write_emb_of_mem f w (Finset.mem_univ x)

/-- A register stored into the ring: the row's register is replaced, and nothing else. -/
theorem buf_write (f : Vec F S3x8x4096 .f32) (s r j : ℕ) (off : Fin 3 → ℕ) (h : ∀ a, off a + S1x1x16.size a ≤ S3x8x4096.size a)
    (he : off = ![s, r, 16 * j]) (hc : S16.ShapeCasts S1x1x16) (v : Vec F S16 .f32) (i : S3x8x4096.Idx) :
    ((bufM : Memref sig .scVector .vmem S3x8x4096 .f32).access (Rect.unit (s := S3x8x4096) off S1x1x16.size h)).write (Elt F) f
        (shapeCast S1x1x16 v hc) Finset.univ i
      = if (i 0).val = s ∧ (i 1).val = r ∧ (i 2).val / 16 = j then v (Shape.ofLane (d := ![16]) ⟨(i 2).val % 16, Nat.mod_lt _ (by decide)⟩) else f i := by
  subst he
  have h0 := h 0; have h1 := h 1; have h2 := h 2
  simp at h0 h1 h2
  have hi1 : (i 1).val < 8 := (i 1).isLt
  split
  · next hc' =>
    obtain ⟨e0, e1, e2⟩ := hc'
    have hx : ((bufM : Memref sig .scVector .vmem S3x8x4096 .f32).access (Rect.unit (s := S3x8x4096) ![s, r, 16 * j] S1x1x16.size h)).emb
        (fun | 0 => ⟨0, Nat.one_pos⟩ | 1 => ⟨0, Nat.one_pos⟩ | 2 => ⟨(i 2).val % 16, Nat.mod_lt _ (by decide : 0 < 16)⟩) = i := by
      show (Rect.unit (s := S3x8x4096) ![s, r, 16 * j] S1x1x16.size h).toLoadRect.idx _ = i
      funext a; apply Fin.ext; rw [LoadRect.idx_apply]
      match a with
      | 0 => simp; omega
      | 1 => simp; omega
      | 2 => simp; omega
    refine (write_at _ _ hx).trans ?_
    show shapeCast S1x1x16 v hc _ = _
    rw [shapeCast_apply v hc _ (Shape.ofLane (d := ![16]) ⟨(i 2).val % 16, Nat.mod_lt _ (by decide)⟩)]
    rw [Shape.rowMajor_val_three, Shape.rowMajor_val_one]; simp [Shape.ofLane]
  · next hc' =>
    refine View.write_of_not_mem _ _ _ fun hm => hc' ?_
    obtain ⟨x, -, hx⟩ := Finset.mem_map.mp hm
    have hx' : (Rect.unit (s := S3x8x4096) ![s, r, 16 * j] S1x1x16.size h).toLoadRect.idx x = i := hx
    have x0 : (x 0).val < 1 := (x 0).isLt
    have x1 : (x 1).val < 1 := (x 1).isLt
    have x2 : (x 2).val < 16 := (x 2).isLt
    refine ⟨?_, ?_, ?_⟩ <;> rw [← hx', LoadRect.idx_apply] <;> simp <;> omega

theorem cand_write (f : Vec F S4112 .f32) (off : Fin 1 → ℕ) (n : ℕ) (h : ∀ a, off a + S16.size a ≤ S4112.size a) (he : off 0 = n)
    (v : Vec F S16 .f32) (i : S4112.Idx) :
    ((candM : Memref sig .scVector .vmem S4112 .f32).access (Rect.unit (s := S4112) off S16.size h)).write (Elt F) f v Finset.univ i
      = if hi : n ≤ (i 0).val ∧ (i 0).val < n + 16 then v (Shape.ofLane (d := ![16]) ⟨(i 0).val - n, show _ < 16 by omega⟩) else f i := by
  have h0 := h 0
  simp at h0
  split
  · next hc' =>
    have hx : ((candM : Memref sig .scVector .vmem S4112 .f32).access (Rect.unit (s := S4112) off S16.size h)).emb
        (fun | 0 => ⟨(i 0).val - n, show _ < 16 by omega⟩) = i := by
      show (Rect.unit (s := S4112) off S16.size h).toLoadRect.idx _ = i
      funext a; apply Fin.ext; rw [LoadRect.idx_apply]
      match a with
      | 0 => simp; omega
    refine (write_at _ _ hx).trans ?_
    show v _ = v _
    congr 1
    funext a; obtain rfl : a = 0 := Subsingleton.elim _ _; rfl
  · next hc' =>
    refine View.write_of_not_mem _ _ _ fun hm => hc' ?_
    obtain ⟨x, -, hx⟩ := Finset.mem_map.mp hm
    have hx' : (Rect.unit (s := S4112) off S16.size h).toLoadRect.idx x = i := hx
    have x0 : (x 0).val < 16 := (x 0).isLt
    rw [← hx', LoadRect.idx_apply]; simp; omega

theorem blks_write (f : Vec F S256 .f32) (off : Fin 1 → ℕ) (j : ℕ) (h : ∀ a, off a + S16.size a ≤ S256.size a) (he : off 0 = 16 * j)
    (v : Vec F S16 .f32) (i : S256.Idx) :
    ((blksM : Memref sig .scVector .vmem S256 .f32).access (Rect.unit (s := S256) off S16.size h)).write (Elt F) f v Finset.univ i
      = if (i 0).val / 16 = j then v (Shape.ofLane (d := ![16]) ⟨(i 0).val % 16, Nat.mod_lt _ (by decide)⟩) else f i := by
  have h0 := h 0
  simp at h0
  split
  · next hc' =>
    have hx : ((blksM : Memref sig .scVector .vmem S256 .f32).access (Rect.unit (s := S256) off S16.size h)).emb
        (fun | 0 => ⟨(i 0).val % 16, Nat.mod_lt _ (by decide : 0 < 16)⟩) = i := by
      show (Rect.unit (s := S256) off S16.size h).toLoadRect.idx _ = i
      funext a; apply Fin.ext; rw [LoadRect.idx_apply]
      match a with
      | 0 => simp; omega
    refine (write_at _ _ hx).trans ?_
    show v _ = v _
    congr 1
    funext a; obtain rfl : a = 0 := Subsingleton.elim _ _; rfl
  · next hc' =>
    refine View.write_of_not_mem _ _ _ fun hm => hc' ?_
    obtain ⟨x, -, hx⟩ := Finset.mem_map.mp hm
    have hx' : (Rect.unit (s := S256) off S16.size h).toLoadRect.idx x = i := hx
    have x0 : (x 0).val < 16 := (x 0).isLt
    rw [← hx', LoadRect.idx_apply]; simp; omega

/-- A register stored to the shuffle's sixteen words leaves them that register. -/
theorem lanes_write (f v : Vec F S16 .f32) (h : ∀ a, (![0] : Fin 1 → ℕ) a + S16.size a ≤ S16.size a) :
    ((lanesM : Memref sig .scVector .vmem S16 .f32).access (Rect.unit (s := S16) ![0] S16.size h)).write (Elt F) f v Finset.univ = v :=
  Memref.write_access_unit_zero_univ (Elt F) cc0_scratch3 (off := ![0]) (by funext a; fin_cases a; rfl) h f v

/-! ## The slots of the ring -/

/-- The elements of slot `s` of the ring. -/
def slotSet (s : ℕ) : Finset S3x8x4096.Idx := Finset.univ.filter fun i => (i 0).val = s

theorem slot_of_rect (s r j : ℕ) (off : Fin 3 → ℕ) (h : ∀ a, off a + S1x1x16.size a ≤ S3x8x4096.size a)
    (he : off = ![s, r, 16 * j]) :
    (bufM : Memref sig .scVector .vmem S3x8x4096 .f32).view.setOn (Rect.unit (s := S3x8x4096) off S1x1x16.size h).toLoadRect.set ⊆ slotSet s := by
  subst he
  intro i hm
  obtain ⟨x, hx, rfl⟩ := Finset.mem_map.mp hm
  have := (Rect.mem_set_unit.mp hx) 0
  simp at this
  simp only [slotSet, Finset.mem_filter, Finset.mem_univ, true_and]
  show (x 0).val = s
  omega

end Cert.Proof

end
-- ==== Proof.Model.lean ====
/- What one tile computes of one row, as functions of the row: the register of block maxima, the row's largest element
   and the threshold one below it, the elements above the threshold in order, the bisection and Newton steps on them,
   and the row written back. All for any float values. -/
module

public import proofs.«01_k».proof.Proof.Setup

@[expose] public section

noncomputable section

namespace Cert.Proof

open Cert.KernelIdeal Cert.KernelIdeal.Gen
open Idealize.ShloMosaic

variable {F : FTy → Type}

/-- `n` steps of `g` from `a`, the step told its number. -/
def itr {α : Type} (g : ℕ → α → α) (a : α) : ℕ → α
  | 0 => a
  | n + 1 => g n (itr g a n)

/-- Lane `n` of a register, taken round. -/
abbrev lane (n : ℕ) : S16.Idx := ix1 16 (by decide) n

theorem ofLane_eq (l : Fin 16) : (Shape.ofLane (d := ![16]) l : S16.Idx) = lane l.val := by
  funext a; obtain rfl : a = 0 := Subsingleton.elim _ _
  exact Fin.ext (Nat.mod_eq_of_lt l.isLt).symm

theorem lane_eq (l : S16.Idx) : lane (l 0).val = l := by
  funext a; obtain rfl : a = 0 := Subsingleton.elim _ _
  exact Fin.ext (Nat.mod_eq_of_lt (l 0).isLt)

/-! ## Elements of a register under a mask -/

/-- The elements of `v` in the first `n` lanes whose mask bit is set, in order. -/
def keptN {α : Type} (m : IVec S16 1) (v : S16.Idx → α) : ℕ → List α
  | 0 => []
  | n + 1 => keptN m v n ++ if m (lane n) = 1#1 then [v (lane n)] else []

theorem keptN_length_le {α : Type} (m : IVec S16 1) (v : S16.Idx → α) (n : ℕ) : (keptN m v n).length ≤ n := by
  induction n with
  | zero => exact le_rfl
  | succ n ih => simp only [keptN]; split <;> simp <;> omega

theorem keptN_length_congr {α β : Type} (m : IVec S16 1) (v : S16.Idx → α) (w : S16.Idx → β) (n : ℕ) :
    (keptN m v n).length = (keptN m w n).length := by
  induction n with
  | zero => rfl
  | succ n ih => simp only [keptN, List.length_append, ih]; split <;> rfl

theorem keptN_length_mono {α : Type} (m : IVec S16 1) (v : S16.Idx → α) {a b : ℕ} (h : a ≤ b) :
    (keptN m v a).length ≤ (keptN m v b).length := by
  induction b, h using Nat.le_induction with
  | base => exact le_rfl
  | succ b _ ih => simp only [keptN, List.length_append]; omega

theorem mem_keptN {α : Type} (m : IVec S16 1) (v : S16.Idx → α) (y : α) (n : ℕ) :
    y ∈ keptN m v n ↔ ∃ l < n, m (lane l) = 1#1 ∧ v (lane l) = y := by
  induction n with
  | zero => simp [keptN]
  | succ n ih =>
    simp only [keptN, List.mem_append, ih]
    constructor
    · rintro (⟨l, hl, h⟩ | h)
      · exact ⟨l, by omega, h⟩
      · split at h
        · next hm => exact ⟨n, by omega, hm, (by simpa using h : y = _).symm⟩
        · simp at h
    · rintro ⟨l, hl, hm, hv⟩
      rcases Nat.lt_succ_iff_lt_or_eq.mp hl with h | rfl
      · exact .inl ⟨l, h, hm, hv⟩
      · right; rw [if_pos hm]; simp [hv]

/-- One where the mask is set, zero elsewhere. -/
abbrev ind (m : IVec S16 1) : IVec S16 32 := select m (broadcast S16 1#32) (broadcast S16 0#32)

theorem ind_apply (m : IVec S16 1) (n : ℕ) : ind m (lane n) = if m (lane n) = 1#1 then 1#32 else 0#32 := by
  simp only [ind]
  rfl

/-- How many lanes before `n` are set. -/
def cntN (m : IVec S16 1) (n : ℕ) : ℕ := (keptN m (fun _ => ()) n).length

theorem cntN_succ (m : IVec S16 1) (n : ℕ) : cntN m (n + 1) = cntN m n + if m (lane n) = 1#1 then 1 else 0 := by
  simp only [cntN, keptN, List.length_append]; split <;> rfl

theorem cntN_le (m : IVec S16 1) (n : ℕ) : cntN m n ≤ n := keptN_length_le m _ n

theorem kept_length {α : Type} (m : IVec S16 1) (v : S16.Idx → α) (n : ℕ) : (keptN m v n).length = cntN m n :=
  keptN_length_congr m v _ n

private theorem filter_succ : ∀ n : Fin 15, ((List.finRange 16).filter fun k : Fin 16 => decide (0 < k.val ∧ k.val ≤ n.val + 1))
    = ((List.finRange 16).filter fun k : Fin 16 => decide (0 < k.val ∧ k.val ≤ n.val)) ++ [n.succ] := by decide

private theorem filter_zero : ((List.finRange 16).filter fun k : Fin 16 => decide (0 < k.val ∧ k.val ≤ 0)) = [] := by decide

/-- The running sum of the mask's ones is the running count. -/
theorem scan_ind (m : IVec S16 1) (n : ℕ) (hn : n < 16) : scan .sum (ind m) (lane n) = BitVec.ofNat 32 (cntN m (n + 1)) := by
  have key : ∀ n < 16, List.foldl (fun (r : BitVec 32) (k : Fin 16) => r + ind m (lane k.val)) (ind m (lane 0))
      ((List.finRange 16).filter fun k : Fin 16 => decide (0 < k.val ∧ k.val ≤ n)) = BitVec.ofNat 32 (cntN m (n + 1)) := by
    intro n hn
    induction n with
    | zero =>
      rw [filter_zero, List.foldl_nil, ind_apply, cntN_succ]
      simp only [cntN, keptN]; split <;> rfl
    | succ n ih =>
      rw [filter_succ ⟨n, by omega⟩, List.foldl_append, ih (by omega), cntN_succ (n := n + 1)]
      show BitVec.ofNat 32 _ + ind m (lane (n + 1)) = _
      rw [ind_apply, BitVec.ofNat_add]
      split <;> rfl
  rw [← key n hn]
  have hj : ((lane n : S16.Idx) 0).val = n := Nat.mod_eq_of_lt hn
  have e : ∀ k : Fin 16, (Shape.ofLane (d := ![16]) k : S16.Idx) = lane k.val := ofLane_eq
  unfold scan
  show List.foldl (fun (r : BitVec 32) (k : Fin 16) => r + ind m (Shape.ofLane (d := ![16]) k)) (ind m (Shape.ofLane (d := ![16]) (⟨0, _⟩ : Fin 16)))
    ((List.finRange 16).filter fun k : Fin 16 => decide (0 < k.val ∧ k.val ≤ ((lane n : S16.Idx) 0).val)) = _
  simp only [hj, e]

/-- The sum before a lane is the count before it. -/
theorem scan_excl (m : IVec S16 1) (n : ℕ) (hn : n < 16) :
    subi (scan .sum (ind m)) (ind m) (lane n) = BitVec.ofNat 32 (cntN m n) := by
  show scan .sum (ind m) (lane n) - ind m (lane n) = _
  rw [scan_ind m n hn, ind_apply, cntN_succ, BitVec.ofNat_add]
  split
  · exact BitVec.add_sub_cancel _ _
  · simp

/-! ## The elements appended by a masked scatter -/

private theorem take_succ : ∀ n : Fin 16, (List.finRange 16).take (n.val + 1) = (List.finRange 16).take n.val ++ [n] := by decide

theorem storeIdx_eq [FloatOps F] (f : Vec F S4112 .f32) (idx : IVec S16 32) (v : Vec F S16 .f32) (m : IVec S16 1)
    (h : ∀ a x, ((![idx] : Fin 1 → IVec S16 32) a x).toNat < S4112.size a) :
    storeIdx f ![idx] v m false h = List.foldl (fun (g : Vec F S4112 .f32) (k : Fin 16) =>
      if m (lane k.val) = 1#1 then fun j => if (j 0).val = (idx (lane k.val)).toNat then v (lane k.val) else g j else g) f (List.finRange 16) := by
  refine congrArg (fun G => List.foldl G f (List.finRange 16)) ?_
  funext g k
  have e : (Shape.ofLane (d := ![16]) k : S16.Idx) = lane k.val := ofLane_eq k
  dsimp only
  simp only [Bool.false_eq_true, if_false]
  rw [e]
  by_cases hm : m (lane k.val) = 1#1
  · refine (if_pos hm).trans (Eq.trans ?_ (if_pos hm).symm)
    funext j
    exact if_congr (Fin.forall_fin_one.trans Iff.rfl) rfl rfl
  · exact (if_neg hm).trans (if_neg hm).symm

/-- The contents with the list `L` written from place `c` on. -/
def app {α : Type} (L : List α) (c : ℕ) (f : S4112.Idx → α) : S4112.Idx → α := fun j =>
  if hj : c ≤ (j 0).val ∧ (j 0).val - c < L.length then L[(j 0).val - c]'hj.2 else f j

theorem app_nil {α : Type} (c : ℕ) (f : S4112.Idx → α) : app [] c f = f := by funext j; simp [app]

theorem app_snoc {α : Type} (L : List α) (y : α) (c : ℕ) (f : S4112.Idx → α) :
    app (L ++ [y]) c f = fun j => if (j 0).val = c + L.length then y else app L c f j := by
  funext j
  unfold app
  by_cases hj : (j 0).val = c + L.length
  · rw [if_pos hj, dif_pos ⟨by omega, by simp; omega⟩, List.getElem_append_right (by omega)]
    simp
  · rw [if_neg hj]
    by_cases hc : c ≤ (j 0).val ∧ (j 0).val - c < L.length
    · rw [dif_pos hc, dif_pos ⟨hc.1, by simp; omega⟩, List.getElem_append_left hc.2]
    · rw [dif_neg hc, dif_neg]
      simp; intro _; omega

/-- A masked scatter at consecutive places from `c` on appends the kept elements there and leaves the rest. -/
theorem storeIdx_kept [FloatOps F] (f : Vec F S4112 .f32) (idx : IVec S16 32) (v : Vec F S16 .f32) (m : IVec S16 1) (c : ℕ)
    (hi : ∀ n < 16, (idx (lane n)).toNat = c + cntN m n) (h : ∀ a x, ((![idx] : Fin 1 → IVec S16 32) a x).toNat < S4112.size a)
    (j : S4112.Idx) :
    storeIdx f ![idx] v m false h j
      = app (keptN m v 16) c f j := by
  have key : ∀ n ≤ 16, ((List.finRange 16).take n).foldl (fun (g : Vec F S4112 .f32) (k : Fin 16) =>
      if m (lane k.val) = 1#1 then fun j => if (j 0).val = (idx (lane k.val)).toNat then v (lane k.val) else g j else g) f
      = app (keptN m v n) c f := by
    intro n hn
    induction n with
    | zero => rw [show keptN m v 0 = [] from rfl, app_nil]; rfl
    | succ n ih =>
      rw [take_succ ⟨n, by omega⟩, List.foldl_append, ih (by omega), List.foldl_cons, List.foldl_nil]
      show (if m (lane n) = 1#1 then _ else _) = _
      by_cases hm : m (lane n) = 1#1
      · rw [if_pos hm, show keptN m v (n + 1) = keptN m v n ++ [v (lane n)] by simp [keptN, hm], app_snoc, kept_length]
        simp only [hi n (by omega)]
      · rw [if_neg hm, show keptN m v (n + 1) = keptN m v n by simp [keptN, hm]]
  rw [storeIdx_eq]
  have := congrFun (key 16 le_rfl) j
  rwa [show (List.finRange 16).take 16 = List.finRange 16 from List.take_of_length_le (by simp)] at this

/-! ## The row's registers and its elements above the threshold -/

section Row
variable [FloatOps F]

abbrev V16 (F : FTy → Type) : Type := S16.Idx → F .f32

abbrev ones : V16 F := broadcast S16 (Scalar.ofBits .f32 0x3F800000#32)
abbrev zeros : V16 F := broadcast S16 (Scalar.ofBits .f32 0x00000000#32)
abbrev halves : V16 F := broadcast S16 (Scalar.ofBits .f32 0x3F000000#32)

/-- Each lane takes the lane whose number differs from its own in `k`. -/
def shuf (k : ℕ) (v : V16 F) : V16 F := fun l => v (lane ((l 0).val ^^^ k))

/-- `op` over all lanes, in every lane. -/
def bfly (op : V16 F → V16 F → V16 F) (v : V16 F) : V16 F :=
  let a := op v (shuf 8 v)
  let b := op a (shuf 4 a)
  let c := op b (shuf 2 b)
  op c (shuf 1 c)

/-- The maxima of registers `16 b + k`, `16 b + 4 + k`, … of a row. -/
def blk4 (x : ℕ → F .f32) (b k : ℕ) : ℕ → V16 F :=
  itr (fun i a => maximumf a (vec x (16 * b + 4 * (i + 1) + k))) (vec x (16 * b + k))

/-- The maxima, lane by lane, of the sixteen registers of block `b`. -/
def blkMax (x : ℕ → F .f32) (b : ℕ) : V16 F :=
  maximumf (maximumf (blk4 x b 0 3) (blk4 x b 1 3)) (maximumf (blk4 x b 2 3) (blk4 x b 3 3))

/-- The running maximum over the blocks. -/
def gAcc (x : ℕ → F .f32) : ℕ → V16 F := itr (fun b g => maximumf g (blkMax x b)) (vec x 0)

/-- The row's largest element, in every lane. -/
def rowMax (x : ℕ → F .f32) : V16 F := bfly maximumf (gAcc x 16)

/-- One below it. -/
def thr (x : ℕ → F .f32) : V16 F := subf (rowMax x) ones

/-- The elements of register `v` above `t`, in order. -/
def kept (t v : V16 F) : List (F .f32) := keptN (cmpf .ogt v t) v 16

theorem kept_length_le (t v : V16 F) : (kept t v).length ≤ 16 := keptN_length_le _ _ _

/-- The elements above `t` of the first `n` registers of block `b`, after `L`. -/
def blkL (x : ℕ → F .f32) (t : V16 F) (b : ℕ) (L : List (F .f32)) : ℕ → List (F .f32) :=
  itr (fun j L => L ++ kept t (vec x (16 * b + j))) L

/-- The elements above `t` of the first `n` blocks, a block whose maxima are not above `t` passed over. -/
def rowL (x : ℕ → F .f32) (t : V16 F) : ℕ → List (F .f32)
  | 0 => []
  | b + 1 => if 0 < cntN (cmpf .ogt (blkMax x b) t) 16 then blkL x t b (rowL x t b) 16 else rowL x t b

theorem cntN_lt_17 (m : IVec S16 1) : cntN m 16 ≤ 16 := cntN_le m 16

theorem blkL_length_le (x : ℕ → F .f32) (t : V16 F) (b : ℕ) (L : List (F .f32)) (n : ℕ) :
    (blkL x t b L n).length ≤ L.length + 16 * n := by
  induction n with
  | zero => exact le_rfl
  | succ n ih =>
    show (blkL x t b L n ++ kept t (vec x (16 * b + n))).length ≤ _
    have := kept_length_le t (vec x (16 * b + n))
    rw [List.length_append]; omega

theorem rowL_length_le (x : ℕ → F .f32) (t : V16 F) (b : ℕ) : (rowL x t b).length ≤ 256 * b := by
  induction b with
  | zero => exact le_rfl
  | succ b ih =>
    simp only [rowL]
    split
    · have := blkL_length_le x t b (rowL x t b) 16; omega
    · omega

/-! ## The solver -/

/-- The list with the register `p` after it. -/
def padded (L : List (F .f32)) (p : V16 F) (n : ℕ) : F .f32 := if h : n < L.length then L[n] else p (lane (n - L.length))

/-- What one register takes off each element: the part above `t`. -/
def relu (t v : V16 F) : V16 F := maximumf (subf v t) zeros

/-- One where the element lies above `t`. -/
def above (t v : V16 F) : V16 F := select (cmpf .ogt (subf v t) zeros) ones zeros

/-- Lane `n` of a register in every lane. -/
def bc (v : V16 F) (n : ℕ) : V16 F := broadcast S16 (v (lane n))

/-- Sixteen registers added as a tree. -/
def tree (a : ℕ → V16 F) : V16 F :=
  addf (addf (addf (addf (a 0) (a 1)) (addf (a 2) (a 3))) (addf (addf (a 4) (a 5)) (addf (a 6) (a 7))))
    (addf (addf (addf (a 8) (a 9)) (addf (a 10) (a 11))) (addf (addf (a 12) (a 13)) (addf (a 14) (a 15))))

def midOf (lo hi : V16 F) : V16 F := mulf halves (addf lo hi)

/-- One halving of the bracket `(lo, hi)`: the half on whose lower end the excess `S` is still at least one. -/
def bisStep (S : V16 F → V16 F) (b : V16 F × V16 F) : V16 F × V16 F :=
  (select (cmpf .oge (S (midOf b.1 b.2)) ones) (midOf b.1 b.2) b.1,
    select (cmpf .oge (S (midOf b.1 b.2)) ones) b.2 (midOf b.1 b.2))

/-- One Newton step: excess less one, over the count (at least one). -/
def newton (S C : V16 F → V16 F) (t : V16 F) : V16 F := addf t (divf (subf (S t) ones) (maximumf (C t) ones))

/-- Sixteen halvings from `(lo, hi)`, then two Newton steps from the middle. -/
def solve (S C : V16 F → V16 F) (lo hi : V16 F) : V16 F :=
  itr (fun _ => newton S C) (midOf (itr (fun _ => bisStep S) (lo, hi) 16).1 (itr (fun _ => bisStep S) (lo, hi) 16).2) 2

def regSum (v t : V16 F) : V16 F := tree fun n => relu t (bc v n)
def regCnt (v t : V16 F) : V16 F := tree fun n => above t (bc v n)
def loopSum (w : ℕ → V16 F) (n : ℕ) (t : V16 F) : V16 F := bfly addf (itr (fun k a => addf a (relu t (w k))) zeros n)
def loopCnt (w : ℕ → V16 F) (n : ℕ) (t : V16 F) : V16 F := bfly addf (itr (fun k a => addf a (above t (w k))) zeros n)

/-- The row's elements above its threshold, in order. -/
def rowC (x : ℕ → F .f32) : List (F .f32) := rowL x (thr x) 16

theorem rowC_length_le (x : ℕ → F .f32) : (rowC x).length ≤ 4096 := rowL_length_le x (thr x) 16

/-- The candidates and after them one register two below the row's largest element. -/
def rowP (x : ℕ → F .f32) : ℕ → F .f32 := padded (rowC x) (subf (thr x) ones)

/-- How many registers the candidates fill. -/
def rowN (x : ℕ → F .f32) : ℕ := ((rowC x).length + 15) / 16

/-- The row's shift: by one register of candidates where they fit one, else by a loop over their registers. -/
def tau (x : ℕ → F .f32) : V16 F :=
  if (rowC x).length ≤ 16 then solve (regSum (vec (rowP x) 0)) (regCnt (vec (rowP x) 0)) (thr x) (rowMax x)
  else solve (loopSum (vec (rowP x)) (rowN x)) (loopCnt (vec (rowP x)) (rowN x)) (thr x) (rowMax x)

/-- The row written back: each element less the shift, or zero. -/
def rowOut (x : ℕ → F .f32) (c : ℕ) : F .f32 := relu (tau x) (vec x (c / 16)) (lane c)

end Row

end Cert.Proof

end
-- ==== Proof.Ops.lean ====
/- A tile's loads, stores, gathers and loops as rules over the contents of its buffers: a run from given contents ends
   with a value and contents of which something holds. -/
module

public import proofs.«01_k».proof.Proof.Model

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-- The contents of a tile's four buffers: the ring, the candidates, the block maxima, the sixteen words lanes are
    exchanged through. -/
structure St (F : FTy → Type) where
  buf : Vec F S3x8x4096 .f32
  cand : Vec F S4112 .f32
  blks : Vec F S256 .f32
  lanes : Vec F S16 .f32

section Rules

variable (d : Dev nD) (i : grid0.Coords) (s : ℕ)

/-- Slot `s` of the ring and the other three buffers, at the contents `st`. -/
def Own (st : St F) : sProp 𝕄 :=
  iprop(((bufM : Memref sig .scVector .vmem S3x8x4096 .f32).view.loc (tl d i) ↦[slotSet s]{fullShare} st.buf)
    ∗ ((candM : Memref sig .scVector .vmem S4112 .f32).view.loc (tl d i) ↦{fullShare} st.cand)
    ∗ ((blksM : Memref sig .scVector .vmem S256 .f32).view.loc (tl d i) ↦{fullShare} st.blks)
    ∗ ((lanesM : Memref sig .scVector .vmem S16 .f32).view.loc (tl d i) ↦{fullShare} st.lanes))

/-- The tile's programs. -/
abbrev TProg (F : FTy → Type) (i : grid0.Coords) : Type → Type 1 :=
  Prog (TpuEff nD τ sig (Elt F) Λ₀ (.scVector ((i 0).castLE hcore0) ((i 1).castLE hsub0)))

/-- From the contents `st` the program ends with a value and contents of which `P` holds. -/
def Runs {α : Type} (st : St F) (p : TProg F i α) (P : α → St F → Prop) : Prop :=
  Own d i s st ⊢ wp frame (wpE defs₀ 𝒱₀ (tl d i) none) Set.univ p fun r => iprop(∃ st', ⌜P r st'⌝ ∗ Own d i s st')

variable {d i s} {α β : Type} {st : St F} {P : β → St F → Prop}

theorem Runs.ent {p : TProg F i β} (h : Runs d i s st p P) :
    Own d i s st ⊢ wp frame (wpE defs₀ 𝒱₀ (tl d i) none) Set.univ p fun r => iprop(∃ st', ⌜P r st'⌝ ∗ Own d i s st') := h

theorem Runs.ret {p : α} {P : α → St F → Prop} (h : P p st) : Runs d i s st (Pure.pure p) P := by
  unfold Runs
  rw [wp_pure]
  iintro H
  imodintro
  iexists st
  isplitr
  · ipureintro; exact h
  · iexact H

theorem Runs.bind {p : TProg F i α} {k : α → TProg F i β} {M : α → St F → Prop} (h : Runs d i s st p M)
    (hk : ∀ a st', M a st' → Runs d i s st' (k a) P) : Runs d i s st (p >>= k) P := by
  unfold Runs
  rw [wp_bind]
  refine h.trans (wp_mono _ _ _ fun a => ?_)
  iintro ⟨%st', %hM, H⟩
  iapply (hk a st' hM).ent
  iexact H

theorem Runs.mono {p : TProg F i β} {P' : β → St F → Prop} (h : Runs d i s st p P') (hP : ∀ a st', P' a st' → P a st') :
    Runs d i s st p P := by
  refine h.trans (wp_mono _ _ _ fun a => ?_)
  iintro ⟨%st', %hM, H⟩
  iexists st'
  isplitr
  · ipureintro; exact hP a st' hM
  · iexact H

theorem Runs.assume {Q : Prop} {dc : Decidable Q} {k : PLift Q → TProg F i β} (h : Q) (hk : Runs d i s st (k ⟨h⟩) P) :
    Runs d i s st (Prog.lift (TpuEff.assume Q dc) >>= k) P := by
  refine BI.Entails.trans hk ?_
  show _ ⊢ wp _ _ _ (.op (.assume Q dc) k) _
  exact wp_assume 𝒱₀ (tl d i) none Set.univ h

/-- A loop: what holds of the running value and the contents before trip `k` holds after the last one. -/
theorem Runs.loop {l : Scf.Loop 32} {hok : l.OK} {init : α} {body : Fin l.trips → α → TProg F i α} {k : α → TProg F i β}
    (I : ℕ → α → St F → Prop) (h0 : I 0 init st)
    (hb : ∀ (n : Fin l.trips) acc st', I n acc st' → Runs d i s st' (body n acc) (I (n.val + 1)))
    (hk : ∀ acc st', I l.trips acc st' → Runs d i s st' (k acc) P) : Runs d i s st (Scf.Loop.for l hok init body >>= k) P := by
  unfold Runs
  iintro H
  ihave HI : iprop(∃ st', ⌜I 0 init st'⌝ ∗ Own d i s st') $$ [H]
  · iexists st
    isplitr
    · ipureintro; exact h0
    · iexact H
  iapply (Scf.wp_for_bind frame (wpE defs₀ 𝒱₀ (tl d i) none) Set.univ l.lb l.ub l.st hok init body
    (fun n acc => iprop(∃ st', ⌜I n acc st'⌝ ∗ Own d i s st')) ?_) $$ HI
  · intro n acc
    iintro ⟨%st', %hI, H⟩
    iapply (hb n acc st' hI).ent
    iexact H
  · iintro %acc ⟨%st', %hI, H⟩
    iapply (hk acc st' hI).ent
    iexact H

/-- One register of the ring as a load of it returns it. -/
def ldv (v : V16 F) : Vec F S1x1x16 .f32 := shapeCast S1x1x16 v shapeCasts_S16_S1x1x16

theorem cast_ldv (v : V16 F) : shapeCast S16 (ldv v) shapeCasts_S1x1x16_S16 = v := by
  unfold ldv
  exact shapeCast_shapeCast _ _ _

theorem Runs.load_buf {off : Fin 3 → ℕ} {h : ∀ a, off a + S1x1x16.size a ≤ S3x8x4096.size a}
    {hl : (bufM : Memref sig .scVector .vmem S3x8x4096 .f32).view.LoadsAt (Rect.unit (s := S3x8x4096) off S1x1x16.size h).toLoadRect}
    {k : Vec F S1x1x16 .f32 → TProg F i β} (r j : ℕ) (he : off = ![s, r, 16 * j])
    (hk : Runs d i s st (k (ldv (vec (rowOf st.buf s r) j))) P) :
    Runs d i s st (Prog.lift (.load bufM (Rect.unit (s := S3x8x4096) off S1x1x16.size h).toLoadRect hl) >>= k) P := by
  have hv : (bufM : Memref sig .scVector .vmem S3x8x4096 .f32).view.readAt (Elt F) (Rect.unit (s := S3x8x4096) off S1x1x16.size h).toLoadRect st.buf
      = ldv (vec (rowOf st.buf s r) j) := by
    rw [ldv, ← buf_read st.buf s r j off h he shapeCasts_S1x1x16_S16, shapeCast_shapeCast]
  unfold Runs
  show _ ⊢ wp _ _ _ (.op (.load bufM (Rect.unit (s := S3x8x4096) off S1x1x16.size h).toLoadRect hl) k) _
  rw [Own]
  iintro ⟨Hb, Hr⟩
  iapply (wp_load 𝒱₀ (tl d i) none Set.univ (slot_of_rect s r j off h he)) $$ Hb
  iintro Hb
  rw [hv]
  iapply hk.ent
  unfold Own
  isplitl [Hb]
  · iexact Hb
  · iexact Hr

theorem ofLane_mod (n : ℕ) (v : V16 F) : v (Shape.ofLane (d := ![16]) ⟨n % 16, Nat.mod_lt _ (by decide)⟩) = v (lane n) := by
  refine congrArg v ((ofLane_eq ⟨n % 16, Nat.mod_lt _ (by decide)⟩).trans ?_)
  funext a; obtain rfl : a = 0 := Subsingleton.elim _ _
  exact Fin.ext (Nat.mod_mod _ _)

theorem buf_put (f : Vec F S3x8x4096 .f32) (s r j : ℕ) (off : Fin 3 → ℕ) (h : ∀ a, off a + S1x1x16.size a ≤ S3x8x4096.size a)
    (he : off = ![s, r, 16 * j]) (v : V16 F) :
    ((bufM : Memref sig .scVector .vmem S3x8x4096 .f32).access (Rect.unit (s := S3x8x4096) off S1x1x16.size h)).write (Elt F) f
        (shapeCast S1x1x16 v shapeCasts_S16_S1x1x16) Finset.univ
      = fun x : S3x8x4096.Idx => if (x 0).val = s ∧ (x 1).val = r ∧ (x 2).val / 16 = j then v (lane (x 2).val) else f x :=
  funext fun x => (buf_write f s r j off h he shapeCasts_S16_S1x1x16 v x).trans (if_congr Iff.rfl (ofLane_mod _ v) rfl)

theorem cand_put (f : Vec F S4112 .f32) (off : Fin 1 → ℕ) (n : ℕ) (h : ∀ a, off a + S16.size a ≤ S4112.size a) (he : off 0 = n) (v : V16 F) :
    ((candM : Memref sig .scVector .vmem S4112 .f32).access (Rect.unit (s := S4112) off S16.size h)).write (Elt F) f v Finset.univ
      = fun x : S4112.Idx => if n ≤ (x 0).val ∧ (x 0).val < n + 16 then v (lane ((x 0).val - n)) else f x := by
  funext x
  refine (cand_write f off n h he v x).trans ?_
  split
  · next hc => exact (congrArg v (ofLane_eq ⟨(x 0).val - n, by omega⟩))
  · rfl

theorem blks_put (f : Vec F S256 .f32) (off : Fin 1 → ℕ) (j : ℕ) (h : ∀ a, off a + S16.size a ≤ S256.size a) (he : off 0 = 16 * j) (v : V16 F) :
    ((blksM : Memref sig .scVector .vmem S256 .f32).access (Rect.unit (s := S256) off S16.size h)).write (Elt F) f v Finset.univ
      = fun x : S256.Idx => if (x 0).val / 16 = j then v (lane (x 0).val) else f x :=
  funext fun x => (blks_write f off j h he v x).trans (if_congr Iff.rfl (ofLane_mod _ v) rfl)

omit [FloatOps F] in
theorem slot_of_access (r j : ℕ) (off : Fin 3 → ℕ) (h : ∀ a, off a + S1x1x16.size a ≤ S3x8x4096.size a) (he : off = ![s, r, 16 * j]) :
    ((bufM : Memref sig .scVector .vmem S3x8x4096 .f32).access (Rect.unit (s := S3x8x4096) off S1x1x16.size h)).setOn Finset.univ ⊆ slotSet s := by
  rw [View.setOn_univ]
  show ((bufM : Memref sig .scVector .vmem S3x8x4096 .f32).view.slice (Rect.unit (s := S3x8x4096) off S1x1x16.size h)).set ⊆ _
  rw [View.set_slice]
  exact slot_of_rect s r j off h he

theorem Runs.store_buf {off : Fin 3 → ℕ} {h : ∀ a, off a + S1x1x16.size a ≤ S3x8x4096.size a} {v : V16 F}
    {hx : ((bufM : Memref sig .scVector .vmem S3x8x4096 .f32).access (Rect.unit (s := S3x8x4096) off S1x1x16.size h)).Stores Finset.univ}
    {hm : (Finset.univ : Finset (Rect.unit (s := S3x8x4096) off S1x1x16.size h).shape.Idx) = Finset.univ ∨ ∀ a, (Rect.unit (s := S3x8x4096) off S1x1x16.size h).stride a = 1}
    {k : PUnit → TProg F i β} (r j : ℕ) (he : off = ![s, r, 16 * j])
    (hk : Runs d i s { st with buf := fun x => if (x 0).val = s ∧ (x 1).val = r ∧ (x 2).val / 16 = j then v (lane (x 2).val) else st.buf x } (k ⟨⟩) P) :
    Runs d i s st (Prog.lift (.store bufM (Rect.unit (s := S3x8x4096) off S1x1x16.size h) (shapeCast S1x1x16 v shapeCasts_S16_S1x1x16) Finset.univ hx hm) >>= k) P := by
  unfold Runs
  show _ ⊢ wp _ _ _ (.op (.store bufM (Rect.unit (s := S3x8x4096) off S1x1x16.size h) (shapeCast S1x1x16 v shapeCasts_S16_S1x1x16) Finset.univ hx hm) k) _
  rw [Own]
  iintro ⟨Hb, Hr⟩
  iapply (wp_store 𝒱₀ (tl d i) none Set.univ (m := bufM) (r := Rect.unit (s := S3x8x4096) off S1x1x16.size h)
    (w := shapeCast S1x1x16 v shapeCasts_S16_S1x1x16) (f := st.buf) (slot_of_access r j off h he)) $$ Hb
  iintro Hb
  rw [buf_put st.buf s r j off h he v]
  iapply hk.ent
  rw [Own]
  isplitl [Hb]
  · iexact Hb
  · iexact Hr

theorem Runs.load_cand {off : Fin 1 → ℕ} {h : ∀ a, off a + S16.size a ≤ S4112.size a}
    {hl : (candM : Memref sig .scVector .vmem S4112 .f32).view.LoadsAt (Rect.unit (s := S4112) off S16.size h).toLoadRect}
    {k : Vec F S16 .f32 → TProg F i β} (j : ℕ) (he : off 0 = 16 * j) (hk : Runs d i s st (k (vec (cd st.cand) j)) P) :
    Runs d i s st (Prog.lift (.load candM (Rect.unit (s := S4112) off S16.size h).toLoadRect hl) >>= k) P := by
  unfold Runs
  show _ ⊢ wp _ _ _ (.op (.load candM (Rect.unit (s := S4112) off S16.size h).toLoadRect hl) k) _
  rw [Own]
  iintro ⟨Hb, Hc, Hr⟩
  iapply (wp_load 𝒱₀ (tl d i) none Set.univ (Finset.subset_univ _)) $$ Hc
  iintro Hc
  rw [cand_read st.cand off (16 * j) h he]
  iapply hk.ent
  rw [Own]
  isplitl [Hb]
  · iexact Hb
  isplitl [Hc] <;> iassumption

theorem Runs.load_blks {off : Fin 1 → ℕ} {h : ∀ a, off a + S16.size a ≤ S256.size a}
    {hl : (blksM : Memref sig .scVector .vmem S256 .f32).view.LoadsAt (Rect.unit (s := S256) off S16.size h).toLoadRect}
    {k : Vec F S16 .f32 → TProg F i β} (j : ℕ) (he : off 0 = 16 * j) (hk : Runs d i s st (k (vec (bk st.blks) j)) P) :
    Runs d i s st (Prog.lift (.load blksM (Rect.unit (s := S256) off S16.size h).toLoadRect hl) >>= k) P := by
  unfold Runs
  show _ ⊢ wp _ _ _ (.op (.load blksM (Rect.unit (s := S256) off S16.size h).toLoadRect hl) k) _
  rw [Own]
  iintro ⟨Hb, Hc, Hk, Hl⟩
  iapply (wp_load 𝒱₀ (tl d i) none Set.univ (Finset.subset_univ _)) $$ Hk
  iintro Hk
  rw [blks_read st.blks off j h he]
  iapply hk.ent
  rw [Own]
  isplitl [Hb]
  · iexact Hb
  isplitl [Hc]
  · iexact Hc
  isplitl [Hk] <;> iassumption

/-- A load of the candidates whose value is not used. -/
theorem Runs.load_cand' {off : Fin 1 → ℕ} {h : ∀ a, off a + S16.size a ≤ S4112.size a}
    {hl : (candM : Memref sig .scVector .vmem S4112 .f32).view.LoadsAt (Rect.unit (s := S4112) off S16.size h).toLoadRect}
    {k : Vec F S16 .f32 → TProg F i β} (hk : ∀ v, Runs d i s st (k v) P) :
    Runs d i s st (Prog.lift (.load candM (Rect.unit (s := S4112) off S16.size h).toLoadRect hl) >>= k) P := by
  unfold Runs
  show _ ⊢ wp _ _ _ (.op (.load candM (Rect.unit (s := S4112) off S16.size h).toLoadRect hl) k) _
  rw [Own]
  iintro ⟨Hb, Hc, Hr⟩
  iapply (wp_load 𝒱₀ (tl d i) none Set.univ (Finset.subset_univ _)) $$ Hc
  iintro Hc
  iapply (hk _).ent
  rw [Own]
  isplitl [Hb]
  · iexact Hb
  isplitl [Hc] <;> iassumption

theorem Runs.store_cand {off : Fin 1 → ℕ} {h : ∀ a, off a + S16.size a ≤ S4112.size a} {v : V16 F}
    {hx : ((candM : Memref sig .scVector .vmem S4112 .f32).access (Rect.unit (s := S4112) off S16.size h)).Stores Finset.univ}
    {hm : (Finset.univ : Finset (Rect.unit (s := S4112) off S16.size h).shape.Idx) = Finset.univ ∨ ∀ a, (Rect.unit (s := S4112) off S16.size h).stride a = 1}
    {k : PUnit → TProg F i β} (n : ℕ) (he : off 0 = n)
    (hk : Runs d i s { st with cand := fun x => if n ≤ (x 0).val ∧ (x 0).val < n + 16 then v (lane ((x 0).val - n)) else st.cand x } (k ⟨⟩) P) :
    Runs d i s st (Prog.lift (.store candM (Rect.unit (s := S4112) off S16.size h) v Finset.univ hx hm) >>= k) P := by
  unfold Runs
  show _ ⊢ wp _ _ _ (.op (.store candM (Rect.unit (s := S4112) off S16.size h) v Finset.univ hx hm) k) _
  rw [Own]
  iintro ⟨Hb, Hc, Hr⟩
  iapply (wp_store 𝒱₀ (tl d i) none Set.univ (m := candM) (r := Rect.unit (s := S4112) off S16.size h)
    (w := v) (f := st.cand) (S := Finset.univ) (Finset.subset_univ _)) $$ Hc
  iintro Hc
  rw [cand_put st.cand off n h he v]
  iapply hk.ent
  rw [Own]
  isplitl [Hb]
  · iexact Hb
  isplitl [Hc]
  · iexact Hc
  · iexact Hr

theorem Runs.store_blks {off : Fin 1 → ℕ} {h : ∀ a, off a + S16.size a ≤ S256.size a} {v : V16 F}
    {hx : ((blksM : Memref sig .scVector .vmem S256 .f32).access (Rect.unit (s := S256) off S16.size h)).Stores Finset.univ}
    {hm : (Finset.univ : Finset (Rect.unit (s := S256) off S16.size h).shape.Idx) = Finset.univ ∨ ∀ a, (Rect.unit (s := S256) off S16.size h).stride a = 1}
    {k : PUnit → TProg F i β} (j : ℕ) (he : off 0 = 16 * j)
    (hk : Runs d i s { st with blks := fun x => if (x 0).val / 16 = j then v (lane (x 0).val) else st.blks x } (k ⟨⟩) P) :
    Runs d i s st (Prog.lift (.store blksM (Rect.unit (s := S256) off S16.size h) v Finset.univ hx hm) >>= k) P := by
  unfold Runs
  show _ ⊢ wp _ _ _ (.op (.store blksM (Rect.unit (s := S256) off S16.size h) v Finset.univ hx hm) k) _
  rw [Own]
  iintro ⟨Hb, Hc, Hk, Hl⟩
  iapply (wp_store 𝒱₀ (tl d i) none Set.univ (m := blksM) (r := Rect.unit (s := S256) off S16.size h)
    (w := v) (f := st.blks) (S := Finset.univ) (Finset.subset_univ _)) $$ Hk
  iintro Hk
  rw [blks_put st.blks off j h he v]
  iapply hk.ent
  rw [Own]
  isplitl [Hb]
  · iexact Hb
  isplitl [Hc]
  · iexact Hc
  isplitl [Hk]
  · iexact Hk
  · iexact Hl

/-- A register's lanes exchanged through the sixteen words: a load not used, the store, the gather. -/
theorem Runs.exchange {h : ∀ a, (![0] : Fin 1 → ℕ) a + S16.size a ≤ S16.size a} {v : V16 F} (kx : ℕ) (hkx : kx < 16)
    {idx : IVec S16 32} (hidx : ∀ l < 16, (idx (lane l)).toNat = l ^^^ kx)
    {hl : (lanesM : Memref sig .scVector .vmem S16 .f32).view.LoadsAt (Rect.unit (s := S16) ![0] S16.size h).toLoadRect}
    {hx : ((lanesM : Memref sig .scVector .vmem S16 .f32).access (Rect.unit (s := S16) ![0] S16.size h)).Stores Finset.univ}
    {hm : (Finset.univ : Finset (Rect.unit (s := S16) ![0] S16.size h).shape.Idx) = Finset.univ ∨ ∀ a, (Rect.unit (s := S16) ![0] S16.size h).stride a = 1}
    {hi : ∀ a x, ((![idx] : Fin 1 → IVec S16 32) a x).toNat < S16.size a} {hg : (lanesM : Memref sig .scVector .vmem S16 .f32).view.Loads}
    {k : Vec F S16 .f32 → TProg F i β}
    (hk : ∀ st', st'.buf = st.buf → st'.cand = st.cand → st'.blks = st.blks → Runs d i s st' (k (shuf kx v)) P) :
    Runs d i s st (Prog.lift (.load lanesM (Rect.unit (s := S16) ![0] S16.size h).toLoadRect hl) >>= fun _ =>
      Prog.lift (.store lanesM (Rect.unit (s := S16) ![0] S16.size h) v Finset.univ hx hm) >>= fun _ =>
      SparseCore.vectorLoadIdx lanesM ![idx] hi hg >>= k) P := by
  unfold Runs
  show _ ⊢ wp _ _ _ (.op (.load lanesM (Rect.unit (s := S16) ![0] S16.size h).toLoadRect hl) fun _ =>
      .op (.store lanesM (Rect.unit (s := S16) ![0] S16.size h) v Finset.univ hx hm) fun _ =>
      SparseCore.vectorLoadIdx lanesM ![idx] hi hg >>= k) _
  rw [Own]
  iintro ⟨Hb, Hc, Hk, Hl⟩
  iapply (wp_load 𝒱₀ (tl d i) none Set.univ (Finset.subset_univ _)) $$ Hl
  iintro Hl
  iapply (wp_store 𝒱₀ (tl d i) none Set.univ (m := lanesM) (r := Rect.unit (s := S16) ![0] S16.size h)
    (w := v) (f := st.lanes) (S := Finset.univ) (Finset.subset_univ _)) $$ Hl
  iintro Hl
  iapply (SparseCore.wp_vectorLoadIdx 𝒱₀ (tl d i) none Set.univ (base := lanesM) (S := Finset.univ) (Finset.subset_univ _)) $$ Hl
  iintro Hl
  rw [lanes_write st.lanes v h]
  have hv : loadIdx (((lanesM : Memref sig .scVector .vmem S16 .f32).access (.whole S16)).read (Elt F) v) ![idx] hi = shuf kx v := by
    refine S16_ext fun l => ?_
    rw [ofLane_eq]
    have e : ((lanesM : Memref sig .scVector .vmem S16 .f32).access (.whole S16)).read (Elt F) v = v := Memref.read_access_whole _ _ _
    rw [e]
    show v (idxAt (s := S16) ![idx] hi (lane l.val)) = v (lane (((lane l.val : S16.Idx) 0).val ^^^ kx))
    congr 1
    funext a; obtain rfl : a = 0 := Subsingleton.elim _ _
    apply Fin.ext
    show (idx (lane l.val)).toNat = (((l.val % 16) ^^^ kx) % 16)
    rw [hidx l.val l.isLt, Nat.mod_eq_of_lt l.isLt, Nat.mod_eq_of_lt (Nat.xor_lt_two_pow (n := 4) l.isLt hkx)]
  rw [hv]
  iapply (hk { st with lanes := v } rfl rfl rfl).ent
  rw [Own]
  isplitl [Hb]
  · iexact Hb
  isplitl [Hc]
  · iexact Hc
  isplitl [Hk] <;> iassumption

/-- A masked scatter into the candidates. -/
theorem Runs.scatter {idx : IVec S16 32} {v : V16 F} {m : IVec S16 1}
    {hi : ∀ a x, ((![idx] : Fin 1 → IVec S16 32) a x).toNat < S4112.size a}
    {hs : ((candM : Memref sig .scVector .vmem S4112 .f32).access (.whole S4112)).Stores Finset.univ}
    {k : PUnit → TProg F i β} (hk : Runs d i s { st with cand := storeIdx st.cand ![idx] v m false hi } (k ⟨⟩) P) :
    Runs d i s st (SparseCore.vectorStoreIdx candM ![idx] v m false hi hs >>= k) P := by
  unfold Runs
  rw [Own]
  iintro ⟨Hb, Hc, Hr⟩
  have hset : ((candM : Memref sig .scVector .vmem S4112 .f32).access (.whole S4112)).set = Finset.univ := Memref.set_access_whole _
  have hr : ((candM : Memref sig .scVector .vmem S4112 .f32).access (.whole S4112)).read (Elt F) st.cand = st.cand := Memref.read_access_whole _ _ _
  have hw : ∀ g, ((candM : Memref sig .scVector .vmem S4112 .f32).access (.whole S4112)).write (Elt F) st.cand g Finset.univ = g :=
    fun g => Memref.write_access_whole_univ _ _ _ _
  have key := SparseCore.wp_vectorStoreIdx (defs := defs₀) 𝒱₀ (tl d i) none Set.univ (base := candM) (idxs := ![idx]) (v := v) (mask := m)
    (add := false) (h := hi) (hs := hs) (k := k) (f := st.cand) (Q := fun r => iprop(∃ st', ⌜P r st'⌝ ∗ Own d i s st'))
  rw [hset, hr, hw] at key
  iapply key $$ Hc
  iintro Hc
  iapply hk.ent
  rw [Own]
  isplitl [Hb]
  · iexact Hb
  isplitl [Hc]
  · iexact Hc
  · iexact Hr

end Rules

end Cert.Proof

end
-- ==== Proof.RowMax.lean ====
/- The first part of a row's program: the maxima of its blocks, its largest element and the threshold. -/
module

public import proofs.«01_k».proof.Proof.Ops

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

section

variable {d : Dev nD} {i : grid0.Coords} {h2 : (xM : Memref sig .scVector .hbm S8192x4096 .f32).IsWhole}
  {h3 : (oM : Memref sig .scVector .hbm S8192x4096 .f32).IsWhole} {h4 : (bufM : Memref sig .scVector .vmem S3x8x4096 .f32).IsWhole}
  {h5 : (candM : Memref sig .scVector .vmem S4112 .f32).IsWhole} {h6 : (blksM : Memref sig .scVector .vmem S256 .f32).IsWhole}
  {h7 : (lanesM : Memref sig .scVector .vmem S16 .f32).IsWhole} {a8 a9 : DmaSems sig S3}
  {t1 : Fin k0_t1_loop.trips} {t2 : Fin k0_t2_loop.trips} {w43 w12 w14 wa wb : BitVec 32} {st : St F}

/-- The row a trip works on, as it lies in the ring. -/
abbrev inRow (t1 : Fin k0_t1_loop.trips) (t2 : Fin k0_t2_loop.trips) (st : St F) : ℕ → F .f32 := rowOf st.buf (t1.val % 3) t2.val

theorem part1_run {t3 : Fin k0_t3_loop.trips} {t4 : Fin k0_t4_loop.trips} {a b c : V16 F} :
    Runs d i (t1.val % 3) st (k0_part1 i xM h2 oM h3 bufM h4 candM h5 blksM h6 lanesM h7 a8 a9 t1 w43 t2 w12 t3 w14 wa wb t4 a b c)
      (fun r st' => st' = st ∧ r.1 = maximumf a (vec (inRow t1 t2 st) (16 * t3.val + 4 * (t4.val + 1) + 0))
        ∧ r.2.1 = maximumf b (vec (inRow t1 t2 st) (16 * t3.val + 4 * (t4.val + 1) + 1))
        ∧ r.2.2.1 = maximumf c (vec (inRow t1 t2 st) (16 * t3.val + 4 * (t4.val + 1) + 2))
        ∧ r.2.2.2 = vec (inRow t1 t2 st) (16 * t3.val + 4 * (t4.val + 1) + 3)) := by
  have e : ∀ r : Fin 4, k0_off13 t1 t2 t3 t4 (BitVec.ofNat 32 r.val) = ![t1.val % 3, t2.val, 16 * (16 * t3.val + 4 * (t4.val + 1) + r.val)] := by
    intro r
    rw [k0_off13_eq]
    congr 3
    omega
  rw [k0_part1_eq_skeleton]
  unfold k0_part1_skel
  refine Runs.load_buf _ _ (e 0) ?_
  refine Runs.load_buf _ _ (e 1) ?_
  refine Runs.load_buf _ _ (e 2) ?_
  refine Runs.load_buf _ _ (e 3) ?_
  refine Runs.ret ⟨rfl, ?_, ?_, ?_, ?_⟩
  · exact congrArg (maximumf a) (cast_ldv (vec (inRow t1 t2 st) (16 * t3.val + 4 * (t4.val + 1) + 0)))
  · exact congrArg (maximumf b) (cast_ldv (vec (inRow t1 t2 st) (16 * t3.val + 4 * (t4.val + 1) + 1)))
  · exact congrArg (maximumf c) (cast_ldv (vec (inRow t1 t2 st) (16 * t3.val + 4 * (t4.val + 1) + 2)))
  · exact cast_ldv (vec (inRow t1 t2 st) (16 * t3.val + 4 * (t4.val + 1) + 3))

theorem part2_run {t3 : Fin k0_t3_loop.trips} {g : V16 F} :
    Runs d i (t1.val % 3) st (k0_part2 i xM h2 oM h3 bufM h4 candM h5 blksM h6 lanesM h7 a8 a9 t1 w43 t2 w12 wa wb t3 g)
      (fun r st' => r = maximumf g (blkMax (inRow t1 t2 st) t3.val)
        ∧ st'.buf = st.buf ∧ st'.blks = fun x => if (x 0).val / 16 = t3.val then blkMax (inRow t1 t2 st) t3.val (lane (x 0).val) else st.blks x) := by
  have e : ∀ r : Fin 4, k0_off12 t1 t2 t3 (BitVec.ofNat 32 r.val) = ![t1.val % 3, t2.val, 16 * (16 * t3.val + r.val)] := by
    intro r
    rw [k0_off12_eq]
    congr 3
    omega
  rw [k0_part2_eq_skeleton]
  unfold k0_part2_skel
  refine Runs.load_buf _ _ (e 0) ?_
  refine Runs.load_buf _ _ (e 1) ?_
  refine Runs.load_buf _ _ (e 2) ?_
  refine Runs.load_buf _ _ (e 3) ?_
  refine Runs.loop (fun n acc st' => st' = st ∧ acc = (blk4 (inRow t1 t2 st) t3.val 0 n, blk4 (inRow t1 t2 st) t3.val 1 n,
    blk4 (inRow t1 t2 st) t3.val 2 n, blk4 (inRow t1 t2 st) t3.val 3 n)) ?_ ?_ ?_
  · exact ⟨rfl, Prod.ext (cast_ldv (vec (inRow t1 t2 st) (16 * t3.val + 0))) (Prod.ext (cast_ldv (vec (inRow t1 t2 st) (16 * t3.val + 1)))
      (Prod.ext (cast_ldv (vec (inRow t1 t2 st) (16 * t3.val + 2))) (cast_ldv (vec (inRow t1 t2 st) (16 * t3.val + 3)))))⟩
  · rintro n ⟨a, b, c, q⟩ st' ⟨rfl, hacc⟩
    obtain ⟨rfl, rfl, rfl, rfl⟩ : a = _ ∧ b = _ ∧ c = _ ∧ q = _ := by simpa using hacc
    unfold k0_t4_body
    refine Runs.bind part1_run ?_
    rintro ⟨a, b, c, q⟩ st'' ⟨rfl, ha, hb, hc, hq⟩
    refine Runs.ret ⟨rfl, Prod.ext ha (Prod.ext hb (Prod.ext hc (congrArg (maximumf (blk4 (inRow t1 t2 st'') t3.val 3 n.val)) hq)))⟩
  · rintro ⟨a, b, c, q⟩ st' ⟨rfl, hacc⟩
    obtain ⟨rfl, rfl, rfl, rfl⟩ : a = _ ∧ b = _ ∧ c = _ ∧ q = _ := by simpa using hacc
    refine Runs.load_blks t3.val (by rw [k0_off14_eq]; rfl) ?_
    refine Runs.store_blks t3.val (by rw [k0_off14_eq]; rfl) ?_
    exact Runs.ret ⟨rfl, rfl, rfl⟩

omit [FloatOps F] in
theorem bk_put (f : Vec F S256 .f32) (v : V16 F) (j b : ℕ) (hb : b < 16) (hj : j < 16) :
    vec (bk (fun x => if (x 0).val / 16 = j then v (lane (x 0).val) else f x)) b = if b = j then v else vec (bk f) b := by
  have hl : ∀ l : S16.Idx, ((ix1 256 (by decide) (16 * b + (l 0).val) : S256.Idx) 0).val = 16 * b + (l 0).val := fun l => by
    have : (l 0).val < 16 := (l 0).isLt
    exact Nat.mod_eq_of_lt (by omega)
  have hq : ∀ l : S16.Idx, (16 * b + (l 0).val) / 16 = b := fun l => by
    have : (l 0).val < 16 := (l 0).isLt
    omega
  funext l
  show (if ((ix1 256 _ (16 * b + (l 0).val) : S256.Idx) 0).val / 16 = j then v (lane ((ix1 256 _ (16 * b + (l 0).val) : S256.Idx) 0).val) else _) = _
  rw [hl, hq]
  split
  · refine congrArg v (Eq.trans ?_ (lane_eq l))
    funext a; obtain rfl : a = 0 := Subsingleton.elim _ _
    exact Fin.ext (show (16 * b + (l 0).val) % 16 = (l 0).val % 16 by omega)
  · rfl

theorem xor_lane (k : ℕ) (hk : k < 16) (l : ℕ) (hl : l < 16) :
    (xori (iota .scVector S16 32 [0] iota_S16_d0_w32_scVector) (broadcast S16 (BitVec.ofNat 32 k)) (lane l)).toNat = l ^^^ k := by
  show ((iota .scVector S16 32 [0] iota_S16_d0_w32_scVector (lane l)) ^^^ BitVec.ofNat 32 k).toNat = _
  rw [iota_single_apply, BitVec.toNat_xor, BitVec.toNat_ofNat, BitVec.toNat_ofNat]
  have : ((lane l : S16.Idx) 0).val = l := Nat.mod_eq_of_lt hl
  congr 1 <;> omega

theorem xor_chk (k : ℕ) (hk : k < 16) {idx : IVec S16 32} (h : ∀ l < 16, (idx (lane l)).toNat = l ^^^ k) :
    ∀ a x, ((![idx] : Fin 1 → IVec S16 32) a x).toNat < S16.size a := by
  intro a x
  obtain rfl : a = 0 := Subsingleton.elim _ _
  show (idx x).toNat < 16
  rw [← lane_eq x, h _ (x 0).isLt]
  exact Nat.xor_lt_two_pow (n := 4) (x 0).isLt hk

theorem gAcc_succ (x : ℕ → F .f32) (n : ℕ) : gAcc x (n + 1) = maximumf (gAcc x n) (blkMax x n) := rfl

theorem part11_run {t2 : Fin k0_t2_loop.trips} :
    Runs d i (t1.val % 3) st (k0_part11 i xM h2 oM h3 bufM h4 candM h5 blksM h6 lanesM h7 a8 a9 ones t1 w43 wa wb t2)
      (fun r st' => r.2.1 = rowMax (inRow t1 t2 st) ∧ r.2.2.1 = thr (inRow t1 t2 st)
        ∧ r.2.2.2 = ind (cmpf .ogt (blkMax (inRow t1 t2 st) 0) (thr (inRow t1 t2 st)))
        ∧ st'.buf = st.buf ∧ ∀ b < 16, vec (bk st'.blks) b = blkMax (inRow t1 t2 st) b) := by
  rw [k0_part11_eq_skeleton]
  unfold k0_part11_skel
  refine Runs.load_buf t2.val 0 (by rw [k0_off11_eq]) ?_
  refine Runs.loop (fun n acc st' => st'.buf = st.buf ∧ acc = gAcc (inRow t1 t2 st) n ∧ ∀ b < n, vec (bk st'.blks) b = blkMax (inRow t1 t2 st) b) ?_ ?_ ?_
  · exact ⟨rfl, cast_ldv (vec (inRow t1 t2 st) 0), fun _ h => absurd h (by omega)⟩
  · rintro n acc st' ⟨hb, hacc, hk⟩
    unfold k0_t3_body
    refine Runs.mono part2_run ?_
    rintro r st'' ⟨hr, hb', hk'⟩
    refine ⟨hb'.trans hb, ?_, ?_⟩
    · have e : inRow t1 t2 st' = inRow t1 t2 st := by unfold inRow; rw [hb]
      rw [hr, hacc, e, gAcc_succ]
    · intro b hbn
      have hn : n.val < 16 := n.isLt
      have e : inRow t1 t2 st' = inRow t1 t2 st := by unfold inRow; rw [hb]
      rw [hk', bk_put _ _ _ _ (by omega) hn, e]
      split
      · next h => rw [h]
      · exact hk b (by omega)
  · rintro acc st1 ⟨hb, rfl, hk⟩
    refine Runs.assume (xor_chk 8 (by decide) (xor_lane 8 (by decide))) ?_
    refine Runs.exchange 8 (by decide) (xor_lane 8 (by decide)) fun st2 e1 _ e2 => ?_
    refine Runs.assume (xor_chk 4 (by decide) (xor_lane 4 (by decide))) ?_
    refine Runs.exchange 4 (by decide) (xor_lane 4 (by decide)) fun st3 e3 _ e4 => ?_
    refine Runs.assume (xor_chk 2 (by decide) (xor_lane 2 (by decide))) ?_
    refine Runs.exchange 2 (by decide) (xor_lane 2 (by decide)) fun st4 e5 _ e6 => ?_
    refine Runs.assume (xor_chk 1 (by decide) (xor_lane 1 (by decide))) ?_
    refine Runs.exchange 1 (by decide) (xor_lane 1 (by decide)) fun st5 e7 _ e8 => ?_
    have hk5 : ∀ b < 16, vec (bk st5.blks) b = blkMax (inRow t1 t2 st) b := by
      rw [e8, e6, e4, e2]; exact hk
    refine Runs.load_blks 0 rfl ?_
    rw [hk5 0 (by decide)]
    exact Runs.ret ⟨rfl, rfl, rfl, by rw [e7, e5, e3, e1, hb], hk5⟩

end

end Cert.Proof

end
-- ==== Proof.Words.lean ====
/- The number of registers the candidates fill, as the kernel computes it from their count. -/
module

public import proofs.«01_k».proof.Proof.Model

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

theorem t24_ub : ∀ n : Fin 4097, (k0_t24_loop (BitVec.ofNat 32 n.val)).ub = BitVec.ofNat 32 ((n.val + 15) / 16) := by decide +kernel
theorem t27_ub : ∀ n : Fin 4097, (k0_t27_loop (BitVec.ofNat 32 n.val)).ub = BitVec.ofNat 32 ((n.val + 15) / 16) := by decide +kernel
theorem t25_lb : ∀ n : Fin 4097, (k0_t25_loop (BitVec.ofNat 32 n.val)).lb = (k0_t25_loop (BitVec.ofNat 32 n.val)).ub := by decide +kernel
theorem t28_lb : ∀ n : Fin 4097, (k0_t28_loop (BitVec.ofNat 32 n.val)).lb = (k0_t28_loop (BitVec.ofNat 32 n.val)).ub := by decide +kernel
theorem cond19_iff : ∀ n : Fin 4097, k0_cond19 (BitVec.ofNat 32 n.val) = 1#1 ↔ n.val ≤ 16 := by decide +kernel

theorem trips_zero {k : ℕ} (hk : k ≤ 256) : Scf.trips 0#32 (BitVec.ofNat 32 k) 1#32 = k := by
  have h : (BitVec.ofNat 32 k).toInt = k := by
    rw [BitVec.toInt_eq_toNat_of_lt (by simp; omega)]
    simp
    omega
  simp [Scf.trips, h]

theorem trips_self (a : BitVec 32) : Scf.trips a a 1#32 = 0 := by simp [Scf.trips]

theorem ok_self (a : BitVec 32) : Scf.OK a a 1#32 := by
  refine ⟨by decide, ?_⟩
  simpa [trips_self] using BitVec.toInt_lt (x := a)

theorem ok_zero {k : ℕ} (hk : k ≤ 256) : Scf.OK 0#32 (BitVec.ofNat 32 k) 1#32 := by
  refine ⟨by decide, ?_⟩
  rw [trips_zero hk]
  simp
  omega

theorem reg_off {k : ℕ} (hk : k ≤ 256) :
    (![(Scalar.indexCast (Scalar.muli (Scf.iv 0#32 1#32 k) 16#32)).toNat] : Fin 1 → ℕ) = ![16 * k] := by
  congr 1
  simp [Scf.iv, Scalar.indexCast, Scalar.muli, IntOp.muli]
  omega

variable {n : ℕ}

theorem t24_trips (hn : n ≤ 4096) : (k0_t24_loop (BitVec.ofNat 32 n)).trips = (n + 15) / 16 := by
  show Scf.trips 0#32 (k0_t24_loop (BitVec.ofNat 32 n)).ub 1#32 = _
  rw [t24_ub ⟨n, by omega⟩]
  exact trips_zero (by omega)

theorem t27_trips (hn : n ≤ 4096) : (k0_t27_loop (BitVec.ofNat 32 n)).trips = (n + 15) / 16 := by
  show Scf.trips 0#32 (k0_t27_loop (BitVec.ofNat 32 n)).ub 1#32 = _
  rw [t27_ub ⟨n, by omega⟩]
  exact trips_zero (by omega)

theorem t25_trips (hn : n ≤ 4096) : (k0_t25_loop (BitVec.ofNat 32 n)).trips = 0 := by
  show Scf.trips (k0_t25_loop (BitVec.ofNat 32 n)).lb (k0_t25_loop (BitVec.ofNat 32 n)).ub 1#32 = _
  rw [t25_lb ⟨n, by omega⟩]
  exact trips_self _

theorem t28_trips (hn : n ≤ 4096) : (k0_t28_loop (BitVec.ofNat 32 n)).trips = 0 := by
  show Scf.trips (k0_t28_loop (BitVec.ofNat 32 n)).lb (k0_t28_loop (BitVec.ofNat 32 n)).ub 1#32 = _
  rw [t28_lb ⟨n, by omega⟩]
  exact trips_self _

theorem off31_of (hn : n ≤ 4096) : k0_off31 (BitVec.ofNat 32 n) = ![n] := by
  unfold k0_off31
  congr 1
  simp [Scalar.indexCast]
  omega

theorem off32_of (hn : n ≤ 4096) (k : Fin (k0_t24_loop (BitVec.ofNat 32 n)).trips) :
    k0_off32 (BitVec.ofNat 32 n) k = ![16 * k.val] :=
  reg_off (by have := k.isLt.trans_eq (t24_trips hn); omega)

theorem off34_of (hn : n ≤ 4096) (k : Fin (k0_t27_loop (BitVec.ofNat 32 n)).trips) :
    k0_off34 (BitVec.ofNat 32 n) k = ![16 * k.val] :=
  reg_off (by have := k.isLt.trans_eq (t27_trips hn); omega)

theorem inb_of {o : Fin 1 → ℕ} {j : ℕ} (h : o = ![j]) (hj : j ≤ 4096) : ∀ a, o a + S16.size a ≤ S4112.size a := by
  subst h
  intro a
  obtain rfl : a = 0 := Subsingleton.elim _ _
  show j + 16 ≤ 4112
  omega

theorem chk21_of (hn : n ≤ 4096) : k0_chk21 (BitVec.ofNat 32 n) := by
  refine ⟨inb_of (off31_of hn) hn, fun _ => ?_, fun k _ => inb_of (off32_of hn k) ?_, fun _ => ?_, fun k => ?_, fun _ => ?_,
    fun k _ => inb_of (off34_of hn k) ?_, fun _ => ?_, fun k => ?_⟩
  · show Scf.OK 0#32 (k0_t24_loop (BitVec.ofNat 32 n)).ub 1#32
    rw [t24_ub ⟨n, by omega⟩]
    exact ok_zero (by omega)
  · have := k.isLt.trans_eq (t24_trips hn)
    omega
  · show Scf.OK (k0_t25_loop (BitVec.ofNat 32 n)).lb (k0_t25_loop (BitVec.ofNat 32 n)).ub 1#32
    rw [t25_lb ⟨n, by omega⟩]
    exact ok_self _
  · exact absurd (k.isLt.trans_eq (t25_trips hn)) (by omega)
  · show Scf.OK 0#32 (k0_t27_loop (BitVec.ofNat 32 n)).ub 1#32
    rw [t27_ub ⟨n, by omega⟩]
    exact ok_zero (by omega)
  · have := k.isLt.trans_eq (t27_trips hn)
    omega
  · show Scf.OK (k0_t28_loop (BitVec.ofNat 32 n)).lb (k0_t28_loop (BitVec.ofNat 32 n)).ub 1#32
    rw [t28_lb ⟨n, by omega⟩]
    exact ok_self _
  · exact absurd (k.isLt.trans_eq (t28_trips hn)) (by omega)

end Cert.Proof

end
-- ==== Proof.Compact.lean ====
/- The second part of a row's program: the elements above the threshold, block after block, written one after another. -/
module

public import proofs.«01_k».proof.Proof.RowMax
public import proofs.«01_k».proof.Proof.Words

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

section

variable {d : Dev nD} {i : grid0.Coords} {h2 : (xM : Memref sig .scVector .hbm S8192x4096 .f32).IsWhole}
  {h3 : (oM : Memref sig .scVector .hbm S8192x4096 .f32).IsWhole} {h4 : (bufM : Memref sig .scVector .vmem S3x8x4096 .f32).IsWhole}
  {h5 : (candM : Memref sig .scVector .vmem S4112 .f32).IsWhole} {h6 : (blksM : Memref sig .scVector .vmem S256 .f32).IsWhole}
  {h7 : (lanesM : Memref sig .scVector .vmem S16 .f32).IsWhole} {a8 a9 : DmaSems sig S3}
  {t1 : Fin k0_t1_loop.trips} {t2 : Fin k0_t2_loop.trips} {w43 w12 w14 wa wb : BitVec 32} {st : St F}

/-- The running count is the list's length and the candidates begin with the list; the ring and the block maxima are
    those of `B`. -/
def Acc (B : St F) (L : List (F .f32)) (c : BitVec 32) (st : St F) : Prop :=
  st.buf = B.buf ∧ st.blks = B.blks ∧ c = BitVec.ofNat 32 L.length ∧ ∀ n (h : n < L.length), cd st.cand n = L[n]

theorem word_eq (m : IVec S16 1) (n : ℕ) (hn : n = cntN m 16) :
    extractAt ![0] (extractStridedSlice S1 ![15] (scan .sum (ind m)) slices_S16_o15_S1) inpos_S1_p0 = BitVec.ofNat 32 n := by
  rw [hn, ← scan_ind m 15 (by decide)]
  unfold extractAt extractStridedSlice
  refine congrArg (scan .sum (ind m)) ?_
  funext a; obtain rfl : a = 0 := Subsingleton.elim _ _
  rfl

theorem cond_word (n : ℕ) (hn : n ≤ 16) : k0_cond3 (BitVec.ofNat 32 n) = 1#1 ↔ 0 < n := by
  interval_cases n <;> decide

omit [FloatOps F] in
theorem cd_app {α : Type} (L M : List α) (c : ℕ) (hc : c = L.length) (f : S4112.Idx → α) (hf : ∀ n (h : n < L.length), f (ix1 4112 (by decide) n) = L[n])
    (hlen : (L ++ M).length ≤ 4112) (n : ℕ) (h : n < (L ++ M).length) : app M c f (ix1 4112 (by decide) n) = (L ++ M)[n] := by
  subst hc
  have hn : ((ix1 4112 (by decide) n : S4112.Idx) 0).val = n := Nat.mod_eq_of_lt (by omega)
  have hl := (List.length_append : (L ++ M).length = _)
  unfold app
  by_cases hL : n < L.length
  · rw [dif_neg (by rw [hn]; omega), List.getElem_append_left hL]
    exact hf n hL
  · rw [dif_pos (by rw [hn]; omega), List.getElem_append_right (by omega)]
    simp only [hn]

/-- One register of the row: its elements above the threshold appended. -/
theorem comp_step {B : St F} {L : List (F .f32)} {c : BitVec 32} {st : St F} {t : V16 F} {s r j : ℕ} (hA : Acc B L c st) (hL : L.length ≤ 4080)
    {off : Fin 3 → ℕ} {h : ∀ a, off a + S1x1x16.size a ≤ S3x8x4096.size a} (he : off = ![s, r, 16 * j])
    {hl : (bufM : Memref sig .scVector .vmem S3x8x4096 .f32).view.LoadsAt (Rect.unit (s := S3x8x4096) off S1x1x16.size h).toLoadRect}
    {Q : IVec S16 32 → Prop} {dc : ∀ v, Decidable (Q v)} (hQ : ∀ v, (∀ a x, ((![v] : Fin 1 → IVec S16 32) a x).toNat < S4112.size a) → Q v)
    (hQ' : ∀ v, Q v → ∀ a x, ((![v] : Fin 1 → IVec S16 32) a x).toNat < S4112.size a)
    {hs : ((candM : Memref sig .scVector .vmem S4112 .f32).access (.whole S4112)).Stores Finset.univ} :
    Runs d i s st (Prog.lift (.load bufM (Rect.unit (s := S3x8x4096) off S1x1x16.size h).toLoadRect hl) >>= fun ld =>
      Prog.lift (TpuEff.assume (Q (k0_pay137 t c ld)) (dc _)) >>= fun q =>
      SparseCore.vectorStoreIdx candM ![k0_pay137 t c ld] (k0_pay135 ld) (k0_pay136 t ld) false (hQ' _ q.down) hs >>= fun _ =>
      Pure.pure (Scalar.addi c (extractAt ![0] (k0_pay138 t ld) inpos_S1_p0)))
      (Acc B (L ++ kept t (vec (rowOf B.buf s r) j))) := by
  obtain ⟨hb, hk, hc, hL'⟩ := hA
  rw [← hb]
  refine Runs.load_buf r j he ?_
  generalize hv : vec (rowOf st.buf s r) j = v
  have e1 : k0_pay135 (ldv v) = v := cast_ldv v
  have e2 : k0_pay136 t (ldv v) = cmpf .ogt v t := congrArg (fun w => cmpf .ogt w t) (cast_ldv v)
  generalize hm : cmpf .ogt v t = m at e2
  have e3 : ∀ n < 16, (k0_pay137 t c (ldv v) (lane n)).toNat = L.length + cntN m n := by
    intro n hn
    show (c + subi (scan .sum (ind (k0_pay136 t (ldv v)))) (ind (k0_pay136 t (ldv v))) (lane n)).toNat = _
    have := cntN_le m n
    rw [e2, scan_excl m n hn, hc, BitVec.toNat_add, BitVec.toNat_ofNat, BitVec.toNat_ofNat]
    omega
  have hin : ∀ a x, ((![k0_pay137 t c (ldv v)] : Fin 1 → IVec S16 32) a x).toNat < S4112.size a := by
    intro a x
    obtain rfl : a = 0 := Subsingleton.elim _ _
    show (k0_pay137 t c (ldv v) x).toNat < 4112
    rw [← lane_eq x, e3 _ (x 0).isLt]
    have : cntN m (x 0).val ≤ _ := cntN_le m _
    have : (x 0).val < 16 := (x 0).isLt
    omega
  refine Runs.assume (hQ _ hin) ?_
  refine Runs.scatter ?_
  have e4 : extractAt ![0] (k0_pay138 t (ldv v)) inpos_S1_p0 = BitVec.ofNat 32 (cntN m 16) := by
    have := word_eq (k0_pay136 t (ldv v)) _ rfl
    rw [e2] at this
    rw [← this, ← e2]
    rfl
  have hk' : kept t v = keptN m v 16 := by rw [← hm]; rfl
  have hlen : (L ++ kept t v).length = L.length + cntN m 16 := by rw [List.length_append, hk', kept_length]
  have := cntN_le m 16
  refine Runs.ret ⟨hb, hk, ?_, ?_⟩
  · show c + extractAt ![0] (k0_pay138 t (ldv v)) inpos_S1_p0 = _
    rw [e4, hc, hlen, BitVec.ofNat_add]
  · intro n hn
    show storeIdx st.cand ![k0_pay137 t c (ldv v)] (k0_pay135 (ldv v)) (k0_pay136 t (ldv v)) false hin (ix1 4112 (by decide) n) = _
    rw [storeIdx_kept st.cand _ _ _ L.length (by rw [e2]; exact e3) hin]
    rw [e1, e2]
    simp only [hk'] at hn ⊢
    exact cd_app L _ L.length rfl st.cand hL' (by rw [← hk', hlen]; omega) n hn

/-- One block of the row: its sixteen registers where its maxima reach above the threshold, else nothing. -/
theorem comp_block {β : Type} {P : β → St F → Prop} {B : St F} {c : BitVec 32} {st : St F} {t : V16 F} {x : ℕ → F .f32} (b : ℕ) (hb : b < 16)
    {C : BitVec 1} {l : Scf.Loop 32} {hok : l.OK} (hl : l.trips = 16) {body : C = 1#1 → Fin l.trips → BitVec 32 → TProg F i (BitVec 32)} {s : ℕ}
    {k : BitVec 32 → TProg F i β}
    (hC : C = 1#1 ↔ 0 < cntN (cmpf .ogt (blkMax x b) t) 16) (hA : Acc B (rowL x t b) c st)
    (hbody : ∀ hc (n : Fin l.trips) c' L st', Acc B L c' st' → L.length ≤ 4080 →
      Runs d i s st' (body hc n c') (Acc B (L ++ kept t (vec x (16 * b + n.val)))))
    (hk : ∀ c' st', Acc B (rowL x t (b + 1)) c' st' → Runs d i s st' (k c') P) :
    Runs d i s st (if hc : C = 1#1 then Scf.Loop.for l hok c (body hc) >>= fun v => Pure.pure v >>= fun v => k v else Pure.pure c >>= fun v => k v) P := by
  by_cases hc : C = 1#1
  · rw [dif_pos hc]
    have e : rowL x t (b + 1) = blkL x t b (rowL x t b) 16 := by rw [rowL, if_pos (hC.mp hc)]
    refine Runs.loop (fun n c' st' => Acc B (blkL x t b (rowL x t b) n) c' st') hA ?_ ?_
    · intro n c' st' hA'
      refine hbody hc n c' _ st' hA' ?_
      show (blkL x t b (rowL x t b) n.val).length ≤ 4080
      have h1 := blkL_length_le x t b (rowL x t b) n.val
      have h2 := rowL_length_le x t b
      have h3 : n.val < 16 := hl ▸ n.isLt
      omega
    · intro c' st' hA'
      refine hk c' st' ?_
      rw [e, ← hl]
      exact hA'
  · rw [dif_neg hc]
    have e : rowL x t (b + 1) = rowL x t b := by rw [rowL, if_neg (fun h => hc (hC.mpr h))]
    refine hk c st ?_
    rw [e]
    exact hA

theorem cond_of (m : IVec S16 1) :
    k0_cond3 (extractAt ![0] (extractStridedSlice S1 ![15] (scan .sum (ind m)) slices_S16_o15_S1) inpos_S1_p0) = 1#1 ↔ 0 < cntN m 16 := by
  rw [word_eq m _ rfl]
  exact cond_word _ (cntN_le m 16)

theorem off_at {a b c c' : ℕ} (h : c = c') : (![a, b, c] : Fin 3 → ℕ) = ![a, b, c'] := by rw [h]

/-- The number of a register's lanes set, as the word a trip is decided by. -/
abbrev cntW (m : IVec S16 1) : IVec S1 32 := extractStridedSlice S1 ![15] (scan .sum (ind m)) slices_S16_o15_S1

variable {B : St F} {c : BitVec 32} {t : V16 F}

theorem part12_run (hB : ∀ b < 16, vec (bk B.blks) b = blkMax (inRow t1 t2 B) b) (hb : st.buf = B.buf) (hk : st.blks = B.blks) :
    Runs d i (t1.val % 3) st (k0_part12 i xM h2 oM h3 bufM h4 candM h5 blksM h6 lanesM h7 a8 a9 t1 w43 t2 w12 t
      (ind (cmpf .ogt (blkMax (inRow t1 t2 B) 0) t)))
      (fun r st' => Acc B (rowL (inRow t1 t2 B) t 3) r.1 st' ∧ r.2 = cntW (cmpf .ogt (blkMax (inRow t1 t2 B) 3) t)) := by
  rw [k0_part12_eq_skeleton]
  unfold k0_part12_skel
  refine comp_block (s := t1.val % 3) (x := inRow t1 t2 B) 0 (by decide) (by decide) (cond_of _) ⟨hb, hk, rfl, fun _ h => absurd h (by simp [rowL])⟩ (fun hc n c L st' hA' hL =>
    comp_step hA' hL ((k0_off15_eq t1 t2 n).trans (off_at (by omega))) (fun _ h _ => h) (fun _ h => h hc)) ?_
  intro c st hA
  refine Runs.load_blks 1 rfl ?_
  rw [hA.2.1, hB 1 (by decide)]
  refine comp_block (s := t1.val % 3) 1 (by decide) (by decide) (cond_of _) hA (fun hc n c L st' hA' hL =>
    comp_step hA' hL ((k0_off16_eq t1 t2 n).trans (off_at (by omega))) (fun _ h _ => h) (fun _ h => h hc)) ?_
  clear hA; intro c st hA
  refine Runs.load_blks 2 rfl ?_
  rw [hA.2.1, hB 2 (by decide)]
  refine comp_block (s := t1.val % 3) 2 (by decide) (by decide) (cond_of _) hA (fun hc n c L st' hA' hL =>
    comp_step hA' hL ((k0_off17_eq t1 t2 n).trans (off_at (by omega))) (fun _ h _ => h) (fun _ h => h hc)) ?_
  clear hA; intro c st hA
  refine Runs.load_blks 3 rfl ?_
  rw [hA.2.1, hB 3 (by decide)]
  exact Runs.ret ⟨hA, rfl⟩

theorem part13_run (hB : ∀ b < 16, vec (bk B.blks) b = blkMax (inRow t1 t2 B) b) (hA : Acc B (rowL (inRow t1 t2 B) t 3) c st) :
    Runs d i (t1.val % 3) st (k0_part13 i xM h2 oM h3 bufM h4 candM h5 blksM h6 lanesM h7 a8 a9 t1 w43 t2 w12 t c (cntW (cmpf .ogt (blkMax (inRow t1 t2 B) 3) t)))
      (fun r st' => Acc B (rowL (inRow t1 t2 B) t 6) r.1 st' ∧ r.2.1 = (extractAt ![0] (cntW (cmpf .ogt (blkMax (inRow t1 t2 B) 6) t)) inpos_S1_p0) ∧ r.2.2 = Scalar.cmpi .sgt (extractAt ![0] (cntW (cmpf .ogt (blkMax (inRow t1 t2 B) 6) t)) inpos_S1_p0) 0#32) := by
  rw [k0_part13_eq_skeleton]
  unfold k0_part13_skel
  refine comp_block (s := t1.val % 3) 3 (by decide) (by decide) (cond_of _) hA (fun hc n c L st' hA' hL =>
    comp_step hA' hL ((k0_off18_eq t1 t2 n).trans (off_at (by omega))) (fun _ h _ => h) (fun _ h => h hc)) ?_
  clear hA; intro c st hA
  refine Runs.load_blks 4 rfl ?_
  rw [hA.2.1, hB 4 (by decide)]
  refine comp_block (s := t1.val % 3) 4 (by decide) (by decide) (cond_of _) hA (fun hc n c L st' hA' hL =>
    comp_step hA' hL ((k0_off19_eq t1 t2 n).trans (off_at (by omega))) (fun _ h _ => h) (fun _ h => h hc)) ?_
  clear hA; intro c st hA
  refine Runs.load_blks 5 rfl ?_
  rw [hA.2.1, hB 5 (by decide)]
  refine comp_block (s := t1.val % 3) 5 (by decide) (by decide) (cond_of _) hA (fun hc n c L st' hA' hL =>
    comp_step hA' hL ((k0_off20_eq t1 t2 n).trans (off_at (by omega))) (fun _ h _ => h) (fun _ h => h hc)) ?_
  clear hA; intro c st hA
  refine Runs.load_blks 6 rfl ?_
  rw [hA.2.1, hB 6 (by decide)]
  exact Runs.ret ⟨hA, rfl, rfl⟩

theorem part14_run (hB : ∀ b < 16, vec (bk B.blks) b = blkMax (inRow t1 t2 B) b) (hA : Acc B (rowL (inRow t1 t2 B) t 6) c st) :
    Runs d i (t1.val % 3) st (k0_part14 i xM h2 oM h3 bufM h4 candM h5 blksM h6 lanesM h7 a8 a9 t1 w43 t2 w12 t c (extractAt ![0] (cntW (cmpf .ogt (blkMax (inRow t1 t2 B) 6) t)) inpos_S1_p0) (Scalar.cmpi .sgt (extractAt ![0] (cntW (cmpf .ogt (blkMax (inRow t1 t2 B) 6) t)) inpos_S1_p0) 0#32))
      (fun r st' => Acc B (rowL (inRow t1 t2 B) t 9) r.1 st' ∧ r.2 = (extractAt ![0] (cntW (cmpf .ogt (blkMax (inRow t1 t2 B) 9) t)) inpos_S1_p0)) := by
  rw [k0_part14_eq_skeleton]
  unfold k0_part14_skel
  refine comp_block (s := t1.val % 3) 6 (by decide) (by decide) (cond_of _) hA (fun hc n c L st' hA' hL =>
    comp_step hA' hL ((k0_off21_eq t1 t2 n).trans (off_at (by omega))) (fun _ h _ => h) (fun _ h => h hc)) ?_
  clear hA; intro c st hA
  refine Runs.load_blks 7 rfl ?_
  rw [hA.2.1, hB 7 (by decide)]
  refine comp_block (s := t1.val % 3) 7 (by decide) (by decide) (cond_of _) hA (fun hc n c L st' hA' hL =>
    comp_step hA' hL ((k0_off22_eq t1 t2 n).trans (off_at (by omega))) (fun _ h _ => h) (fun _ h => h hc)) ?_
  clear hA; intro c st hA
  refine Runs.load_blks 8 rfl ?_
  rw [hA.2.1, hB 8 (by decide)]
  refine comp_block (s := t1.val % 3) 8 (by decide) (by decide) (cond_of _) hA (fun hc n c L st' hA' hL =>
    comp_step hA' hL ((k0_off23_eq t1 t2 n).trans (off_at (by omega))) (fun _ h _ => h) (fun _ h => h hc)) ?_
  clear hA; intro c st hA
  refine Runs.load_blks 9 rfl ?_
  rw [hA.2.1, hB 9 (by decide)]
  exact Runs.ret ⟨hA, rfl⟩

theorem part15_run (hB : ∀ b < 16, vec (bk B.blks) b = blkMax (inRow t1 t2 B) b) (hA : Acc B (rowL (inRow t1 t2 B) t 9) c st) :
    Runs d i (t1.val % 3) st (k0_part15 i xM h2 oM h3 bufM h4 candM h5 blksM h6 lanesM h7 a8 a9 t1 w43 t2 w12 t c (extractAt ![0] (cntW (cmpf .ogt (blkMax (inRow t1 t2 B) 9) t)) inpos_S1_p0))
      (fun r st' => Acc B (rowL (inRow t1 t2 B) t 13) r.1 st' ∧ r.2 = blkMax (inRow t1 t2 B) 13) := by
  rw [k0_part15_eq_skeleton]
  unfold k0_part15_skel
  refine comp_block (s := t1.val % 3) 9 (by decide) (by decide) (cond_of _) hA (fun hc n c L st' hA' hL =>
    comp_step hA' hL ((k0_off24_eq t1 t2 n).trans (off_at (by omega))) (fun _ h _ => h) (fun _ h => h hc)) ?_
  clear hA; intro c st hA
  refine Runs.load_blks 10 rfl ?_
  rw [hA.2.1, hB 10 (by decide)]
  refine comp_block (s := t1.val % 3) 10 (by decide) (by decide) (cond_of _) hA (fun hc n c L st' hA' hL =>
    comp_step hA' hL ((k0_off25_eq t1 t2 n).trans (off_at (by omega))) (fun _ h _ => h) (fun _ h => h hc)) ?_
  clear hA; intro c st hA
  refine Runs.load_blks 11 rfl ?_
  rw [hA.2.1, hB 11 (by decide)]
  refine comp_block (s := t1.val % 3) 11 (by decide) (by decide) (cond_of _) hA (fun hc n c L st' hA' hL =>
    comp_step hA' hL ((k0_off26_eq t1 t2 n).trans (off_at (by omega))) (fun _ h _ => h) (fun _ h => h hc)) ?_
  clear hA; intro c st hA
  refine Runs.load_blks 12 rfl ?_
  rw [hA.2.1, hB 12 (by decide)]
  refine comp_block (s := t1.val % 3) 12 (by decide) (by decide) (cond_of _) hA (fun hc n c L st' hA' hL =>
    comp_step hA' hL ((k0_off27_eq t1 t2 n).trans (off_at (by omega))) (fun _ h _ => h) (fun _ h => h hc)) ?_
  clear hA; intro c st hA
  refine Runs.load_blks 13 rfl ?_
  rw [hA.2.1, hB 13 (by decide)]
  exact Runs.ret ⟨hA, rfl⟩

/-- The candidates followed by the padding. -/
structure Pad (B : St F) (L : List (F .f32)) (p : V16 F) (st : St F) : Prop where
  buf : st.buf = B.buf
  cand : ∀ n < L.length + 16, cd st.cand n = padded L p n

theorem pad_read {f : S4112.Idx → F .f32} {L : List (F .f32)} {p : V16 F} (hn : L.length ≤ 4096)
    (h : ∀ n (h : n < L.length), cd f n = L[n]) :
    ∀ n < L.length + 16, cd (fun x : S4112.Idx => if L.length ≤ (x 0).val ∧ (x 0).val < L.length + 16 then p (lane ((x 0).val - L.length)) else f x) n
      = padded L p n := by
  intro n hn'
  have e : ((ix1 4112 (by decide) n : S4112.Idx) 0).val = n := Nat.mod_eq_of_lt (by omega)
  unfold cd padded
  simp only [e]
  by_cases hl : n < L.length
  · rw [if_neg (by omega), dif_pos hl]
    exact h n hl
  · rw [if_pos (by omega), dif_neg hl]

theorem pad_run {L : List (F .f32)} (hn : L.length ≤ 4096) (hb : st.buf = B.buf) (hc : c = BitVec.ofNat 32 L.length)
    (hL : ∀ n (h : n < L.length), cd st.cand n = L[n]) {s : ℕ} :
    Runs d i s st (do
      have k0_hw21 : k0_chk21 c := (← Prog.lift (TpuEff.assume (k0_chk21 c) (k0_chk21.dec c))).down
      let _ : Vec F S16 .f32 ← Prog.lift (.load candM (Rect.unit (s := S4112) (k0_off31 c) S16.size (k0_off31_inb c k0_hw21)).toLoadRect (View.loadsAt_vmem h_S16))
      Prog.lift (.store candM (Rect.unit (s := S4112) (k0_off31 c) S16.size (k0_off31_inb c k0_hw21)) (k0_pay214 ones t) Finset.univ (View.stores_vmem_bits_univ h_S16 rfl) (.inl rfl))
      Pure.pure (⟨c, k0_hw21⟩ : Σ' (v312 : BitVec 32), k0_chk21 v312))
      (fun r st' => r.1 = BitVec.ofNat 32 L.length ∧ Pad B L (subf t ones) st') := by
  subst hc
  refine Runs.assume (chk21_of hn) ?_
  refine Runs.load_cand' ?_
  intro _
  refine Runs.store_cand L.length (congrFun (off31_of hn) 0) ?_
  exact Runs.ret ⟨rfl, hb, pad_read hn hL⟩

theorem part16_run (hB : ∀ b < 16, vec (bk B.blks) b = blkMax (inRow t1 t2 B) b) (hA : Acc B (rowL (inRow t1 t2 B) t 13) c st) :
    Runs d i (t1.val % 3) st (k0_part16 i xM h2 oM h3 bufM h4 candM h5 blksM h6 lanesM h7 a8 a9 ones t1 w43 t2 w12 t c (blkMax (inRow t1 t2 B) 13))
      (fun r st' => r.1 = BitVec.ofNat 32 (rowL (inRow t1 t2 B) t 16).length ∧ Pad B (rowL (inRow t1 t2 B) t 16) (subf t ones) st') := by
  rw [k0_part16_eq_skeleton]
  unfold k0_part16_skel
  refine comp_block (s := t1.val % 3) 13 (by decide) (by decide) (cond_of _) hA (fun hc n c L st' hA' hL =>
    comp_step hA' hL ((k0_off28_eq t1 t2 n).trans (off_at (by omega))) (fun _ h _ => h) (fun _ h => h hc)) ?_
  clear hA; intro c st hA
  refine Runs.load_blks 14 rfl ?_
  rw [hA.2.1, hB 14 (by decide)]
  refine comp_block (s := t1.val % 3) 14 (by decide) (by decide) (cond_of _) hA (fun hc n c L st' hA' hL =>
    comp_step hA' hL ((k0_off29_eq t1 t2 n).trans (off_at (by omega))) (fun _ h _ => h) (fun _ h => h hc)) ?_
  clear hA; intro c st hA
  refine Runs.load_blks 15 rfl ?_
  rw [hA.2.1, hB 15 (by decide)]
  refine comp_block (s := t1.val % 3) 15 (by decide) (by decide) (cond_of _) hA (fun hc n c L st' hA' hL =>
    comp_step hA' hL ((k0_off30_eq t1 t2 n).trans (off_at (by omega))) (fun _ h _ => h) (fun _ h => h hc)) ?_
  clear hA; intro c st hA
  obtain ⟨hb, -, hc, hL⟩ := hA
  exact pad_run (rowL_length_le _ _ _) hb hc hL

end

end Cert.Proof

end
-- ==== Proof.SolveReg.lean ====
/- The solver over one register of candidates: sixteen halvings and two Newton steps. -/
module

public import proofs.«01_k».proof.Proof.RowMax

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

section

variable {d : Dev nD} {i : grid0.Coords} {h2 : (xM : Memref sig .scVector .hbm S8192x4096 .f32).IsWhole}
  {h3 : (oM : Memref sig .scVector .hbm S8192x4096 .f32).IsWhole} {h4 : (bufM : Memref sig .scVector .vmem S3x8x4096 .f32).IsWhole}
  {h5 : (candM : Memref sig .scVector .vmem S4112 .f32).IsWhole} {h6 : (blksM : Memref sig .scVector .vmem S256 .f32).IsWhole}
  {h7 : (lanesM : Memref sig .scVector .vmem S16 .f32).IsWhole} {a8 a9 : DmaSems sig S3}
  {t1 : Fin k0_t1_loop.trips} {t2 : Fin k0_t2_loop.trips} {w43 w12 w14 wa wb : BitVec 32} {st : St F}

/-- A lane taken out and put in every lane. -/
theorem bc_pick (n : ℕ) (hn : n < 16) (v : V16 F) {h : S16.Slices (![n] : Fin 1 → ℕ) S1} :
    broadcast S16 (extractAt ![0] (extractStridedSlice S1 ![n] v h) inpos_S1_p0) = bc v n := by
  unfold bc broadcast
  funext _
  refine congrArg v ?_
  funext a
  obtain rfl : a = 0 := Subsingleton.elim _ _
  refine Fin.ext ?_
  show n + 0 = n % 16
  omega

/-- The sixteen lanes, as the kernel takes them out. -/
theorem picks (v : V16 F) : (k0_pay79 v = bc v 0 ∧ k0_pay80 v = bc v 1 ∧ k0_pay81 v = bc v 2 ∧ k0_pay82 v = bc v 3)
    ∧ (k0_pay83 v = bc v 4 ∧ k0_pay84 v = bc v 5 ∧ k0_pay85 v = bc v 6 ∧ k0_pay86 v = bc v 7)
    ∧ (k0_pay87 v = bc v 8 ∧ k0_pay88 v = bc v 9 ∧ k0_pay89 v = bc v 10 ∧ k0_pay90 v = bc v 11)
    ∧ (k0_pay91 v = bc v 12 ∧ k0_pay92 v = bc v 13 ∧ k0_pay93 v = bc v 14 ∧ k0_pay94 v = bc v 15) :=
  ⟨⟨bc_pick 0 (by decide) v, bc_pick 1 (by decide) v, bc_pick 2 (by decide) v, bc_pick 3 (by decide) v⟩,
    ⟨bc_pick 4 (by decide) v, bc_pick 5 (by decide) v, bc_pick 6 (by decide) v, bc_pick 7 (by decide) v⟩,
    ⟨bc_pick 8 (by decide) v, bc_pick 9 (by decide) v, bc_pick 10 (by decide) v, bc_pick 11 (by decide) v⟩,
    ⟨bc_pick 12 (by decide) v, bc_pick 13 (by decide) v, bc_pick 14 (by decide) v, bc_pick 15 (by decide) v⟩⟩

/-- One halving. -/
theorem t21_eq (m t v : V16 F) (n : Fin k0_t21_loop.trips) (p : V16 F × V16 F) :
    k0_t21_body i xM h2 oM h3 bufM h4 candM h5 blksM h6 lanesM h7 a8 a9 ones m t v (k0_pay93 v) (k0_pay94 v) n p
      = (Pure.pure (bisStep (regSum v) p) : TProg F i (V16 F × V16 F)) := by
  obtain ⟨⟨e0, e1, e2, e3⟩, ⟨e4, e5, e6, e7⟩, ⟨e8, e9, e10, e11⟩, e12, e13, e14, e15⟩ := picks v
  unfold k0_t21_body
  rw [k0_part3_eq_skeleton]
  unfold k0_part3_skel
  rw [e0, e1, e2, e3, e4, e5, e6, e7, e8, e9, e10, e11, e12, e13, e14, e15]
  rfl

/-- One Newton step. -/
theorem t22_eq (t v : V16 F) {w2 c0 c1 : BitVec 32} (n : Fin k0_t22_loop.trips) :
    k0_t22_body i xM h2 oM h3 bufM h4 candM h5 blksM h6 lanesM h7 a8 a9 w2 ones zeros c0 c1 t1 (k0_pay79 v) (k0_pay80 v) (k0_pay81 v)
      (k0_pay82 v) (k0_pay83 v) (k0_pay84 v) (k0_pay85 v) (k0_pay86 v) (k0_pay87 v) (k0_pay88 v) (k0_pay89 v) (k0_pay90 v) (k0_pay91 v)
      (k0_pay92 v) (k0_pay93 v) (k0_pay94 v) n t
      = (Pure.pure (newton (regSum v) (regCnt v) t) : TProg F i (V16 F)) := by
  obtain ⟨⟨e0, e1, e2, e3⟩, ⟨e4, e5, e6, e7⟩, ⟨e8, e9, e10, e11⟩, e12, e13, e14, e15⟩ := picks v
  unfold k0_t22_body
  rw [k0_part4_eq_skeleton, k0_part5_eq_skeleton, k0_part6_eq_skeleton]
  rw [e0, e1, e2, e3, e4, e5, e6, e7, e8, e9, e10, e11, e12, e13, e14, e15]
  rfl

/-- The first sixteen candidates' lanes and the middle of their bracket. -/
theorem part7_run (m t v : V16 F) (hv : vec (cd st.cand) 0 = v) {s : ℕ} :
    Runs d i s st (k0_part7 i xM h2 oM h3 bufM h4 candM h5 blksM h6 lanesM h7 a8 a9 ones m t)
      (fun r st' => r = ⟨k0_pay79 v, k0_pay80 v, k0_pay81 v, k0_pay82 v, k0_pay83 v, k0_pay84 v, k0_pay85 v, k0_pay86 v, k0_pay87 v, k0_pay88 v, k0_pay89 v, k0_pay90 v, k0_pay91 v, k0_pay92 v, k0_pay93 v, k0_pay94 v,
        midOf (itr (fun _ => bisStep (regSum v)) (t, m) 16).1 (itr (fun _ => bisStep (regSum v)) (t, m) 16).2⟩ ∧ st' = st) := by
  rw [k0_part7_eq_skeleton]
  unfold k0_part7_skel
  refine Runs.load_cand 0 rfl ?_
  rw [hv]
  refine Runs.loop (fun n p st' => p = itr (fun _ => bisStep (regSum v)) (t, m) n ∧ st' = st) ⟨rfl, rfl⟩ ?_ ?_
  · rintro n p st' ⟨rfl, rfl⟩
    rw [t21_eq]
    exact Runs.ret ⟨rfl, rfl⟩
  · rintro p st' ⟨rfl, rfl⟩
    exact Runs.ret ⟨rfl, rfl⟩

end

end Cert.Proof

end
-- ==== Proof.SolveLoop.lean ====
/- The solver over the registers the candidates fill: sixteen halvings and two Newton steps. -/
module

public import proofs.«01_k».proof.Proof.RowMax
public import proofs.«01_k».proof.Proof.Words

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

section

variable {d : Dev nD} {i : grid0.Coords} {h2 : (xM : Memref sig .scVector .hbm S8192x4096 .f32).IsWhole}
  {h3 : (oM : Memref sig .scVector .hbm S8192x4096 .f32).IsWhole} {h4 : (bufM : Memref sig .scVector .vmem S3x8x4096 .f32).IsWhole}
  {h5 : (candM : Memref sig .scVector .vmem S4112 .f32).IsWhole} {h6 : (blksM : Memref sig .scVector .vmem S256 .f32).IsWhole}
  {h7 : (lanesM : Memref sig .scVector .vmem S16 .f32).IsWhole} {a8 a9 : DmaSems sig S3}
  {t1 : Fin k0_t1_loop.trips} {t2 : Fin k0_t2_loop.trips} {w43 w12 w14 wa wb : BitVec 32} {st : St F}

theorem Runs.loop0 {α β : Type} {s : ℕ} {P : β → St F → Prop} {l : Scf.Loop 32} {hok : l.OK} {init : α} {body : Fin l.trips → α → TProg F i α}
    {k : α → TProg F i β} (h0 : l.trips = 0) (hk : Runs d i s st (k init) P) : Runs d i s st (Scf.Loop.for l hok init body >>= k) P := by
  refine Runs.loop (fun _ a st' => a = init ∧ st' = st) ⟨rfl, rfl⟩ (fun n => absurd n.isLt (by omega)) ?_
  rintro a st' ⟨rfl, rfl⟩
  exact hk

/-- What a loop over the candidates' registers adds up. -/
abbrev accSum (w : ℕ → V16 F) (n : ℕ) (t : V16 F) : V16 F := itr (fun k a => addf a (relu t (w k))) zeros n
abbrev accCnt (w : ℕ → V16 F) (n : ℕ) (t : V16 F) : V16 F := itr (fun k a => addf a (above t (w k))) zeros n

/-- The candidates' registers hold `w`. -/
def Regs (n : ℕ) (w : ℕ → V16 F) (st : St F) : Prop := ∀ k < (n + 15) / 16, vec (cd st.cand) k = w k

variable {n : ℕ} {w : ℕ → V16 F} {w2 c0 c1 w334 : BitVec 32} {hw : k0_chk21 (BitVec.ofNat 32 n)} {h19 : ¬k0_cond19 (BitVec.ofNat 32 n) = 1#1}

theorem t23_run (hn : n ≤ 4096) (hr : Regs n w st) {s : ℕ} (k : Fin k0_t23_loop.trips) (p : V16 F × V16 F) :
    Runs d i s st (k0_t23_body i xM h2 oM h3 bufM h4 candM h5 blksM h6 lanesM h7 a8 a9 w2 ones zeros c0 c1 t1 (BitVec.ofNat 32 n) hw h19 k p)
      (fun q st' => q = bisStep (loopSum w ((n + 15) / 16)) p ∧ st'.buf = st.buf ∧ st'.cand = st.cand) := by
  obtain ⟨lo, hi⟩ := p
  unfold k0_t23_body
  refine Runs.loop (fun j a st' => a = accSum w j (midOf lo hi) ∧ st' = st) ⟨rfl, rfl⟩ ?_ ?_
  · rintro j a st' ⟨rfl, rfl⟩
    have hj := j.isLt.trans_eq (t24_trips hn)
    refine Runs.load_cand j.val (congrFun (off32_of hn j) 0) ?_
    rw [hr _ hj]
    exact Runs.ret ⟨rfl, rfl⟩
  rintro a st' ⟨rfl, rfl⟩
  rw [t24_trips hn]
  refine Runs.loop0 (t25_trips hn) ?_
  refine Runs.assume (fun _ => xor_chk 8 (by decide) (xor_lane 8 (by decide))) ?_
  refine Runs.exchange 8 (by decide) (xor_lane 8 (by decide)) fun st2 e1 f1 _ => ?_
  refine Runs.assume (fun _ => xor_chk 4 (by decide) (xor_lane 4 (by decide))) ?_
  refine Runs.exchange 4 (by decide) (xor_lane 4 (by decide)) fun st3 e2 f2 _ => ?_
  refine Runs.assume (fun _ => xor_chk 2 (by decide) (xor_lane 2 (by decide))) ?_
  refine Runs.exchange 2 (by decide) (xor_lane 2 (by decide)) fun st4 e3 f3 _ => ?_
  refine Runs.assume (fun _ => xor_chk 1 (by decide) (xor_lane 1 (by decide))) ?_
  refine Runs.exchange 1 (by decide) (xor_lane 1 (by decide)) fun st5 e4 f4 _ => ?_
  exact Runs.ret ⟨rfl, by rw [e4, e3, e2, e1], by rw [f4, f3, f2, f1]⟩

theorem part8_run (hn : n ≤ 4096) (hr : Regs n w st) {s : ℕ} (k : Fin k0_t26_loop.trips) (t : V16 F) :
    Runs d i s st (k0_part8 i xM h2 oM h3 bufM h4 candM h5 blksM h6 lanesM h7 a8 a9 zeros (BitVec.ofNat 32 n) hw w334 h19 c0 c1 k t)
      (fun r st' => r = ⟨loopSum w ((n + 15) / 16) t, iota .scVector S16 32 [0] iota_S16_d0_w32_scVector,
          addf (accCnt w ((n + 15) / 16) t) (shuf 8 (accCnt w ((n + 15) / 16) t)), 4#32⟩ ∧ st'.buf = st.buf ∧ st'.cand = st.cand) := by
  rw [k0_part8_eq_skeleton]
  unfold k0_part8_skel
  refine Runs.loop (fun j a st' => a = (accSum w j t, accCnt w j t) ∧ st' = st) ⟨rfl, rfl⟩ ?_ ?_
  · rintro j a st' ⟨rfl, rfl⟩
    have hj := j.isLt.trans_eq (t27_trips hn)
    refine Runs.load_cand j.val (congrFun (off34_of hn j) 0) ?_
    rw [hr _ hj]
    exact Runs.ret ⟨rfl, rfl⟩
  rintro a st' ⟨rfl, rfl⟩
  rw [t27_trips hn]
  refine Runs.loop0 (t28_trips hn) ?_
  refine Runs.assume (fun _ => xor_chk 8 (by decide) (xor_lane 8 (by decide))) ?_
  refine Runs.exchange 8 (by decide) (xor_lane 8 (by decide)) fun st2 e1 f1 _ => ?_
  refine Runs.assume (fun _ => xor_chk 4 (by decide) (xor_lane 4 (by decide))) ?_
  refine Runs.exchange 4 (by decide) (xor_lane 4 (by decide)) fun st3 e2 f2 _ => ?_
  refine Runs.assume (fun _ => xor_chk 2 (by decide) (xor_lane 2 (by decide))) ?_
  refine Runs.exchange 2 (by decide) (xor_lane 2 (by decide)) fun st4 e3 f3 _ => ?_
  refine Runs.assume (fun _ => xor_chk 1 (by decide) (xor_lane 1 (by decide))) ?_
  refine Runs.exchange 1 (by decide) (xor_lane 1 (by decide)) fun st5 e4 f4 _ => ?_
  refine Runs.assume (fun _ => xor_chk 8 (by decide) (xor_lane 8 (by decide))) ?_
  refine Runs.exchange 8 (by decide) (xor_lane 8 (by decide)) fun st6 e5 f5 _ => ?_
  exact Runs.ret ⟨rfl, by rw [e5, e4, e3, e2, e1], by rw [f5, f4, f3, f2, f1]⟩

theorem t26_run (hn : n ≤ 4096) (hr : Regs n w st) {s : ℕ} (k : Fin k0_t26_loop.trips) (t : V16 F) :
    Runs d i s st (k0_t26_body i xM h2 oM h3 bufM h4 candM h5 blksM h6 lanesM h7 a8 a9 w2 ones zeros c0 c1 t1 (BitVec.ofNat 32 n) hw w334 h19 k t)
      (fun q st' => q = newton (loopSum w ((n + 15) / 16)) (loopCnt w ((n + 15) / 16)) t ∧ st'.buf = st.buf ∧ st'.cand = st.cand) := by
  unfold k0_t26_body
  refine Runs.bind (part8_run hn hr k t) ?_
  rintro r st1 ⟨rfl, e0, f0⟩
  refine Runs.assume (fun _ => xor_chk 4 (by decide) (xor_lane 4 (by decide))) ?_
  refine Runs.exchange 4 (by decide) (xor_lane 4 (by decide)) fun st3 e2 f2 _ => ?_
  refine Runs.assume (fun _ => xor_chk 2 (by decide) (xor_lane 2 (by decide))) ?_
  refine Runs.exchange 2 (by decide) (xor_lane 2 (by decide)) fun st4 e3 f3 _ => ?_
  refine Runs.assume (fun _ => xor_chk 1 (by decide) (xor_lane 1 (by decide))) ?_
  refine Runs.exchange 1 (by decide) (xor_lane 1 (by decide)) fun st5 e4 f4 _ => ?_
  exact Runs.ret ⟨rfl, by rw [e4, e3, e2, e0], by rw [f4, f3, f2, f0]⟩

end

end Cert.Proof

end
-- ==== Proof.Row.lean ====
/- A row's program as a whole: the row is overwritten, in place, with its elements less the shift, or zero. -/
module

public import proofs.«01_k».proof.Proof.Compact
public import proofs.«01_k».proof.Proof.SolveReg
public import proofs.«01_k».proof.Proof.SolveLoop

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

section

variable {d : Dev nD} {i : grid0.Coords} {h2 : (xM : Memref sig .scVector .hbm S8192x4096 .f32).IsWhole}
  {h3 : (oM : Memref sig .scVector .hbm S8192x4096 .f32).IsWhole} {h4 : (bufM : Memref sig .scVector .vmem S3x8x4096 .f32).IsWhole}
  {h5 : (candM : Memref sig .scVector .vmem S4112 .f32).IsWhole} {h6 : (blksM : Memref sig .scVector .vmem S256 .f32).IsWhole}
  {h7 : (lanesM : Memref sig .scVector .vmem S16 .f32).IsWhole} {a8 a9 : DmaSems sig S3}
  {t1 : Fin k0_t1_loop.trips} {t2 : Fin k0_t2_loop.trips} {w43 w12 w14 wa wb : BitVec 32} {st : St F}

/-- The first `q` registers of row `r` of slot `s` written back with the shift `t`, all else as in `B`. -/
def Out (s r : ℕ) (t : V16 F) (B : St F) (q : ℕ) (st : St F) : Prop :=
  st.buf = fun y => if (y 0).val = s ∧ (y 1).val = r ∧ (y 2).val / 16 < q
    then relu t (vec (rowOf B.buf s r) ((y 2).val / 16)) (lane (y 2).val) else B.buf y

variable {s r q : ℕ} {t : V16 F} {B : St F} {β : Type} {P : β → St F → Prop}

theorem Out.zero (hb : st.buf = B.buf) : Out s r t B 0 st := by
  unfold Out
  rw [hb]
  funext y
  rw [if_neg (by omega)]

theorem Out.read (h : Out s r t B q st) (hq : q < 256) : vec (rowOf st.buf s r) q = vec (rowOf B.buf s r) q := by
  unfold Out at h
  funext l
  unfold vec rowOf
  rw [h]
  dsimp only
  refine if_neg fun hc => ?_
  have e : ((ix3 s r (16 * q + (l 0).val) : S3x8x4096.Idx) 2).val = 16 * q + (l 0).val := by
    have : (l 0).val < 16 := (l 0).isLt
    exact Nat.mod_eq_of_lt (by omega)
  rw [e] at hc
  omega

theorem Out.load (h : Out s r t B q st) (hq : q < 256) {off : Fin 3 → ℕ} {hof : ∀ a, off a + S1x1x16.size a ≤ S3x8x4096.size a}
    {hl : (bufM : Memref sig .scVector .vmem S3x8x4096 .f32).view.LoadsAt (Rect.unit (s := S3x8x4096) off S1x1x16.size hof).toLoadRect}
    {k : Vec F S1x1x16 .f32 → TProg F i β} (he : off = ![s, r, 16 * q]) (hk : Runs d i s st (k (ldv (vec (rowOf B.buf s r) q))) P) :
    Runs d i s st (Prog.lift (.load bufM (Rect.unit (s := S3x8x4096) off S1x1x16.size hof).toLoadRect hl) >>= k) P := by
  refine Runs.load_buf r q he ?_
  rw [h.read hq]
  exact hk

theorem Out.store (h : Out s r t B q st) {off : Fin 3 → ℕ} {hof : ∀ a, off a + S1x1x16.size a ≤ S3x8x4096.size a} {v : V16 F}
    {hx : ((bufM : Memref sig .scVector .vmem S3x8x4096 .f32).access (Rect.unit (s := S3x8x4096) off S1x1x16.size hof)).Stores Finset.univ}
    {hm : (Finset.univ : Finset (Rect.unit (s := S3x8x4096) off S1x1x16.size hof).shape.Idx) = Finset.univ ∨ ∀ a, (Rect.unit (s := S3x8x4096) off S1x1x16.size hof).stride a = 1}
    {k : PUnit → TProg F i β} (he : off = ![s, r, 16 * q]) (hv : v = relu t (vec (rowOf B.buf s r) q))
    (hk : ∀ st', Out s r t B (q + 1) st' → Runs d i s st' (k ⟨⟩) P) :
    Runs d i s st (Prog.lift (.store bufM (Rect.unit (s := S3x8x4096) off S1x1x16.size hof) (shapeCast S1x1x16 v shapeCasts_S16_S1x1x16) Finset.univ hx hm) >>= k) P := by
  refine Runs.store_buf r q he (hk _ ?_)
  subst hv
  unfold Out at h ⊢
  dsimp only
  rw [h]
  funext y
  dsimp only
  by_cases h1 : (y 0).val = s ∧ (y 1).val = r
  · by_cases h2 : (y 2).val / 16 = q
    · rw [if_pos ⟨h1.1, h1.2, h2⟩, if_pos ⟨h1.1, h1.2, by omega⟩, h2]
    · rw [if_neg (fun hc => h2 hc.2.2)]
      by_cases h3 : (y 2).val / 16 < q
      · rw [if_pos ⟨h1.1, h1.2, h3⟩, if_pos ⟨h1.1, h1.2, by omega⟩]
      · rw [if_neg (fun hc => h3 hc.2.2), if_neg (fun hc => by omega)]
  · rw [if_neg (fun hc => h1 ⟨hc.1, hc.2.1⟩), if_neg (fun hc => h1 ⟨hc.1, hc.2.1⟩), if_neg (fun hc => h1 ⟨hc.1, hc.2.1⟩)]

theorem off36_at (k : Fin k0_t29_loop.trips) (j : Fin 8) :
    k0_off36 t1 t2 k (BitVec.ofNat 32 j.val) = ![t1.val % 3, t2.val, 16 * (8 * k.val + j.val)] :=
  (k0_off36_eq t1 t2 k j).trans (off_at (by omega))

theorem relu_ldv (v : V16 F) : maximumf (subf (shapeCast S16 (ldv v) shapeCasts_S1x1x16_S16) t) zeros = relu t v := by
  rw [cast_ldv]
  rfl

theorem part9_run (k : Fin k0_t29_loop.trips) (h : Out (t1.val % 3) t2.val t B (8 * k.val) st) :
    Runs d i (t1.val % 3) st (k0_part9 i xM h2 oM h3 bufM h4 candM h5 blksM h6 lanesM h7 a8 a9 t1 w43 t2 w12 t wa wb k)
      (fun r st' => r.2.2 = relu t (vec (inRow t1 t2 B) (8 * k.val + 2)) ∧ Out (t1.val % 3) t2.val t B (8 * k.val + 2) st') := by
  have hk : k.val < 32 := k.isLt
  rw [k0_part9_eq_skeleton]
  unfold k0_part9_skel
  refine h.load (by omega) (off36_at k 0) ?_
  refine h.load (by omega) (off36_at k 0) ?_
  refine h.store (off36_at k 0) (relu_ldv _) fun st1 h1 => ?_
  refine h1.load (by omega) (off36_at k 1) ?_
  refine h1.load (by omega) (off36_at k 1) ?_
  refine h1.store (off36_at k 1) (relu_ldv _) fun st2 h2 => ?_
  refine h2.load (by omega) (off36_at k 2) ?_
  exact Runs.ret ⟨relu_ldv _, h2⟩

theorem part10_run (k : Fin k0_t29_loop.trips) (h : Out (t1.val % 3) t2.val t B (8 * k.val + 2) st) :
    Runs d i (t1.val % 3) st (k0_part10 i xM h2 oM h3 bufM h4 candM h5 blksM h6 lanesM h7 a8 a9 t1 w43 t2 w12 t k wa wb (relu t (vec (inRow t1 t2 B) (8 * k.val + 2))))
      (fun r st' => maximumf r.2.1 r.2.2 = relu t (vec (inRow t1 t2 B) (8 * k.val + 5)) ∧ Out (t1.val % 3) t2.val t B (8 * k.val + 5) st') := by
  have hk : k.val < 32 := k.isLt
  rw [k0_part10_eq_skeleton]
  unfold k0_part10_skel
  refine h.load (by omega) (off36_at k 2) ?_
  refine h.store (off36_at k 2) rfl fun st1 h1 => ?_
  refine h1.load (by omega) (off36_at k 3) ?_
  refine h1.load (by omega) (off36_at k 3) ?_
  refine h1.store (off36_at k 3) (relu_ldv _) fun st2 h2 => ?_
  refine h2.load (by omega) (off36_at k 4) ?_
  refine h2.load (by omega) (off36_at k 4) ?_
  refine h2.store (off36_at k 4) (relu_ldv _) fun st3 h3 => ?_
  refine h3.load (by omega) (off36_at k 5) ?_
  exact Runs.ret ⟨relu_ldv _, h3⟩

theorem t29_run {w2 c0 c1 z : BitVec 32} (k : Fin k0_t29_loop.trips) (h : Out (t1.val % 3) t2.val t B (8 * k.val) st) :
    Runs d i (t1.val % 3) st (k0_t29_body i xM h2 oM h3 bufM h4 candM h5 blksM h6 lanesM h7 a8 a9 w2 ones zeros c0 c1 t1 w43 t2 w12 t k z)
      (fun _ st' => Out (t1.val % 3) t2.val t B (8 * (k.val + 1)) st') := by
  have hk : k.val < 32 := k.isLt
  unfold k0_t29_body
  refine Runs.bind (part9_run k h) ?_
  rintro ⟨x, y, v⟩ st1 ⟨hv, h1⟩
  dsimp only at hv
  subst hv
  refine Runs.bind (part10_run k h1) ?_
  rintro ⟨x, u, v⟩ st2 ⟨hv, h2⟩
  refine h2.load (by omega) (off36_at k 5) ?_
  refine h2.store (off36_at k 5) hv fun st3 h3 => ?_
  refine h3.load (by omega) (off36_at k 6) ?_
  refine h3.load (by omega) (off36_at k 6) ?_
  refine h3.store (off36_at k 6) (relu_ldv _) fun st4 h4 => ?_
  refine h4.load (by omega) (off36_at k 7) ?_
  refine h4.load (by omega) (off36_at k 7) ?_
  refine h4.store (off36_at k 7) (relu_ldv _) fun st5 h5 => ?_
  exact Runs.ret h5

theorem pad_regs {x : ℕ → F .f32} (h : Pad B (rowC x) (subf (thr x) ones) st) : Regs (rowC x).length (vec (rowP x)) st := by
  intro k hk
  funext l
  have hl : (l 0).val < 16 := (l 0).isLt
  exact h.cand _ (by omega)

theorem pad_reg {x : ℕ → F .f32} (h : Pad B (rowC x) (subf (thr x) ones) st) : vec (cd st.cand) 0 = vec (rowP x) 0 := by
  funext l
  have hl : (l 0).val < 16 := (l 0).isLt
  exact h.cand _ (by omega)

/-- Slot `s` with row `r` replaced by what the kernel writes back for it. -/
def rowDone (s r : ℕ) (f : S3x8x4096.Idx → F .f32) : S3x8x4096.Idx → F .f32 :=
  fun y => if (y 0).val = s ∧ (y 1).val = r then rowOut (rowOf f s r) (y 2).val else f y

theorem Out.done {st' : St F} (ht : t = tau (rowOf B.buf s r)) (h : Out s r t B 256 st') : st'.buf = rowDone s r B.buf := by
  unfold Out at h
  rw [h, ht]
  funext y
  unfold rowDone rowOut
  have hy : (y 2).val < 4096 := (y 2).isLt
  by_cases h1 : (y 0).val = s ∧ (y 1).val = r
  · rw [if_pos h1]
    exact if_pos ⟨h1.1, h1.2, by omega⟩
  · rw [if_neg h1]
    exact if_neg fun hc => h1 ⟨hc.1, hc.2.1⟩

theorem trips29 : 8 * k0_t29_loop.trips = 256 := by decide

/-- The row written back. -/
theorem out_run {w2 c0 c1 z : BitVec 32} (hb : st.buf = B.buf) (ht : t = tau (inRow t1 t2 B)) :
    Runs d i (t1.val % 3) st (Scf.Loop.for k0_t29_loop k0_t29_ok 0#32
        (k0_t29_body i xM h2 oM h3 bufM h4 candM h5 blksM h6 lanesM h7 a8 a9 w2 ones zeros c0 c1 t1 w43 t2 w12 t) >>= fun _ => Pure.pure z)
      (fun _ st' => st'.buf = rowDone (t1.val % 3) t2.val B.buf) := by
  refine Runs.loop (fun k _ st' => Out (t1.val % 3) t2.val t B (8 * k) st') (Out.zero hb) ?_ ?_
  · intro k _ st' h
    exact t29_run k h
  · intro _ st' h
    rw [trips29] at h
    exact Runs.ret (Out.done ht h)

theorem Runs.dite {γ : Type} {s : ℕ} {Q : γ → St F → Prop} {C : Prop} [Decidable C] {p : C → TProg F i γ} {q : ¬C → TProg F i γ}
    (h1 : ∀ h, Runs d i s st (p h) Q) (h2 : ∀ h, Runs d i s st (q h) Q) : Runs d i s st (if h : C then p h else q h) Q := by
  by_cases h : C
  · rw [dif_pos h]
    exact h1 h
  · rw [dif_neg h]
    exact h2 h

/-- The solver over one register. -/
theorem reg_run {w2 c0 c1 : BitVec 32} {m t v : V16 F} {s : ℕ} {γ : Type} {Q : γ → St F → Prop} {k : V16 F → TProg F i γ} (hv : vec (cd st.cand) 0 = v)
    (hk : ∀ st', st'.buf = st.buf → Runs d i s st' (k (solve (regSum v) (regCnt v) t m)) Q) :
    Runs d i s st (k0_part7 i xM h2 oM h3 bufM h4 candM h5 blksM h6 lanesM h7 a8 a9 ones m t >>= fun
      | ⟨v344, v347, v350, v353, v356, v359, v362, v365, v368, v371, v374, v377, v380, v383, v386, v389, v394⟩ =>
        Scf.Loop.for k0_t22_loop k0_t22_ok v394 (k0_t22_body i xM h2 oM h3 bufM h4 candM h5 blksM h6 lanesM h7 a8 a9 w2 ones zeros c0 c1 t1 v344 v347 v350 v353 v356 v359 v362 v365 v368 v371 v374 v377 v380 v383 v386 v389)
          >>= k) Q := by
  refine Runs.bind (part7_run _ _ _ hv) ?_
  rintro r7 st7 ⟨hr, hs⟩
  rw [hr]
  refine Runs.loop (fun n u st' => u = itr (fun _ => newton (regSum v) (regCnt v))
    (midOf (itr (fun _ => bisStep (regSum v)) (t, m) 16).1 (itr (fun _ => bisStep (regSum v)) (t, m) 16).2) n ∧ st'.buf = st.buf) ⟨rfl, by rw [hs]⟩ ?_ ?_
  · rintro n u st8 ⟨hu, hb⟩
    rw [t22_eq]
    exact Runs.ret ⟨by rw [hu]; rfl, hb⟩
  · rintro u st8 ⟨hu, hb⟩
    rw [hu]
    exact hk st8 hb

/-- The solver over the candidates' registers. -/
theorem loop_run {w2 c0 c1 w334 : BitVec 32} {m t : V16 F} {s n : ℕ} {γ : Type} {Q : γ → St F → Prop} {k : V16 F → TProg F i γ} {w : ℕ → V16 F}
    {hw : k0_chk21 (BitVec.ofNat 32 n)} {h19 : ¬k0_cond19 (BitVec.ofNat 32 n) = 1#1} (hn : n ≤ 4096) (hr : Regs n w st)
    (hk : ∀ st', st'.buf = st.buf → Runs d i s st' (k (solve (loopSum w ((n + 15) / 16)) (loopCnt w ((n + 15) / 16)) t m)) Q) :
    Runs d i s st (Scf.Loop.for k0_t23_loop k0_t23_ok (t, m) (k0_t23_body i xM h2 oM h3 bufM h4 candM h5 blksM h6 lanesM h7 a8 a9 w2 ones zeros c0 c1 t1 (BitVec.ofNat 32 n) hw h19) >>= fun
      | (v342_0, v342_1) =>
        Scf.Loop.for k0_t26_loop k0_t26_ok (k0_pay229 v342_0 v342_1) (k0_t26_body i xM h2 oM h3 bufM h4 candM h5 blksM h6 lanesM h7 a8 a9 w2 ones zeros c0 c1 t1 (BitVec.ofNat 32 n) hw w334 h19)
          >>= k) Q := by
  refine Runs.loop (fun j p st' => p = itr (fun _ => bisStep (loopSum w ((n + 15) / 16))) (t, m) j ∧ st'.buf = st.buf ∧ st'.cand = st.cand) ⟨rfl, rfl, rfl⟩ ?_ ?_
  · rintro j p st8 ⟨hp, hb, hc⟩
    have hr' : Regs n w st8 := by
      intro k hk
      rw [hc]
      exact hr k hk
    refine Runs.mono (t23_run hn hr' j p) ?_
    rintro q st9 ⟨hq, hb', hc'⟩
    exact ⟨by rw [hq, hp]; rfl, hb'.trans hb, hc'.trans hc⟩
  rintro p st8 ⟨hp, hb, hc⟩
  refine Runs.loop (fun j u st' => u = itr (fun _ => newton (loopSum w ((n + 15) / 16)) (loopCnt w ((n + 15) / 16))) (midOf p.1 p.2) j
    ∧ st'.buf = st.buf ∧ st'.cand = st.cand) ⟨rfl, hb, hc⟩ ?_ ?_
  · rintro j u st8 ⟨hu, hb, hc⟩
    have hr' : Regs n w st8 := by
      intro k hk
      rw [hc]
      exact hr k hk
    refine Runs.mono (t26_run hn hr' j u) ?_
    rintro q st9 ⟨hq, hb', hc'⟩
    exact ⟨by rw [hq, hu]; rfl, hb'.trans hb, hc'.trans hc⟩
  · rintro u st8 ⟨hu, hb, hc⟩
    rw [hu, hp]
    exact hk st8 hb

theorem tau_reg {x : ℕ → F .f32} (h : (rowC x).length ≤ 16) :
    tau x = solve (regSum (vec (rowP x) 0)) (regCnt (vec (rowP x) 0)) (thr x) (rowMax x) := by
  unfold tau
  rw [if_pos h]

theorem tau_loop {x : ℕ → F .f32} (h : ¬(rowC x).length ≤ 16) :
    tau x = solve (loopSum (vec (rowP x)) (((rowC x).length + 15) / 16)) (loopCnt (vec (rowP x)) (((rowC x).length + 15) / 16)) (thr x) (rowMax x) := by
  unfold tau
  rw [if_neg h]
  rfl

theorem cond19_of {n : ℕ} (hn : n ≤ 4096) : k0_cond19 (BitVec.ofNat 32 n) = 1#1 ↔ n ≤ 16 := cond19_iff ⟨n, Nat.lt_succ_of_le hn⟩

/-- **One row.** The trip leaves everything of the slot as it was but its own row, which it replaces. -/
theorem t2_run {w2 c0 c1 z : BitVec 32} :
    Runs d i (t1.val % 3) st (k0_t2_body i xM h2 oM h3 bufM h4 candM h5 blksM h6 lanesM h7 a8 a9 w2 ones zeros c0 c1 t1 w43 t2 z)
      (fun _ st' => st'.buf = rowDone (t1.val % 3) t2.val st.buf) := by
  unfold k0_t2_body
  refine Runs.bind part11_run ?_
  rintro ⟨w12, m, t, u⟩ st1 ⟨hm, ht, hu, hb1, hk1⟩
  dsimp only at hm ht hu
  subst hm ht hu
  have e1 : inRow t1 t2 st = inRow t1 t2 st1 := by unfold inRow; rw [hb1]
  rw [e1] at hk1 ⊢
  rw [← hb1]
  refine Runs.bind (part12_run hk1 rfl rfl) ?_
  rintro ⟨c, u⟩ st2 ⟨hA, hu⟩
  dsimp only at hA hu
  subst hu
  refine Runs.bind (part13_run hk1 hA) ?_
  rintro ⟨c, u, v⟩ st3 ⟨hA, hu, hv⟩
  dsimp only at hA hu hv
  subst hu hv
  refine Runs.bind (part14_run hk1 hA) ?_
  rintro ⟨c, u⟩ st4 ⟨hA, hu⟩
  dsimp only at hA hu
  subst hu
  refine Runs.bind (part15_run hk1 hA) ?_
  rintro ⟨c, u⟩ st5 ⟨hA, hu⟩
  dsimp only at hA hu
  subst hu
  refine Runs.bind (part16_run hk1 hA) ?_
  rintro ⟨c, hw⟩ st6 ⟨hc, hP⟩
  have e6 : rowL (inRow t1 t2 st1) (thr (inRow t1 t2 st1)) 16 = rowC (inRow t1 t2 st1) := rfl
  dsimp only at hc
  rw [e6] at hc hP
  clear hA hk1
  subst hc
  dsimp only
  have hn : (rowC (inRow t1 t2 st1)).length ≤ 4096 := rowC_length_le _
  rcases Classical.em (k0_cond19 (BitVec.ofNat 32 (rowC (inRow t1 t2 st1)).length) = 1#1) with h19 | h19
  · simp only [dif_pos h19]
    refine reg_run (pad_reg hP) fun st7 hb => ?_
    exact out_run (hb.trans hP.buf) (tau_reg ((cond19_of hn).mp h19)).symm
  · simp only [dif_neg h19]
    refine loop_run hn (pad_regs hP) fun st7 hb => ?_
    exact out_run (hb.trans hP.buf) (tau_loop (fun h => h19 ((cond19_of hn).mpr h))).symm

end

end Cert.Proof

end
-- ==== Proof.Chunk.lean ====
module

public import proofs.«01_k».proof.Proof.Row

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-! ## Rows of a tile, chunks, slots -/

/-- The first row of the tile at coordinates `i`. -/
def base (i : grid0.Coords) : ℕ := 512 * (i 1).val + 256 * (i 0).val

theorem base_le (i : grid0.Coords) : base i + 256 ≤ 8192 := by
  have h0 : (i 0).val < 2 := (i 0).isLt
  have h1 : (i 1).val < 16 := (i 1).isLt
  unfold base; omega

/-- The elements of the tile's chunks `a` up to, not including, `b`. -/
def rows (i : grid0.Coords) (a b : ℕ) : Finset S8192x4096.Idx :=
  Finset.univ.filter fun y => base i + 8 * a ≤ (y 0).val ∧ (y 0).val < base i + 8 * b

theorem mem_rows {i : grid0.Coords} {a b : ℕ} {y : S8192x4096.Idx} :
    y ∈ rows i a b ↔ base i + 8 * a ≤ (y 0).val ∧ (y 0).val < base i + 8 * b := by
  simp [rows]

theorem mem_slotSet {s : ℕ} {y : S3x8x4096.Idx} : y ∈ slotSet s ↔ (y 0).val = s := by simp [slotSet]

/-- The element `(r, c)` of an array of rows, taken round. -/
def ix2 (r c : ℕ) : S8192x4096.Idx :=
  fun | 0 => ⟨r % 8192, Nat.mod_lt _ (by decide)⟩ | 1 => ⟨c % 4096, Nat.mod_lt _ (by decide)⟩

/-- Chunk `n` of the tile's rows of `X`, laid out in every slot of the ring. -/
def chunk (i : grid0.Coords) (n : ℕ) (X : Vec F S8192x4096 .f32) : Vec F S3x8x4096 .f32 :=
  fun y => X (ix2 (base i + 8 * n + (y 1).val) (y 2).val)

/-- The array of row outputs. -/
def outArr (X : Vec F S8192x4096 .f32) : Vec F S8192x4096 .f32 :=
  fun y => rowOut (fun c => X (ix2 (y 0).val c)) (y 1).val

abbrev xL (d : Dev nD) (i : grid0.Coords) := (xM : Memref sig .scVector .hbm S8192x4096 .f32).view.loc (tl d i)
abbrev oL (d : Dev nD) (i : grid0.Coords) := (oM : Memref sig .scVector .hbm S8192x4096 .f32).view.loc (tl d i)
abbrev bL (d : Dev nD) (i : grid0.Coords) := (bufM : Memref sig .scVector .vmem S3x8x4096 .f32).view.loc (tl d i)

variable {d : Dev nD} {i : grid0.Coords}

/-- Consecutive chunks of `x` are held together exactly when held apart. -/
theorem xrows_cut (f : Vec F S8192x4096 .f32) {a b c : ℕ} (h1 : a ≤ b) (h2 : b ≤ c) :
    (xL d i ↦[rows i a c]{fullShare} f : sProp 𝕄) ⊣⊢ iprop((xL d i ↦[rows i a b]{fullShare} f) ∗ xL d i ↦[rows i b c]{fullShare} f) := by
  have e : rows i a c = rows i a b ∪ rows i b c := by
    ext y; simp only [Finset.mem_union, mem_rows]; omega
  rw [e]
  exact pointsTo_union (Finset.disjoint_left.mpr fun y h h' => by rw [mem_rows] at h h'; omega)

theorem orows_cut (f : Vec F S8192x4096 .f32) {a b c : ℕ} (h1 : a ≤ b) (h2 : b ≤ c) :
    (oL d i ↦[rows i a c]{fullShare} f : sProp 𝕄) ⊣⊢ iprop((oL d i ↦[rows i a b]{fullShare} f) ∗ oL d i ↦[rows i b c]{fullShare} f) := by
  have e : rows i a c = rows i a b ∪ rows i b c := by
    ext y; simp only [Finset.mem_union, mem_rows]; omega
  rw [e]
  exact pointsTo_union (Finset.disjoint_left.mpr fun y h h' => by rw [mem_rows] at h h'; omega)

/-! ## The views of one chunk -/

abbrev xCh (off : Fin 2 → ℕ) (h : ∀ a, off a + S8x4096.size a ≤ S8192x4096.size a) : Memref sig .scVector .hbm S8x4096 .f32 :=
  (xM : Memref sig .scVector .hbm S8192x4096 .f32).slice (Rect.unit (s := S8192x4096) off S8x4096.size h) (fun _ => rfl)
abbrev oCh (off : Fin 2 → ℕ) (h : ∀ a, off a + S8x4096.size a ≤ S8192x4096.size a) : Memref sig .scVector .hbm S8x4096 .f32 :=
  (oM : Memref sig .scVector .hbm S8192x4096 .f32).slice (Rect.unit (s := S8192x4096) off S8x4096.size h) (fun _ => rfl)
abbrev slot (off : Fin 3 → ℕ) (h : ∀ a, off a + S1x8x4096.size a ≤ S3x8x4096.size a) : Memref sig .scVector .vmem S8x4096 .f32 :=
  ((bufM : Memref sig .scVector .vmem S3x8x4096 .f32).slice (Rect.unit (s := S3x8x4096) off S1x8x4096.size h) (fun _ => rfl)).squeeze S8x4096 squeezes_S1x8x4096_S8x4096

abbrev inSem (off : Fin 1 → ℕ) (h : ∀ a, off a + S1.size a ≤ S3.size a) : DmaSem sig :=
  ((cc0_scratch4.slice (Rect.unit (s := S3) off S1.size h)).squeeze S_ squeezes_S1_S_).sem
abbrev outSem (off : Fin 1 → ℕ) (h : ∀ a, off a + S1.size a ≤ S3.size a) : DmaSem sig :=
  ((cc0_scratch5.slice (Rect.unit (s := S3) off S1.size h)).squeeze S_ squeezes_S1_S_).sem

theorem sem_inb (n : ℕ) : ∀ a, (![n % 3] : Fin 1 → ℕ) a + S1.size a ≤ S3.size a := by
  intro a; fin_cases a; have := Nat.mod_lt n (show 0 < 3 by decide); show n % 3 + 1 ≤ 3; omega

/-- The semaphore chunk `n` is fetched on, and the one it is sent back on. -/
def isem (n : ℕ) : DmaSem sig := inSem ![n % 3] (sem_inb n)
def osem (n : ℕ) : DmaSem sig := outSem ![n % 3] (sem_inb n)

theorem inSem_eq {off : Fin 1 → ℕ} {h} {n : ℕ} (he : off = ![n % 3]) : inSem off h = isem n := by subst he; rfl
theorem outSem_eq {off : Fin 1 → ℕ} {h} {n : ℕ} (he : off = ![n % 3]) : outSem off h = osem n := by subst he; rfl
theorem isem_congr {a b : ℕ} (h : a % 3 = b % 3) : isem a = isem b := inSem_eq (by rw [h])
theorem osem_congr {a b : ℕ} (h : a % 3 = b % 3) : osem a = osem b := outSem_eq (by rw [h])

/-- Place `(r, c)` of a chunk's view is row `r` of the chunk. -/
theorem xCh_emb {off : Fin 2 → ℕ} {h} {n : ℕ} (he : off = ![base i + 8 * n, 0]) (j : S8x4096.Idx) :
    (xCh off h).view.emb j = ix2 (base i + 8 * n + (j 0).val) (j 1).val := by
  subst he
  have h0 := h 0
  have hj0 : (j 0).val < 8 := (j 0).isLt
  have hj1 : (j 1).val < 4096 := (j 1).isLt
  simp at h0
  have e : ∀ a, ((xCh ![base i + 8 * n, 0] h).view.emb j a).val = (![base i + 8 * n, 0] : Fin 2 → ℕ) a + 1 * (j a).val := fun a => rfl
  funext a
  apply Fin.ext
  rw [e]
  fin_cases a <;> simp [ix2] <;> omega

/-- Place `(r, c)` of slot `s` is place `(s, r, c)` of the ring. -/
theorem slot_emb {off : Fin 3 → ℕ} {h} {s : ℕ} (he : off = ![s, 0, 0]) (j : S8x4096.Idx) :
    (slot off h).view.emb j = ix3 s (j 0).val (j 1).val := by
  subst he
  have h0 := h 0
  have hj0 : (j 0).val < 8 := (j 0).isLt
  have hj1 : (j 1).val < 4096 := (j 1).isLt
  simp at h0
  have hr : ∀ a, ((slot ![s, 0, 0] h).view.emb j a).val
      = (![s, 0, 0] : Fin 3 → ℕ) a + 1 * ((show S1x8x4096.Idx from fun | 0 => ⟨0, Nat.one_pos⟩ | 1 => j 0 | 2 => j 1) a).val := by
    intro a
    have := Shape.reshapeEquiv_eq_of_rowMajor squeezes_S1x8x4096_S8x4096.numel_eq (x := j)
      (y := show S1x8x4096.Idx from fun | 0 => ⟨0, Nat.one_pos⟩ | 1 => j 0 | 2 => j 1)
      (by rw [Shape.rowMajor_val_three, Shape.rowMajor_val_two]; simp)
    rw [← this]; rfl
  funext a
  apply Fin.ext
  rw [hr]
  fin_cases a <;> simp [ix3] <;> omega

/-- A chunk's rows are the elements of its view. -/
theorem xCh_set {off : Fin 2 → ℕ} {h} {n : ℕ} (he : off = ![base i + 8 * n, 0]) : (xCh off h).view.set = rows i n (n + 1) := by
  subst he
  ext y
  have h1 : (y 1).val < 4096 := (y 1).isLt
  rw [show (xCh ![base i + 8 * n, 0] h).view.set = _ from View.set_slice_whole _ _, mem_rows, Rect.mem_set_unit]
  constructor
  · intro hy; have := hy 0; simp at this; omega
  · intro hy a; fin_cases a
    · simp; omega
    · exact ⟨Nat.zero_le _, by simpa using h1⟩

theorem slot_set {off : Fin 3 → ℕ} {h} {s : ℕ} (he : off = ![s, 0, 0]) : (slot off h).view.set = slotSet s := by
  subst he
  ext y
  have h1 : (y 1).val < 8 := (y 1).isLt
  have h2 : (y 2).val < 4096 := (y 2).isLt
  rw [show (slot ![s, 0, 0] h).view.set = _ from (View.set_reshape _ _).trans (View.set_slice_whole _ _), mem_slotSet, Rect.mem_set_unit]
  constructor
  · intro hy; have := hy 0; simp at this; omega
  · intro hy a; fin_cases a
    · simp; omega
    · exact ⟨Nat.zero_le _, by simpa using h1⟩
    · exact ⟨Nat.zero_le _, h2.trans_eq (Nat.zero_add _).symm⟩

/-- What a fetch leaves in slot `n` modulo 3: chunk `n`. -/
theorem fetch_lands {off : Fin 2 → ℕ} {h} {off' : Fin 3 → ℕ} {h'} {n : ℕ} (he : off = ![base i + 8 * n, 0]) (he' : off' = ![n % 3, 0, 0])
    (X : Vec F S8192x4096 .f32) (f : Vec F S3x8x4096 .f32) {y : S3x8x4096.Idx} (hy : y ∈ slotSet (n % 3)) :
    (slot off' h').view.write (Elt F) f ((xCh off h).view.read (Elt F) X) Finset.univ y = chunk i n X y := by
  rw [← slot_set he' (h := h')] at hy
  obtain ⟨j, -, rfl⟩ := Finset.mem_map.mp hy
  have hj0 : (j 0).val < 8 := (j 0).isLt
  have hj1 : (j 1).val < 4096 := (j 1).isLt
  have hw := (slot off' h').view.write_emb_of_mem (Val := Elt F) f ((xCh off h).view.read (Elt F) X) (Finset.mem_univ j)
  have hr : (xCh off h).view.read (Elt F) X j = X (ix2 (base i + 8 * n + (j 0).val) (j 1).val) := by
    rw [← xCh_emb he (h := h)]; rfl
  refine Eq.trans (b := (xCh off h).view.read (Elt F) X j) ?_ ?_
  · exact hw
  rw [hr, slot_emb he']
  show _ = X (ix2 (base i + 8 * n + (j 0).val % 8) ((j 1).val % 4096))
  rw [Nat.mod_eq_of_lt hj0, Nat.mod_eq_of_lt hj1]

/-- What sending slot `n` modulo 3 back leaves in the rows of chunk `n`, when the slot held chunk `n` of `X`: `X`. -/
theorem send_lands {off : Fin 2 → ℕ} {h} {off' : Fin 3 → ℕ} {h'} {n : ℕ} (he : off = ![base i + 8 * n, 0]) (he' : off' = ![n % 3, 0, 0])
    (X g : Vec F S8192x4096 .f32) {y : S8192x4096.Idx} (hy : y ∈ rows i n (n + 1)) :
    (oCh off h).view.write (Elt F) g ((slot off' h').view.read (Elt F) (chunk i n X)) Finset.univ y = X y := by
  rw [← xCh_set he (h := h)] at hy
  obtain ⟨j, -, rfl⟩ := Finset.mem_map.mp hy
  have hj0 : (j 0).val < 8 := (j 0).isLt
  have hj1 : (j 1).val < 4096 := (j 1).isLt
  have hw := (oCh off h).view.write_emb_of_mem (Val := Elt F) g ((slot off' h').view.read (Elt F) (chunk i n X)) (Finset.mem_univ j)
  have hr : (slot off' h').view.read (Elt F) (chunk i n X) j = chunk i n X (ix3 (n % 3) (j 0).val (j 1).val) := by
    rw [← slot_emb he' (h := h')]; rfl
  refine Eq.trans (b := (slot off' h').view.read (Elt F) (chunk i n X) j) ?_ ?_
  · exact hw
  rw [hr, xCh_emb he]
  show X (ix2 (base i + 8 * n + (j 0).val % 8) ((j 1).val % 4096)) = _
  rw [Nat.mod_eq_of_lt hj0, Nat.mod_eq_of_lt hj1]

/-! ## Copies in flight -/

/-- The amounts a fetch and a send credit. -/
abbrev Nin : ℕ := sig.dmaCredit .scVector (Kind.scVector.table .vmem) (cc0_scratch0 : Ref sig .scVector).idx S8x4096 .f32
abbrev Nout : ℕ := sig.dmaCredit .scVector (Kind.scVector.table .hbm) (main_v0_scv : Ref sig .scVector).idx S8x4096 .f32
theorem Nin_pos : 0 < Nin := sig.dmaCredit_pos _ _ _ _ _ (by decide)
theorem Nout_pos : 0 < Nout := sig.dmaCredit_pos _ _ _ _ _ (by decide)

/-- The fetch of chunk `n` under way. -/
def InF (d : Dev nD) (i : grid0.Coords) (X : Vec F S8192x4096 .f32) (n : ℕ) : sProp 𝕄 :=
  Flight EC (tl d i) (.dma (isem n)) (none : HIx 1) Nin
    iprop((bL d i ↦[slotSet (n % 3)]{fullShare} chunk i n X) ∗ xL d i ↦[rows i n (n + 1)]{fullShare} X)
/-- The sending of chunk `n`'s outputs under way. -/
def OutF (d : Dev nD) (i : grid0.Coords) (X : Vec F S8192x4096 .f32) (n : ℕ) : sProp 𝕄 :=
  Flight EC (tl d i) (.dma (osem n)) (none : HIx 1) Nout
    iprop((oL d i ↦[rows i n (n + 1)]{fullShare} outArr X) ∗ bL d i ↦[slotSet (n % 3)]{fullShare} chunk i n (outArr X))

variable {α : Type} {Q : α → sProp (MT nD τ sig (HIx 1) (Elt F) ℕ UU ℕ)} {k : PUnit → TProg F i α} {X : Vec F S8192x4096 .f32}

/-- Starting the fetch of chunk `n`. -/
theorem fetch_start {off : Fin 2 → ℕ} {h} {off' : Fin 3 → ℕ} {h'} {off'' : Fin 1 → ℕ} {h''} {n : ℕ} (he : off = ![base i + 8 * n, 0])
    (he' : off' = ![n % 3, 0, 0]) (he'' : off'' = ![n % 3]) (f : Vec F S3x8x4096 .f32) {e1 e2 e3} :
    iprop((xL d i ↦[rows i n (n + 1)]{fullShare} X) ∗ (bL d i ↦[slotSet (n % 3)]{fullShare} f) ∗ semVal (tl d i, .dma (isem n)) 0)
      ⊢ iprop((InF d i X n -∗ wp frame (wpE defs₀ 𝒱₀ (tl d i) none) Set.univ (k ⟨⟩) Q)
        -∗ wp frame (wpE defs₀ 𝒱₀ (tl d i) none) Set.univ
          (.op (.enqueueDma (xCh off h) (.here (slot off' h')) (.dma (inSem off'' h'')) e1 e2 e3) k) Q) := by
  subst he''
  have hw := Transfers.wp_dmaLocal EC 𝒱₀ (tl d i) none (defs := defs₀ (F := F)) (src := xCh off h) (via := .same) (dst := slot off' h') (sm := .dma (isem n))
    (hsrc := e1) (hdst := e2) (hsem := e3) (k := k) (Q := Q) (q := fullShare) (fs := X) (Sd := slotSet (n % 3)) (fd := f) (none : HIx 1) Nin rfl Nin_pos
    (subset_of_eq (slot_set he'))
  rw [xCh_set he] at hw
  iintro ⟨H1, H2, H3⟩ Hk
  iapply hw $$ [H1 H2 H3]
  · isplitl [H1]; · iexact H1
    isplitl [H2]; · iexact H2
    iexact H3
  iintro Hf
  iapply Hk
  unfold InF
  iapply (Transfers.Flight_mono EC (tl d i) (Entails.of_eq (congrArg (fun A => iprop(A ∗ _)) (pointsTo_congr fun y hy => fetch_lands he he' X f hy)))) $$ Hf

/-- Starting the sending of chunk `n`'s outputs. -/
theorem send_start {off : Fin 2 → ℕ} {h} {off' : Fin 3 → ℕ} {h'} {off'' : Fin 1 → ℕ} {h''} {n : ℕ} (he : off = ![base i + 8 * n, 0])
    (he' : off' = ![n % 3, 0, 0]) (he'' : off'' = ![n % 3]) (g : Vec F S8192x4096 .f32) {e1 e2 e3} :
    iprop((bL d i ↦[slotSet (n % 3)]{fullShare} chunk i n (outArr X)) ∗ (oL d i ↦[rows i n (n + 1)]{fullShare} g) ∗ semVal (tl d i, .dma (osem n)) 0)
      ⊢ iprop((OutF d i X n -∗ wp frame (wpE defs₀ 𝒱₀ (tl d i) none) Set.univ (k ⟨⟩) Q)
        -∗ wp frame (wpE defs₀ 𝒱₀ (tl d i) none) Set.univ
          (.op (.enqueueDma (slot off' h') (.here (oCh off h)) (.dma (outSem off'' h'')) e1 e2 e3) k) Q) := by
  subst he''
  have hs : (oCh off h).view.set = rows i n (n + 1) := xCh_set (h := h) he
  have hw := Transfers.wp_dmaLocal EC 𝒱₀ (tl d i) none (defs := defs₀ (F := F)) (src := slot off' h') (via := .same) (dst := oCh off h) (sm := .dma (osem n))
    (hsrc := e1) (hdst := e2) (hsem := e3) (k := k) (Q := Q) (q := fullShare) (fs := chunk i n (outArr X)) (Sd := rows i n (n + 1)) (fd := g) (none : HIx 1) Nout rfl Nout_pos
    (subset_of_eq hs)
  rw [slot_set he'] at hw
  iintro ⟨H1, H2, H3⟩ Hk
  iapply hw $$ [H1 H2 H3]
  · isplitl [H1]; · iexact H1
    isplitl [H2]; · iexact H2
    iexact H3
  iintro Hf
  iapply Hk
  unfold OutF
  iapply (Transfers.Flight_mono EC (tl d i) (Entails.of_eq (congrArg (fun A => iprop(A ∗ _)) (pointsTo_congr fun y hy => send_lands he he' (outArr X) g hy)))) $$ Hf

variable {O : CellTallies nD τ sig (HIx 1)}

/-- What the tile still owes, with the waits it has promised nothing for. -/
def Owed (d : Dev nD) (i : grid0.Coords) (O : CellTallies nD τ sig (HIx 1)) (W : Waits sig (HIx 1)) : sProp 𝕄 :=
  iprop(levAts (K (F := F)).L (K (F := F)).lev ∗ ∃ W', ⌜∀ p ∈ W', p ∈ W ∨ p.2 = none⌝ ∗ owes (tl d i) O W')

variable {W : Waits sig (HIx 1)}

/-- Waiting for the fetch of chunk `n`. -/
theorem fetch_wait (hO : ∀ g, O g none = 0) {off' : Fin 3 → ℕ} {h'} {off'' : Fin 1 → ℕ} {h''} {n : ℕ} {src : Memref sig .scVector .hbm S8x4096 .f32}
    (he'' : off'' = ![n % 3]) {e1 e2} :
    iprop(InF d i X n ∗ Owed d i O W)
      ⊢ iprop((iprop((bL d i ↦[slotSet (n % 3)]{fullShare} chunk i n X) ∗ (xL d i ↦[rows i n (n + 1)]{fullShare} X)
            ∗ semVal (tl d i, .dma (isem n)) 0 ∗ Owed d i O W) -∗ wp frame (wpE defs₀ 𝒱₀ (tl d i) none) Set.univ (k ⟨⟩) Q)
        -∗ wp frame (wpE defs₀ 𝒱₀ (tl d i) none) Set.univ (.op (.waitDma2 (inSem off'' h'') src (slot off' h') e1 e2) k) Q) := by
  rw [inSem_eq he'']
  unfold Owed InF
  iintro ⟨Hf, #Hlv, %W', %hW', HO⟩ Hk
  iapply (Transfers.wp_waitLocalO EC 𝒱₀ (tl d i) none (srcw := src) (dstw := slot off' h') (none : HIx 1) (N := Nin) rfl) $$ [Hf HO]
  · isplitl [Hf]; · iexact Hf
    isplitl [HO]; · iexact HO
    iapply ((K (F := F)).mayWait_none (SemLoc.dma (isem n)) hO)
    iexact Hlv
  iintro ⟨⟨Hb, Hx⟩, Hs, HO⟩
  iapply Hk
  isplitl [Hb]; · iexact Hb
  isplitl [Hx]; · iexact Hx
  isplitl [Hs]; · iexact Hs
  isplitr; · iexact Hlv
  iexists (insert (SemLoc.dma (isem n), none) W')
  isplitr
  · ipureintro
    exact fun p hp => (Finset.mem_insert.mp hp).elim (fun h => .inr (by rw [h])) (hW' p)
  iexact HO

/-- Waiting for the sending of chunk `n`'s outputs. -/
theorem send_wait (hO : ∀ g, O g none = 0) {off : Fin 2 → ℕ} {h} {off'' : Fin 1 → ℕ} {h''} {n : ℕ} {src : Memref sig .scVector .vmem S8x4096 .f32}
    (he'' : off'' = ![n % 3]) {e1 e2} :
    iprop(OutF d i X n ∗ Owed d i O W)
      ⊢ iprop((iprop((oL d i ↦[rows i n (n + 1)]{fullShare} outArr X) ∗ (bL d i ↦[slotSet (n % 3)]{fullShare} chunk i n (outArr X))
            ∗ semVal (tl d i, .dma (osem n)) 0 ∗ Owed d i O W) -∗ wp frame (wpE defs₀ 𝒱₀ (tl d i) none) Set.univ (k ⟨⟩) Q)
        -∗ wp frame (wpE defs₀ 𝒱₀ (tl d i) none) Set.univ (.op (.waitDma2 (outSem off'' h'') src (oCh off h) e1 e2) k) Q) := by
  rw [outSem_eq he'']
  unfold Owed OutF
  iintro ⟨Hf, #Hlv, %W', %hW', HO⟩ Hk
  iapply (Transfers.wp_waitLocalO EC 𝒱₀ (tl d i) none (srcw := src) (dstw := oCh off h) (none : HIx 1) (N := Nout) rfl) $$ [Hf HO]
  · isplitl [Hf]; · iexact Hf
    isplitl [HO]; · iexact HO
    iapply ((K (F := F)).mayWait_none (SemLoc.dma (osem n)) hO)
    iexact Hlv
  iintro ⟨⟨Hb, Hx⟩, Hs, HO⟩
  iapply Hk
  isplitl [Hb]; · iexact Hb
  isplitl [Hx]; · iexact Hx
  isplitl [Hs]; · iexact Hs
  isplitr; · iexact Hlv
  iexists (insert (SemLoc.dma (osem n), none) W')
  isplitr
  · ipureintro
    exact fun p hp => (Finset.mem_insert.mp hp).elim (fun h => .inr (by rw [h])) (hW' p)
  iexact HO

end Cert.Proof

end
-- ==== Proof.Tile.lean ====
module

public import proofs.«01_k».proof.Proof.Chunk

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

variable {d : Dev nD} {i : grid0.Coords} {h2 : (xM : Memref sig .scVector .hbm S8192x4096 .f32).IsWhole}
  {h3 : (oM : Memref sig .scVector .hbm S8192x4096 .f32).IsWhole} {h4 : (bufM : Memref sig .scVector .vmem S3x8x4096 .f32).IsWhole}
  {h5 : (candM : Memref sig .scVector .vmem S4112 .f32).IsWhole} {h6 : (blksM : Memref sig .scVector .vmem S256 .f32).IsWhole}
  {h7 : (lanesM : Memref sig .scVector .vmem S16 .f32).IsWhole} {a8 a9 : DmaSems sig S3}
  {t1 : Fin k0_t1_loop.trips} {t2 : Fin k0_t2_loop.trips} {w43 w12 w14 wa wb : BitVec 32} {st : St F}

/-! ## One chunk: its eight rows -/

/-- The first `k` rows of slot `s` are replaced by their outputs. -/
def rowsDone (s k : ℕ) (f : Vec F S3x8x4096 .f32) : Vec F S3x8x4096 .f32 :=
  fun y => if (y 0).val = s ∧ (y 1).val < k then rowOut (rowOf f s (y 1).val) (y 2).val else f y

theorem t2_trips : k0_t2_loop.trips = 8 := by decide

theorem rowOf_rowsDone (s k : ℕ) (hk : k < 8) (f : Vec F S3x8x4096 .f32) : rowOf (rowsDone s k f) s k = rowOf f s k := by
  funext c
  have : ¬((ix3 s k c 1).val < k) := by show ¬(k % 8 < k); omega
  show (if _ ∧ (ix3 s k c 1).val < k then _ else _) = _
  rw [if_neg fun h => this h.2]; rfl

theorem rowDone_rowsDone (s k : ℕ) (hk : k < 8) (f : Vec F S3x8x4096 .f32) : rowDone s k (rowsDone s k f) = rowsDone s (k + 1) f := by
  funext y
  unfold rowDone
  rw [rowOf_rowsDone s k hk]
  unfold rowsDone
  by_cases h : (y 0).val = s
  · by_cases h' : (y 1).val = k
    · rw [if_pos ⟨h, h'⟩, if_pos ⟨h, by omega⟩, h']
    · rw [if_neg fun e => h' e.2]
      by_cases h2 : (y 1).val < k
      · rw [if_pos ⟨h, h2⟩, if_pos ⟨h, by omega⟩]
      · rw [if_neg fun e => h2 e.2, if_neg fun e => by omega]
  · rw [if_neg fun e => h e.1, if_neg fun e => h e.1, if_neg fun e => h e.1]

/-- The loop over a chunk's eight rows replaces each by its output. -/
theorem slot_run {β : Type} {w2 c0 c1 z : BitVec 32} {k : BitVec 32 → TProg F i β} {P : β → St F → Prop}
    (hk : ∀ acc st', st'.buf = rowsDone (t1.val % 3) 8 st.buf → Runs d i (t1.val % 3) st' (k acc) P) :
    Runs d i (t1.val % 3) st
      (Scf.Loop.for k0_t2_loop k0_t2_ok z (k0_t2_body i xM h2 oM h3 bufM h4 candM h5 blksM h6 lanesM h7 a8 a9 w2 ones zeros c0 c1 t1 w43) >>= k) P := by
  refine Runs.loop (fun n _ st' => st'.buf = rowsDone (t1.val % 3) n st.buf) ?_ ?_ ?_
  · funext y; unfold rowsDone; rw [if_neg (by omega)]
  · intro n acc st' h
    refine Runs.mono t2_run ?_
    intro _ st'' h'
    rw [h', h, rowDone_rowsDone _ _ (n.isLt.trans_eq t2_trips)]
  · intro acc st' h
    rw [t2_trips] at h
    exact hk acc st' h

theorem rowOf_chunk {s n r : ℕ} (hr : r < 8) (X : Vec F S8192x4096 .f32) :
    rowOf (chunk i n X) s r = fun c => X (ix2 (base i + 8 * n + r) c) := by
  funext c
  show X (ix2 (base i + 8 * n + r % 8) (c % 4096)) = _
  rw [Nat.mod_eq_of_lt hr]
  congr 1
  funext a; apply Fin.ext; fin_cases a <;> simp [ix2]

/-- A slot holding a chunk of `X`, its rows replaced, holds the chunk of the outputs. -/
theorem rowsDone_chunk {n : ℕ} (hn : n < 32) (X : Vec F S8192x4096 .f32) {f : Vec F S3x8x4096 .f32} {y : S3x8x4096.Idx}
    (hy : y ∈ slotSet (n % 3)) (hf : ∀ y ∈ slotSet (n % 3), f y = chunk i n X y) :
    rowsDone (n % 3) 8 f y = chunk i n (outArr X) y := by
  have hb := base_le i
  rw [mem_slotSet] at hy
  have h1 : (y 1).val < 8 := (y 1).isLt
  have h2 : (y 2).val < 4096 := (y 2).isLt
  unfold rowsDone
  rw [if_pos ⟨hy, h1⟩]
  have e : rowOf f (n % 3) (y 1).val = rowOf (chunk i n X) (n % 3) (y 1).val := by
    funext c
    exact hf _ (by rw [mem_slotSet]; show n % 3 % 3 = n % 3; omega)
  rw [e, rowOf_chunk h1]
  show _ = rowOut (fun c => X (ix2 ((base i + 8 * n + (y 1).val) % 8192) c)) ((y 2).val % 4096)
  rw [Nat.mod_eq_of_lt h2, Nat.mod_eq_of_lt (show base i + 8 * n + (y 1).val < 8192 by omega)]

/-! ## The ring -/

variable (d i) (X o₀ : Vec F S8192x4096 .f32)

/-- The slot chunk `n` is to be fetched into, before its fetch: the chunk three before is still being sent, or it is free. -/
def Used (n : ℕ) : sProp 𝕄 :=
  if 3 ≤ n then OutF d i X (n - 3) else iprop((∃ f, bL d i ↦[slotSet (n % 3)]{fullShare} f) ∗ semVal (tl d i, .dma (osem n)) 0)

/-- Before trip `k`: chunk `k`'s fetch under way and the rest of `x` at hand; after the last trip, all of `x`. -/
def Ahead (k : ℕ) : sProp 𝕄 :=
  if k < 32 then
    iprop(InF d i X k ∗ semVal (tl d i, .dma (osem k)) 0 ∗ (xL d i ↦[rows i 0 k]{fullShare} X) ∗ xL d i ↦[rows i (k + 1) 32]{fullShare} X)
  else iprop(Used d i X k ∗ semVal (tl d i, .dma (isem k)) 0 ∗ xL d i ↦[rows i 0 32]{fullShare} X)

/-- The chunks of outputs known to have arrived before trip `k`. -/
def arrived (k : ℕ) : ℕ := min (k - 2) 29

/-- The candidates, the block maxima and the exchanged lanes, whatever they hold. -/
def Spare : sProp 𝕄 :=
  iprop((∃ f, (candM : Memref sig .scVector .vmem S4112 .f32).view.loc (tl d i) ↦{fullShare} f)
    ∗ (∃ f, (blksM : Memref sig .scVector .vmem S256 .f32).view.loc (tl d i) ↦{fullShare} f)
    ∗ ∃ f, (lanesM : Memref sig .scVector .vmem S16 .f32).view.loc (tl d i) ↦{fullShare} f)

/-- What else is held before trip `k`. -/
def Rest (k : ℕ) (O : CellTallies nD τ sig (HIx 1)) (W : Waits sig (HIx 1)) : sProp 𝕄 :=
  iprop((oL d i ↦[rows i k 32]{fullShare} o₀) ∗ Spare (F := F) d i ∗ Owed (F := F) d i O W)

/-- Before trip `k`. -/
def Ring (k : ℕ) (O : CellTallies nD τ sig (HIx 1)) (W : Waits sig (HIx 1)) : sProp 𝕄 :=
  iprop(Ahead d i X k ∗ Used d i X (k + 1) ∗ Used d i X (k + 2) ∗ semVal (tl d i, .dma (isem (k + 1))) 0 ∗ semVal (tl d i, .dma (isem (k + 2))) 0
    ∗ (oL d i ↦[rows i 0 (arrived k)]{fullShare} outArr X) ∗ Rest d i o₀ k O W)

/-- In trip `k`, once chunk `k` has arrived and the next is under way: the slot at the contents `g`. -/
def Mid (g : Vec F S3x8x4096 .f32) (k : ℕ) (O : CellTallies nD τ sig (HIx 1)) (W : Waits sig (HIx 1)) : sProp 𝕄 :=
  iprop((bL d i ↦[slotSet (k % 3)]{fullShare} g) ∗ semVal (tl d i, .dma (osem k)) 0 ∗ Ahead d i X (k + 1) ∗ Used d i X (k + 2)
    ∗ semVal (tl d i, .dma (isem k)) 0 ∗ semVal (tl d i, .dma (isem (k + 2))) 0 ∗ (oL d i ↦[rows i 0 (arrived (k + 1))]{fullShare} outArr X)
    ∗ Rest d i o₀ k O W)

variable {d i X o₀} {O : CellTallies nD τ sig (HIx 1)} {W : Waits sig (HIx 1)}

theorem t1_trips : k0_t1_loop.trips = 32 := by decide
theorem cond1_iff : ∀ k : Fin k0_t1_loop.trips, k0_cond1 k = 1#1 ↔ 2 ≤ k.val ∧ k.val + 1 < 32 := by decide +kernel
theorem cond2_iff : ∀ k : Fin k0_t1_loop.trips, k0_cond2 k = 1#1 ↔ k.val + 1 < 32 := by decide +kernel

/-- The eight rows of chunk `k`. -/
theorem mid_run {w2 c0 c1 z : BitVec 32} :
    Mid d i X o₀ (chunk i t1.val X) t1.val O W
      ⊢ wp frame (wpE defs₀ 𝒱₀ (tl d i) none) Set.univ
          (Scf.Loop.for k0_t2_loop k0_t2_ok z (k0_t2_body i xM h2 oM h3 bufM h4 candM h5 blksM h6 lanesM h7 a8 a9 w2 ones zeros c0 c1 t1 w43) >>= fun _ => Pure.pure PUnit.unit)
          fun _ => Mid d i X o₀ (chunk i t1.val (outArr X)) t1.val O W := by
  have hk : t1.val < 32 := t1.isLt.trans_eq t1_trips
  unfold Mid Rest Spare
  iintro ⟨Hb, H1, H2, H3, H4, H5, H6, H7, ⟨⟨%f1, G1⟩, ⟨%f2, G2⟩, ⟨%f3, G3⟩⟩, H8⟩
  have hr : Runs d i (t1.val % 3) ⟨chunk i t1.val X, f1, f2, f3⟩
      (Scf.Loop.for k0_t2_loop k0_t2_ok z (k0_t2_body i xM h2 oM h3 bufM h4 candM h5 blksM h6 lanesM h7 a8 a9 w2 ones zeros c0 c1 t1 w43) >>= fun _ => Pure.pure PUnit.unit)
      (fun _ st' => st'.buf = rowsDone (t1.val % 3) 8 (chunk i t1.val X)) := slot_run fun acc st' h => Runs.ret h
  iapply (wp_wand_r frame (wpE defs₀ 𝒱₀ (tl d i) none))
  isplitl [Hb G1 G2 G3]
  · iapply hr.ent
    unfold Own
    isplitl [Hb]; · iexact Hb
    isplitl [G1]; · iexact G1
    isplitl [G2]; · iexact G2
    iexact G3
  iintro %r ⟨%st', %hst, Hown⟩
  unfold Own
  icases Hown with ⟨Hb, G1, G2, G3⟩
  isplitl [Hb]
  · iapply (Entails.of_eq (pointsTo_congr fun y hy => (congrFun hst y).trans (rowsDone_chunk hk X hy fun _ _ => rfl))) $$ Hb
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [G1 G2 G3]
  · isplitl [G1]; · iexists _; iexact G1
    isplitl [G2]; · iexists _; iexact G2
    iexists _; iexact G3
  iexact H8

end Cert.Proof

end
-- ==== Proof.Ring.lean ====
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

variable {d : Dev nD} {i : grid0.Coords} {h2 : (xM : Memref sig .scVector .hbm S8192x4096 .f32).IsWhole}
  {h3 : (oM : Memref sig .scVector .hbm S8192x4096 .f32).IsWhole} {h4 : (bufM : Memref sig .scVector .vmem S3x8x4096 .f32).IsWhole}
  {h5 : (candM : Memref sig .scVector .vmem S4112 .f32).IsWhole} {h6 : (blksM : Memref sig .scVector .vmem S256 .f32).IsWhole}
  {h7 : (lanesM : Memref sig .scVector .vmem S16 .f32).IsWhole} {a8 a9 : DmaSems sig S3}
  {t1 : Fin k0_t1_loop.trips} {t2 : Fin k0_t2_loop.trips} {w43 w12 w14 wa wb : BitVec 32} {st : St F}

variable {X o₀ : Vec F S8192x4096 .f32} {O : CellTallies nD τ sig (HIx 1)} {W : Waits sig (HIx 1)}

theorem off2_of (k : Fin k0_t1_loop.trips) : k0_off2 k = ![k.val % 3, 0, 0] := by rw [k0_off2_eq]
theorem off3_of (k : Fin k0_t1_loop.trips) : k0_off3 i k = ![base i + 8 * k.val, 0] := by rw [k0_off3_eq]; unfold base; rfl
theorem off4_of (k : Fin k0_t1_loop.trips) : k0_off4 k = ![k.val % 3] := by rw [k0_off4_eq]
theorem off7_of (k : Fin k0_t1_loop.trips) : k0_off7 k = ![(k.val + 1) % 3] := by rw [k0_off7_eq]
theorem off8_of (k : Fin k0_t1_loop.trips) : k0_off8 k = ![(k.val + 1) % 3, 0, 0] := by rw [k0_off8_eq]
theorem off9_of (k : Fin k0_t1_loop.trips) : k0_off9 i k = ![base i + 8 * (k.val + 1), 0] := by
  rw [k0_off9_eq]; unfold base; congr 1
theorem off10_of (k : Fin k0_t1_loop.trips) : k0_off10 k = ![(k.val + 1) % 3] := by rw [k0_off10_eq]

/-- Waiting for the sending that still uses the slot chunk `n` is to be fetched into. -/
theorem used_wait (hO : ∀ g, O g none = 0) {α : Type} {Q : α → sProp (MT nD τ sig (HIx 1) (Elt F) ℕ UU ℕ)} {k : PUnit → TProg F i α}
    {off : Fin 2 → ℕ} {h} {off'' : Fin 1 → ℕ} {h''} {n : ℕ} {src : Memref sig .scVector .vmem S8x4096 .f32} (hn : 3 ≤ n)
    (he'' : off'' = ![n % 3]) {e1 e2} :
    iprop(Used d i X n ∗ Owed d i O W)
      ⊢ iprop((iprop((oL d i ↦[rows i (n - 3) (n - 3 + 1)]{fullShare} outArr X) ∗ (∃ f, bL d i ↦[slotSet (n % 3)]{fullShare} f)
            ∗ semVal (tl d i, .dma (osem n)) 0 ∗ Owed d i O W) -∗ wp frame (wpE defs₀ 𝒱₀ (tl d i) none) Set.univ (k ⟨⟩) Q)
        -∗ wp frame (wpE defs₀ 𝒱₀ (tl d i) none) Set.univ (.op (.waitDma2 (outSem off'' h'') src (oCh off h) e1 e2) k) Q) := by
  have hm : (n - 3) % 3 = n % 3 := by omega
  unfold Used
  rw [if_pos hn]
  iintro H Hk
  iapply (send_wait (X := X) hO (he''.trans (by rw [hm]))) $$ H
  rw [hm, osem_congr hm]
  iintro ⟨H1, H2, H3, H4⟩
  iapply Hk
  isplitl [H1]; · iexact H1
  isplitl [H2]; · iexists _; iexact H2
  isplitl [H3]; · iexact H3
  iexact H4

/-- Starting the fetch of chunk `n` into its free slot. -/
theorem ahead_start {α : Type} {Q : α → sProp (MT nD τ sig (HIx 1) (Elt F) ℕ UU ℕ)} {k : PUnit → TProg F i α}
    {off : Fin 2 → ℕ} {h} {off' : Fin 3 → ℕ} {h'} {off'' : Fin 1 → ℕ} {h''} {n : ℕ} (hn : n < 32) (he : off = ![base i + 8 * n, 0])
    (he' : off' = ![n % 3, 0, 0]) (he'' : off'' = ![n % 3]) {e1 e2 e3} :
    iprop((xL d i ↦[rows i 0 32]{fullShare} X) ∗ (∃ f, bL d i ↦[slotSet (n % 3)]{fullShare} f) ∗ semVal (tl d i, .dma (osem n)) 0
        ∗ semVal (tl d i, .dma (isem n)) 0)
      ⊢ iprop((Ahead d i X n -∗ wp frame (wpE defs₀ 𝒱₀ (tl d i) none) Set.univ (k ⟨⟩) Q)
        -∗ wp frame (wpE defs₀ 𝒱₀ (tl d i) none) Set.univ
          (.op (.enqueueDma (xCh off h) (.here (slot off' h')) (.dma (inSem off'' h'')) e1 e2 e3) k) Q) := by
  unfold Ahead
  rw [if_pos hn]
  iintro ⟨Hx, ⟨%f, Hb⟩, Hos, His⟩ Hk
  ihave Hx' := (xrows_cut (d := d) (i := i) X (Nat.zero_le n) hn.le).1 $$ Hx
  icases Hx' with ⟨Hx1, Hx2⟩
  ihave Hx' := (xrows_cut (d := d) (i := i) X (Nat.le_succ n) hn).1 $$ Hx2
  icases Hx' with ⟨Hx2, Hx3⟩
  iapply (fetch_start he he' he'' f) $$ [Hx2 Hb His]
  · isplitl [Hx2]; · iexact Hx2
    isplitl [Hb]; · iexact Hb
    iexact His
  iintro Hf
  iapply Hk
  isplitl [Hf]; · iexact Hf
  isplitl [Hos]; · iexact Hos
  isplitl [Hx1]; · iexact Hx1
  iexact Hx3

/-- The pieces of `x` on both sides of a chunk and the chunk itself are the tile's rows. -/
theorem x_join {n : ℕ} (hn : n < 32) :
    iprop((xL d i ↦[rows i 0 n]{fullShare} X) ∗ (xL d i ↦[rows i n (n + 1)]{fullShare} X) ∗ xL d i ↦[rows i (n + 1) 32]{fullShare} X)
      ⊢ (xL d i ↦[rows i 0 32]{fullShare} X : sProp (MT nD τ sig (HIx 1) (Elt F) ℕ UU ℕ)) := by
  iintro ⟨H1, H2, H3⟩
  iapply (xrows_cut (d := d) (i := i) X (Nat.zero_le n) hn.le).2
  isplitl [H1]; · iexact H1
  iapply (xrows_cut (d := d) (i := i) X (Nat.le_succ n) hn).2
  isplitl [H2]; · iexact H2
  iexact H3

/-- Trip `k` up to the sending: the chunk arrives, its successor's fetch is started, its rows are done. -/
theorem part17_run (hO : ∀ g, O g none = 0) {w2 : BitVec 32} :
    Ring d i X o₀ t1.val O W
      ⊢ wp frame (wpE defs₀ 𝒱₀ (tl d i) none) Set.univ
          (k0_part17 i xM h2 oM h3 bufM h4 candM h5 blksM h6 lanesM h7 cc0_scratch4 cc0_scratch5 w2 ones zeros 0#32 1#32 t1)
          fun _ => Mid d i X o₀ (chunk i t1.val (outArr X)) t1.val O W := by
  have hk : t1.val < 32 := t1.isLt.trans_eq t1_trips
  rw [k0_part17_eq_skeleton]
  unfold k0_part17_skel
  dsimp only
  have hmid := mid_run (d := d) (i := i) (X := X) (o₀ := o₀) (O := O) (W := W) (h2 := h2) (h3 := h3) (h4 := h4) (h5 := h5) (h6 := h6) (h7 := h7)
    (a8 := cc0_scratch4) (a9 := cc0_scratch5) (t1 := t1) (w43 := Scalar.remsi (Scf.iv 0#32 1#32 t1) 3#32) (w2 := w2) (c0 := 0#32) (c1 := 1#32) (z := 0#32)
  by_cases hl : t1.val + 1 < 32
  · have g2 := (cond2_iff t1).mpr hl
    rcases Nat.lt_or_ge t1.val 2 with hs | hs
    · have g1 : ¬k0_cond1 t1 = 1#1 := fun h => absurd ((cond1_iff t1).mp h).1 (Nat.not_le_of_lt hs)
      have ea : arrived (t1.val + 1) = arrived t1.val := by unfold arrived; omega
      simp only [dif_neg g1, dif_pos g2]
      unfold Ring Rest
      rw [show Ahead d i X t1.val = _ from if_pos hk]
      rw [show Used d i X (t1.val + 1) = _ from if_neg (Nat.not_le_of_lt (Nat.succ_lt_succ hs)), ← ea]
      iintro ⟨⟨Hin, Hos, Hx1, Hx2⟩, Hu1, Hu2, His1, His2, Hdone, Hund, Hsp, Howe⟩
      iapply (fetch_wait (X := X) hO (off4_of t1)) $$ [Hin Howe]
      · isplitl [Hin] <;> iassumption
      iintro ⟨Hb, Hx, His, Howe⟩
      ihave Hx := (x_join (d := d) (i := i) (X := X) hk) $$ [Hx1 Hx Hx2]
      · isplitl [Hx1]; · iexact Hx1
        isplitl [Hx]; · iexact Hx
        iexact Hx2
      icases Hu1 with ⟨Hf, Hos1⟩
      iapply (ahead_start (X := X) hl (off9_of t1) (off8_of t1) (off10_of t1)) $$ [Hx Hf Hos1 His1]
      · isplitl [Hx]; · iexact Hx
        isplitl [Hf]; · iexact Hf
        isplitl [Hos1] <;> iassumption
      iintro Ha
      iapply hmid
      unfold Mid Rest
      isplitl [Hb]; · iexact Hb
      isplitl [Hos]; · iexact Hos
      isplitl [Ha]; · iexact Ha
      isplitl [Hu2]; · iexact Hu2
      isplitl [His]; · iexact His
      isplitl [His2]; · iexact His2
      isplitl [Hdone]; · iexact Hdone
      isplitl [Hund]; · iexact Hund
      isplitl [Hsp]; · iexact Hsp
      iexact Howe
    · have g1 := (cond1_iff t1).mpr ⟨hs, hl⟩
      have ea : arrived (t1.val + 1) = t1.val + 1 - 3 + 1 := by unfold arrived; omega
      have ea' : arrived t1.val = t1.val + 1 - 3 := by unfold arrived; omega
      simp only [dif_pos g1, dif_pos g2]
      unfold Ring Rest
      rw [show Ahead d i X t1.val = _ from if_pos hk]
      iintro ⟨⟨Hin, Hos, Hx1, Hx2⟩, Hu1, Hu2, His1, His2, Hdone, Hund, Hsp, Howe⟩
      iapply (fetch_wait (X := X) hO (off4_of t1)) $$ [Hin Howe]
      · isplitl [Hin] <;> iassumption
      iintro ⟨Hb, Hx, His, Howe⟩
      ihave Hx := (x_join (d := d) (i := i) (X := X) hk) $$ [Hx1 Hx Hx2]
      · isplitl [Hx1]; · iexact Hx1
        isplitl [Hx]; · iexact Hx
        iexact Hx2
      iapply (used_wait (X := X) hO (show 3 ≤ t1.val + 1 from Nat.succ_le_succ hs) (off7_of t1)) $$ [Hu1 Howe]
      · isplitl [Hu1] <;> iassumption
      iintro ⟨Ho, Hf, Hos1, Howe⟩
      iapply (ahead_start (X := X) hl (off9_of t1) (off8_of t1) (off10_of t1)) $$ [Hx Hf Hos1 His1]
      · isplitl [Hx]; · iexact Hx
        isplitl [Hf]; · iexact Hf
        isplitl [Hos1] <;> iassumption
      iintro Ha
      iapply hmid
      unfold Mid Rest
      isplitl [Hb]; · iexact Hb
      isplitl [Hos]; · iexact Hos
      isplitl [Ha]; · iexact Ha
      isplitl [Hu2]; · iexact Hu2
      isplitl [His]; · iexact His
      isplitl [His2]; · iexact His2
      isplitl [Hdone Ho]
      · rw [ea, ea']
        iapply (orows_cut (d := d) (i := i) (outArr X) (Nat.zero_le _) (Nat.le_succ _)).2
        isplitl [Hdone]; · iexact Hdone
        iexact Ho
      isplitl [Hund]; · iexact Hund
      isplitl [Hsp]; · iexact Hsp
      iexact Howe
  · have g1 : ¬k0_cond1 t1 = 1#1 := fun h => hl ((cond1_iff t1).mp h).2
    have g2 : ¬k0_cond2 t1 = 1#1 := fun h => hl ((cond2_iff t1).mp h)
    have ea : arrived (t1.val + 1) = arrived t1.val := by unfold arrived; omega
    simp only [dif_neg g1, dif_neg g2]
    unfold Ring Rest
    rw [show Ahead d i X t1.val = _ from if_pos hk]
    iintro ⟨⟨Hin, Hos, Hx1, Hx2⟩, Hu1, Hu2, His1, His2, Hdone, Hund, Hsp, Howe⟩
    iapply (fetch_wait (X := X) hO (off4_of t1)) $$ [Hin Howe]
    · isplitl [Hin] <;> iassumption
    iintro ⟨Hb, Hx, His, Howe⟩
    ihave Hx := (x_join (d := d) (i := i) (X := X) hk) $$ [Hx1 Hx Hx2]
    · isplitl [Hx1]; · iexact Hx1
      isplitl [Hx]; · iexact Hx
      iexact Hx2
    iapply hmid
    unfold Mid Rest
    isplitl [Hb]; · iexact Hb
    isplitl [Hos]; · iexact Hos
    isplitl [Hu1 His1 Hx]
    · rw [show Ahead d i X (t1.val + 1) = _ from if_neg hl]
      isplitl [Hu1]; · iexact Hu1
      isplitl [His1]; · iexact His1
      iexact Hx
    isplitl [Hu2]; · iexact Hu2
    isplitl [His]; · iexact His
    isplitl [His2]; · iexact His2
    isplitl [Hdone]; · rw [ea]; iexact Hdone
    isplitl [Hund]; · iexact Hund
    isplitl [Hsp]; · iexact Hsp
    iexact Howe

end Cert.Proof

end
-- ==== Proof.Body.lean ====
module

public import proofs.«01_k».proof.Proof.Ring

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

variable {d : Dev nD} {i : grid0.Coords} {h2 : (xM : Memref sig .scVector .hbm S8192x4096 .f32).IsWhole}
  {h3 : (oM : Memref sig .scVector .hbm S8192x4096 .f32).IsWhole} {h4 : (bufM : Memref sig .scVector .vmem S3x8x4096 .f32).IsWhole}
  {h5 : (candM : Memref sig .scVector .vmem S4112 .f32).IsWhole} {h6 : (blksM : Memref sig .scVector .vmem S256 .f32).IsWhole}
  {h7 : (lanesM : Memref sig .scVector .vmem S16 .f32).IsWhole} {a8 a9 : DmaSems sig S3}
  {t1 : Fin k0_t1_loop.trips} {t2 : Fin k0_t2_loop.trips} {w43 w12 w14 wa wb : BitVec 32} {st : St F}

variable {X o₀ : Vec F S8192x4096 .f32} {O : CellTallies nD τ sig (HIx 1)} {W : Waits sig (HIx 1)}

/-- One trip of the loop over the chunks. -/
theorem t1_run (hO : ∀ g, O g none = 0) {w2 z : BitVec 32} :
    Ring d i X o₀ t1.val O W
      ⊢ wp frame (wpE defs₀ 𝒱₀ (tl d i) none) Set.univ
          (k0_t1_body i xM h2 oM h3 bufM h4 candM h5 blksM h6 lanesM h7 cc0_scratch4 cc0_scratch5 w2 t1 z)
          fun _ => Ring d i X o₀ (t1.val + 1) O W := by
  have hk : t1.val < 32 := t1.isLt.trans_eq t1_trips
  have hp := part17_run (d := d) (i := i) (X := X) (o₀ := o₀) (O := O) (W := W) (h2 := h2) (h3 := h3) (h4 := h4) (h5 := h5) (h6 := h6) (h7 := h7)
    (t1 := t1) (w2 := w2) hO
  unfold k0_t1_body
  dsimp only
  rw [wp_bind]
  refine BI.Entails.trans hp (wp_mono frame (wpE defs₀ 𝒱₀ (tl d i) none) _ fun _ => ?_)
  unfold Mid Rest
  iintro ⟨Hb, Hos, Ha, Hu2, His, His2, Hdone, Hund, Hsp, Howe⟩
  ihave Hund := (orows_cut (d := d) (i := i) o₀ (Nat.le_succ t1.val) hk).1 $$ Hund
  icases Hund with ⟨Ho, Hund⟩
  iapply (send_start (X := X) (off3_of t1) (off2_of t1) (off4_of t1) o₀) $$ [Hb Ho Hos]
  · isplitl [Hb]; · iexact Hb
    isplitl [Ho]; · iexact Ho
    iexact Hos
  iintro Hf
  iapply (Entails.of_eq (wp_ret frame (wpE defs₀ 𝒱₀ (tl d i) none) ..).symm)
  imodintro
  unfold Ring Rest
  isplitl [Ha]; · iexact Ha
  isplitl [Hu2]; · iexact Hu2
  isplitl [Hf]
  · rw [show Used d i X (t1.val + 1 + 2) = _ from if_pos (Nat.le_add_left 3 t1.val)]
    iexact Hf
  isplitl [His2]; · iexact His2
  isplitl [His]
  · rw [isem_congr (show (t1.val + 1 + 2) % 3 = t1.val % 3 from Nat.add_mod_right t1.val 3)]
    iexact His
  isplitl [Hdone]; · iexact Hdone
  isplitl [Hund]; · iexact Hund
  isplitl [Hsp]; · iexact Hsp
  iexact Howe

variable (d i) in
/-- The tile's scratch: the three slots, the six semaphores at rest, the other buffers. -/
def Scratch : sProp 𝕄 :=
  iprop((∃ f, bL d i ↦[slotSet 0]{fullShare} f) ∗ (∃ f, bL d i ↦[slotSet 1]{fullShare} f) ∗ (∃ f, bL d i ↦[slotSet 2]{fullShare} f)
    ∗ semVal (tl d i, .dma (isem 0)) 0 ∗ semVal (tl d i, .dma (isem 1)) 0 ∗ semVal (tl d i, .dma (isem 2)) 0
    ∗ semVal (tl d i, .dma (osem 0)) 0 ∗ semVal (tl d i, .dma (osem 1)) 0 ∗ semVal (tl d i, .dma (osem 2)) 0 ∗ Spare (F := F) d i)

theorem off1_of : ∀ i : grid0.Coords, k0_off1 i 0#32 = ![base i + 8 * 0, 0] := by unfold base; decide +kernel

theorem o_none (f g : Vec F S8192x4096 .f32) : (oL d i ↦[rows i 0 0]{fullShare} f : sProp 𝕄) = oL d i ↦[rows i 0 0]{fullShare} g :=
  pointsTo_congr fun y hy => by rw [mem_rows] at hy; omega

/-- All the trips and the wait after them. -/
theorem part18_run (hO : ∀ g, O g none = 0) :
    iprop((xL d i ↦[rows i 0 32]{fullShare} X) ∗ (oL d i ↦[rows i 0 32]{fullShare} o₀) ∗ Scratch (F := F) d i ∗ Owed (F := F) d i O W)
      ⊢ wp frame (wpE defs₀ 𝒱₀ (tl d i) none) Set.univ
          (k0_part18 i xM h2 oM h3 bufM h4 candM h5 blksM h6 lanesM h7 cc0_scratch4 cc0_scratch5)
          fun _ => iprop((xL d i ↦[rows i 0 32]{fullShare} X) ∗ (oL d i ↦[rows i 0 30]{fullShare} outArr X)
            ∗ (∃ f, bL d i ↦[slotSet 2]{fullShare} f) ∗ semVal (tl d i, .dma (osem 2)) 0
            ∗ Used d i X 33 ∗ Used d i X 34
            ∗ semVal (tl d i, .dma (isem 0)) 0 ∗ semVal (tl d i, .dma (isem 1)) 0 ∗ semVal (tl d i, .dma (isem 2)) 0
            ∗ Spare (F := F) d i ∗ Owed (F := F) d i O W) := by
  rw [k0_part18_eq_skeleton]
  unfold k0_part18_skel
  dsimp only
  unfold Scratch
  iintro ⟨Hx, Ho, ⟨Hb0, Hb1, Hb2, Hi0, Hi1, Hi2, Ho0, Ho1, Ho2, Hsp⟩, Howe⟩
  iapply (ahead_start (X := X) (n := 0) (by decide) (off1_of i) rfl rfl) $$ [Hx Hb0 Ho0 Hi0]
  · isplitl [Hx]; · iexact Hx
    isplitl [Hb0]; · iexact Hb0
    isplitl [Ho0] <;> iassumption
  iintro Ha
  ihave Ho := (orows_cut (d := d) (i := i) o₀ (Nat.le_refl 0) (Nat.zero_le 32)).1 $$ Ho
  icases Ho with ⟨Hno, Hund⟩
  ihave Hring : Ring d i X o₀ 0 O W $$ [Ha Hb1 Hb2 Hi1 Hi2 Ho1 Ho2 Hno Hund Hsp Howe]
  · unfold Ring Rest
    isplitl [Ha]; · iexact Ha
    isplitl [Hb1 Ho1]
    · rw [show Used d i X (0 + 1) = _ from if_neg (by decide)]
      isplitl [Hb1]; · iexact Hb1
      iexact Ho1
    isplitl [Hb2 Ho2]
    · rw [show Used d i X (0 + 2) = _ from if_neg (by decide)]
      isplitl [Hb2]; · iexact Hb2
      iexact Ho2
    isplitl [Hi1]; · iexact Hi1
    isplitl [Hi2]; · iexact Hi2
    isplitl [Hno]; · iapply (Entails.of_eq (o_none (d := d) (i := i) o₀ (outArr X))) $$ Hno
    isplitl [Hund]; · iexact Hund
    isplitl [Hsp]; · iexact Hsp
    iexact Howe
  iapply (Scf.wp_for_bind frame (wpE defs₀ 𝒱₀ (tl d i) none) Set.univ k0_t1_loop.lb k0_t1_loop.ub k0_t1_loop.st k0_t1_ok 0#32 _
    (fun n _ => Ring d i X o₀ n O W) (fun k acc => t1_run hO)) $$ Hring
  iintro %acc Hring
  rw [show Scf.trips k0_t1_loop.lb k0_t1_loop.ub k0_t1_loop.st = 32 from t1_trips]
  unfold Ring Rest
  rw [show Ahead d i X 32 = _ from if_neg (by decide)]
  icases Hring with ⟨⟨Hu, Hi2, Hx⟩, Hu33, Hu34, Hi0, Hi1, Hdone, -, Hsp, Howe⟩
  iapply (used_wait (X := X) (n := 32) hO (by decide) rfl) $$ [Hu Howe]
  · isplitl [Hu] <;> iassumption
  iintro ⟨Ho, Hb, Hos, Howe⟩
  iapply (Entails.of_eq (wp_ret frame (wpE defs₀ 𝒱₀ (tl d i) none) ..).symm)
  imodintro
  isplitl [Hx]; · iexact Hx
  isplitl [Hdone Ho]
  · iapply (orows_cut (d := d) (i := i) (outArr X) (Nat.zero_le 29) (Nat.le_succ 29)).2
    isplitl [Hdone]; · iexact Hdone
    iexact Ho
  isplitl [Hb]; · iexact Hb
  isplitl [Hos]; · iexact Hos
  isplitl [Hu33]; · iexact Hu33
  isplitl [Hu34]; · iexact Hu34
  isplitl [Hi0]; · iexact Hi0
  isplitl [Hi1]; · iexact Hi1
  isplitl [Hi2]; · iexact Hi2
  isplitl [Hsp]; · iexact Hsp
  iexact Howe

/-- **One tile.** Its rows of the output end at the row outputs, its rows of the input as they were. -/
theorem body_run (hO : ∀ g, O g none = 0) :
    iprop((xL d i ↦[rows i 0 32]{fullShare} X) ∗ (oL d i ↦[rows i 0 32]{fullShare} o₀) ∗ Scratch (F := F) d i ∗ Owed (F := F) d i O W)
      ⊢ wp frame (wpE defs₀ 𝒱₀ (tl d i) none) Set.univ
          (cc0__sc_body i xM h2 oM h3 bufM h4 candM h5 blksM h6 lanesM h7 cc0_scratch4 cc0_scratch5)
          fun _ => iprop((xL d i ↦[rows i 0 32]{fullShare} X) ∗ (oL d i ↦[rows i 0 32]{fullShare} outArr X) ∗ Scratch (F := F) d i ∗ Owed (F := F) d i O W) := by
  have hp := part18_run (d := d) (i := i) (X := X) (o₀ := o₀) (O := O) (W := W) (h2 := h2) (h3 := h3) (h4 := h4) (h5 := h5) (h6 := h6) (h7 := h7) hO
  rw [cc0__sc_body_eq_skeleton]
  unfold cc0__sc_body_skel
  dsimp only
  rw [wp_bind]
  refine BI.Entails.trans hp (wp_mono frame (wpE defs₀ 𝒱₀ (tl d i) none) _ fun _ => ?_)
  iintro ⟨Hx, Ho, Hb2, Ho2, Hu33, Hu34, Hi0, Hi1, Hi2, Hsp, Howe⟩
  iapply (used_wait (X := X) (n := 33) hO (by decide) rfl) $$ [Hu33 Howe]
  · isplitl [Hu33] <;> iassumption
  iintro ⟨Hr, Hb0, Ho0, Howe⟩
  ihave Ho := (orows_cut (d := d) (i := i) (outArr X) (Nat.zero_le 30) (Nat.le_succ 30)).2 $$ [Ho Hr]
  · isplitl [Ho]; · iexact Ho
    iexact Hr
  iapply (used_wait (X := X) (n := 34) hO (by decide) rfl) $$ [Hu34 Howe]
  · isplitl [Hu34] <;> iassumption
  iintro ⟨Hr, Hb1, Ho1, Howe⟩
  ihave Ho := (orows_cut (d := d) (i := i) (outArr X) (Nat.zero_le 31) (Nat.le_succ 31)).2 $$ [Ho Hr]
  · isplitl [Ho]; · iexact Ho
    iexact Hr
  iapply (Entails.of_eq (wp_ret frame (wpE defs₀ 𝒱₀ (tl d i) none) ..).symm)
  imodintro
  unfold Scratch
  isplitl [Hx]; · iexact Hx
  isplitl [Ho]; · iexact Ho
  isplitr [Howe]
  · isplitl [Hb0]; · iexact Hb0
    isplitl [Hb1]; · iexact Hb1
    isplitl [Hb2]; · iexact Hb2
    isplitl [Hi0]; · iexact Hi0
    isplitl [Hi1]; · iexact Hi1
    isplitl [Hi2]; · iexact Hi2
    isplitl [Ho0]; · iexact Ho0
    isplitl [Ho1]; · iexact Ho1
    isplitl [Ho2]; · iexact Ho2
    iexact Hsp
  iexact Howe

end Cert.Proof

end
-- ==== Proof.Launch.lean ====
/- The launch: what the call hands the two SparseCores and their tiles, and the run of the whole program, with what it
   leaves in the result. -/
module

public import proofs.«01_k».proof.Proof.Body

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

open Idealize.ShloMosaic.SparseCore.Cfg (ownBufs ownSems0 ownCells ownRefs mem_ownCells mem_ownRefs)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nSub_zero : (K (F := F)).nSub 0 = 16 := rfl
theorem nCore_zero : (K (F := F)).nCore 0 = 2 := rfl

/-! ## What goes to a core and to a tile -/

def coordsV (c : Fin (grid0.bound 0)) (s : Fin (grid0.bound 1)) : grid0.Coords :=
  fun | 0 => c | 1 => s | ⟨_ + 2, h⟩ => absurd h (Nat.not_lt.2 (Nat.le_add_left _ _))

abbrev xT (d : Dev nD) : Loc nD τ sig := (d.tc : Thread nD τ).loc main_arg0
abbrev oT (d : Dev nD) : Loc nD τ sig := (d.tc : Thread nD τ).loc main_v0

/-- The rows of tile `s` of core `c`. -/
abbrev tileSet (c : Fin 2) (s : Fin 16) : Finset S8192x4096.Idx := rows (coordsV c s) 0 32
/-- The rows of core `c`. -/
def coreSet (c : Fin 2) : Finset S8192x4096.Idx := Finset.univ.biUnion (tileSet c)

theorem mem_tileSet {c : Fin 2} {s : Fin 16} {y : S8192x4096.Idx} : y ∈ tileSet c s ↔ (y 0).val / 256 = 2 * s.val + c.val := by
  rw [mem_rows]
  have e : base (coordsV c s) = 512 * s.val + 256 * c.val := rfl
  rw [e]; omega

theorem mem_coreSet {c : Fin 2} {y : S8192x4096.Idx} : y ∈ coreSet c ↔ (y 0).val / 256 % 2 = c.val := by
  have hy : (y 0).val < 8192 := (y 0).isLt
  have hc := c.isLt
  simp only [coreSet, Finset.mem_biUnion, Finset.mem_univ, true_and, mem_tileSet]
  constructor
  · rintro ⟨s, h⟩; omega
  · intro h; exact ⟨⟨(y 0).val / 512, by omega⟩, by dsimp only; omega⟩

theorem tileSet_disjoint (c : Fin 2) : ∀ s ∈ (Finset.univ : Finset (Fin 16)), ∀ t ∈ (Finset.univ : Finset (Fin 16)), s ≠ t →
    Disjoint (tileSet c s) (tileSet c t) := fun s _ t _ h => Finset.disjoint_left.mpr fun y h1 h2 => by
  rw [mem_tileSet] at h1 h2; exact h (Fin.ext (by omega))
theorem coreSet_disjoint : ∀ c ∈ (Finset.univ : Finset (Fin 2)), ∀ e ∈ (Finset.univ : Finset (Fin 2)), c ≠ e →
    Disjoint (coreSet c) (coreSet e) := fun c _ e _ h => Finset.disjoint_left.mpr fun y h1 h2 => by
  rw [mem_coreSet] at h1 h2; exact h (Fin.ext (by omega))
theorem coreSet_cover : (Finset.univ : Finset (Fin 2)).biUnion coreSet = Finset.univ := by
  ext y; simp only [Finset.mem_biUnion, Finset.mem_univ, true_and, iff_true, mem_coreSet]
  exact ⟨⟨(y 0).val / 256 % 2, by omega⟩, rfl⟩

/-! ## One tile's task -/

section Tile
variable [FloatOps F] (d : Dev nD) (i : grid0.Coords)

theorem ne_cell {a b : SemLoc sig} (h : a ≠ b) (thr : Thread nD τ) : ((thr, a) : GSem nD τ sig) ≠ (thr, b) :=
  fun e => h (Prod.mk.inj e).2

theorem scoped_of {a : SemLoc sig} (h : a.isScoped .scVector = true) : GSem.isScoped ((tl d i, a) : GSem nD τ sig) = true := h

/-- The cells of the ring's six semaphores. -/
def ringCells : Finset (GSem nD τ sig) :=
  {(tl d i, .dma (isem 0)), (tl d i, .dma (isem 1)), (tl d i, .dma (isem 2)), (tl d i, .dma (osem 0)), (tl d i, .dma (osem 1)), (tl d i, .dma (osem 2))}

/-- A tile's own semaphores are the ring's six and the rest. -/
theorem ownSems0_V :
    (ownSems0 (tl d i) : sProp 𝕄)
      = iprop((semVal (tl d i, .dma (isem 0)) 0 ∗ semVal (tl d i, .dma (isem 1)) 0 ∗ semVal (tl d i, .dma (isem 2)) 0
          ∗ semVal (tl d i, .dma (osem 0)) 0 ∗ semVal (tl d i, .dma (osem 1)) 0 ∗ semVal (tl d i, .dma (osem 2)) 0)
          ∗ bigSep (ownCells (tl d i) \ ringCells d i) fun g => semVal g 0) := by
  unfold SparseCore.Cfg.ownSems0
  rw [SparseCore.bigSep_sdiff_split' (t := ringCells d i) (fun g hg => by
    simp only [ringCells, Finset.mem_insert, Finset.mem_singleton] at hg
    rcases hg with rfl | rfl | rfl | rfl | rfl | rfl <;> exact mem_ownCells.mpr ⟨rfl, scoped_of d i (by decide)⟩)]
  congr 1
  unfold ringCells
  rw [SparseCore.bigSep_insert', SparseCore.bigSep_insert', SparseCore.bigSep_insert', SparseCore.bigSep_insert', SparseCore.bigSep_insert',
    bigSep_singleton]
  all_goals
    simp only [Finset.mem_insert, Finset.mem_singleton, not_or]
    repeat' apply And.intro
  all_goals exact ne_cell (by decide) _

/-- The four scratch buffers. -/
def ringRefs : Finset (DevRef τ sig) :=
  {(Proc.scVector (cV i) (jV i)).devRef cc0_scratch0, (Proc.scVector (cV i) (jV i)).devRef cc0_scratch1,
    (Proc.scVector (cV i) (jV i)).devRef cc0_scratch2, (Proc.scVector (cV i) (jV i)).devRef cc0_scratch3}

theorem ne_ref {a b : Ref sig .scVector} (h : a ≠ b) (c : Fin τ.nSC) (s : Fin τ.nSub) :
    (Proc.scVector c s).devRef a ≠ (Proc.scVector (τ := τ) c s).devRef b := fun e => h (Proc.devRef_injective _ e)

/-- A tile's own buffers are the four scratch buffers, at some contents, and the rest. -/
theorem ownBufs_V :
    (ownBufs (tl d i) : sProp 𝕄)
      = iprop(((∃ f, (tl d i).loc cc0_scratch0 ↦{fullShare} f) ∗ (∃ f, (tl d i).loc cc0_scratch1 ↦{fullShare} f)
          ∗ (∃ f, (tl d i).loc cc0_scratch2 ↦{fullShare} f) ∗ ∃ f, (tl d i).loc cc0_scratch3 ↦{fullShare} f)
          ∗ bigSep (ownRefs (τ := τ) (.scVector (cV i) (jV i)) \ ringRefs i) fun b => iprop(∃ f, ((d, b) : Loc nD τ sig) ↦{fullShare} f)) := by
  unfold SparseCore.Cfg.ownBufs
  rw [SparseCore.bigSep_sdiff_split' (t := ringRefs i) (fun g hg => by
    simp only [ringRefs, Finset.mem_insert, Finset.mem_singleton] at hg
    rcases hg with rfl | rfl | rfl | rfl <;> exact SparseCore.Cfg.mem_ownRefs_of_owner (p := Proc.scVector (cV i) (jV i)) rfl)]
  congr 1
  unfold ringRefs
  rw [SparseCore.bigSep_insert', SparseCore.bigSep_insert', SparseCore.bigSep_insert', bigSep_singleton]
  all_goals
    simp only [Finset.mem_insert, Finset.mem_singleton, not_or]
    repeat' apply And.intro
  all_goals exact ne_ref (by decide) _ _

theorem slots_cover : (Finset.univ : Finset S3x8x4096.Idx) = slotSet 0 ∪ (slotSet 1 ∪ slotSet 2) := by
  ext y; have : (y 0).val < 3 := (y 0).isLt
  simp only [Finset.mem_univ, Finset.mem_union, mem_slotSet, true_iff]; omega
theorem slots_apart {a b : ℕ} (h : a ≠ b) : Disjoint (slotSet a) (slotSet b) :=
  Finset.disjoint_left.mpr fun y h1 h2 => by rw [mem_slotSet] at h1 h2; omega
theorem slots_apart' : Disjoint (slotSet 0) (slotSet 1 ∪ slotSet 2) :=
  (Finset.disjoint_union_right).mpr ⟨slots_apart (by decide), slots_apart (by decide)⟩

/-- The ring's buffer cut into its three slots. -/
theorem ring_cut (f : Vec F S3x8x4096 .f32) :
    (bL d i ↦{fullShare} f : sProp 𝕄) ⊢ iprop((bL d i ↦[slotSet 0]{fullShare} f) ∗ (bL d i ↦[slotSet 1]{fullShare} f) ∗ bL d i ↦[slotSet 2]{fullShare} f) := by
  rw [show (bL d i ↦{fullShare} f : sProp 𝕄) = bL d i ↦[slotSet 0 ∪ (slotSet 1 ∪ slotSet 2)]{fullShare} f from
    congrArg (fun I : Finset S3x8x4096.Idx => (bL d i ↦[I]{fullShare} f : sProp 𝕄)) slots_cover]
  exact BI.Entails.trans (pointsTo_union slots_apart').1 (sep_mono_right (pointsTo_union (slots_apart (by decide))).1)

/-- The three slots put together again. -/
theorem ring_join (f g h : Vec F S3x8x4096 .f32) :
    iprop((bL d i ↦[slotSet 0]{fullShare} f) ∗ (bL d i ↦[slotSet 1]{fullShare} g) ∗ bL d i ↦[slotSet 2]{fullShare} h)
      ⊢ (iprop(∃ f, bL d i ↦{fullShare} f) : sProp 𝕄) := by
  iintro ⟨H0, H1, H2⟩
  ihave H := (pointsTo_join (ℓ := bL d i) (slots_apart (a := 1) (b := 2) (by decide))) $$ [H1 H2]
  · isplitl [H1] <;> iassumption
  ihave H' := (pointsTo_join (ℓ := bL d i) slots_apart') $$ [H0 H]
  · isplitl [H0] <;> iassumption
  iexists _
  rw [← slots_cover]
  iexact H'

variable (X o₀ : Vec F S8192x4096 .f32)

/-- One tile's task, from its share of the launch: its rows of the result are the kernel's rows. -/
theorem tile_body (O : CellTallies nD τ sig (HIx 1)) (W : Waits sig (HIx 1)) (hO : ∀ g, O g none = 0) :
    (iprop(levAts (K (F := F)).L (K (F := F)).lev ∗ emp
        ∗ ((xL d i ↦[rows i 0 32]{fullShare} X) ∗ oL d i ↦[rows i 0 32]{fullShare} o₀)
        ∗ scopedBufs (tl d i) ∗ scopedSems0 (tl d i) ∗ owes (tl d i) O W) : sProp 𝕄)
      ⊢ wp frame (wpE (defs₀ (F := F)) 𝒱₀ (tl d i) none) Set.univ
          (cc0__sc_body i xM (Memref.isWhole_whole _) oM (Memref.isWhole_whole _) bufM (Memref.isWhole_whole _)
            candM (Memref.isWhole_whole _) blksM (Memref.isWhole_whole _) lanesM (Memref.isWhole_whole _) cc0_scratch4 cc0_scratch5)
          fun _ => iprop(((xL d i ↦[rows i 0 32]{fullShare} X) ∗ oL d i ↦[rows i 0 32]{fullShare} outArr X) ∗ scopedBufs (tl d i) ∗ scopedSems0 (tl d i)
            ∗ ∃ W', ⌜∀ p ∈ W', p ∈ W ∨ p.2 = none⌝ ∗ owes (tl d i) O W') := by
  rw [(K (F := F)).scopedBufs_V facts d (cV i) (jV i), SparseCore.Cfg.scopedSems0_V (Val := Elt F) d (cV i) (jV i), ownSems0_V, ownBufs_V]
  iintro ⟨#Hlv, -, ⟨Hx, Ho⟩, ⟨⟨⟨%f0, H0⟩, H1, H2, H3⟩, Hbufs⟩, ⟨⟨S0, S1, S2, S3, S4, S5⟩, Hsems⟩, HO⟩
  ihave H0' := (ring_cut d i f0) $$ H0
  icases H0' with ⟨R0, R1, R2⟩
  iapply (wp_wand_r frame (wpE (defs₀ (F := F)) 𝒱₀ (tl d i) none))
  isplitr [Hbufs Hsems]
  · iapply (body_run (F := F) (d := d) (i := i) (X := X) (o₀ := o₀) (O := O) (W := W) hO)
    isplitl [Hx]; · iexact Hx
    isplitl [Ho]; · iexact Ho
    isplitr [HO]
    · unfold Scratch Spare
      isplitl [R0]; · iexists f0; iexact R0
      isplitl [R1]; · iexists f0; iexact R1
      isplitl [R2]; · iexists f0; iexact R2
      isplitl [S0]; · iexact S0
      isplitl [S1]; · iexact S1
      isplitl [S2]; · iexact S2
      isplitl [S3]; · iexact S3
      isplitl [S4]; · iexact S4
      isplitl [S5]; · iexact S5
      isplitl [H1]; · iexact H1
      isplitl [H2]; · iexact H2
      iexact H3
    · unfold Owed
      isplitr; · iexact Hlv
      iexists W; isplitr; · ipureintro; exact fun p hp => .inl hp
      iexact HO
  · iintro %_ H
    unfold Scratch Spare Owed
    icases H with ⟨Hx, Ho, ⟨⟨%g0, R0⟩, ⟨%g1, R1⟩, ⟨%g2, R2⟩, S0, S1, S2, S3, S4, S5, H1, H2, H3⟩, -, HO⟩
    ihave H0 := (ring_join d i g0 g1 g2) $$ [R0 R1 R2]
    · isplitl [R0]; · iexact R0
      isplitl [R1] <;> iassumption
    isplitl [Hx Ho]; · isplitl [Hx] <;> iassumption
    isplitl [H0 H1 H2 H3 Hbufs]
    · isplitr [Hbufs]
      · isplitl [H0]; · iexact H0
        isplitl [H1]; · iexact H1
        isplitl [H2] <;> iassumption
      · iexact Hbufs
    isplitr [HO]
    · isplitr [Hsems]
      · isplitl [S0]; · iexact S0
        isplitl [S1]; · iexact S1
        isplitl [S2]; · iexact S2
        isplitl [S3]; · iexact S3
        isplitl [S4] <;> iassumption
      · iexact Hsems
    iexact HO

end Tile

end Cert.Proof

end
-- ==== Proof.Run.lean ====
/- The run of the whole program: every thread ends, the argument is as it was, every counter is zero, and the result
   holds, row by row, the kernel's rows. -/
module

public import proofs.«01_k».proof.Proof.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

open Idealize.ShloMosaic.SparseCore.Cfg (ownBufs ownSems0)

variable (m : (ℓ : Loc nD τ sig) → Buf (Elt F) ℓ) (ρ : Dev nD → PrngReg)

/-- The argument on device `d`. -/
abbrev arg (d : Dev nD) : Vec F S8192x4096 .f32 := m (xT d)

abbrev xSet (d : Dev nD) (I : Finset S8192x4096.Idx) : sProp 𝕄 := xT d ↦[I]{fullShare} m (xT d)
abbrev oSet (d : Dev nD) (I : Finset S8192x4096.Idx) (f : Vec F S8192x4096 .f32) : sProp 𝕄 := oT d ↦[I]{fullShare} f

/-- Each core is handed its rows of the argument and of the result, each tile its own of them; they come back with the
    kernel's rows in the result. -/
def P : (K (F := F)).Pay (nD := nD) (Val := Elt F) (Name := ℕ) (U := UU) where
  st := fun q d c => match q with
    | 0 => iprop(xSet m d (coreSet (Fin.cast nCore_zero c)) ∗ oSet d (coreSet (Fin.cast nCore_zero c)) (m (oT d)))
  dn := fun q d c => match q with
    | 0 => iprop(xSet m d (coreSet (Fin.cast nCore_zero c)) ∗ oSet d (coreSet (Fin.cast nCore_zero c)) (outArr (arg m d)))
  go := fun q d c s => match q with
    | 0 => iprop(xSet m d (tileSet (Fin.cast nCore_zero c) (Fin.cast nSub_zero s)) ∗ oSet d (tileSet (Fin.cast nCore_zero c) (Fin.cast nSub_zero s)) (m (oT d)))
  td := fun q d c s => match q with
    | 0 => iprop(xSet m d (tileSet (Fin.cast nCore_zero c) (Fin.cast nSub_zero s)) ∗ oSet d (tileSet (Fin.cast nCore_zero c) (Fin.cast nSub_zero s)) (outArr (arg m d)))
  x := fun _ _ => iprop(emp)

instance P_storable : (P (F := F) m).IsStorable where
  st q d c := match q with
    | 0 => (inferInstance : BI.Storable (upEmb : UEmb _ 𝕄)
        iprop(xSet m d (coreSet (Fin.cast nCore_zero c)) ∗ oSet d (coreSet (Fin.cast nCore_zero c)) (m (oT d))))
  dn q d c := match q with
    | 0 => (inferInstance : BI.Storable (upEmb : UEmb _ 𝕄)
        iprop(xSet m d (coreSet (Fin.cast nCore_zero c)) ∗ oSet d (coreSet (Fin.cast nCore_zero c)) (outArr (arg m d))))
  go q d c s := match q with
    | 0 => (inferInstance : BI.Storable (upEmb : UEmb _ 𝕄)
        iprop(xSet m d (tileSet (Fin.cast nCore_zero c) (Fin.cast nSub_zero s)) ∗ oSet d (tileSet (Fin.cast nCore_zero c) (Fin.cast nSub_zero s)) (m (oT d))))
  td q d c s := match q with
    | 0 => (inferInstance : BI.Storable (upEmb : UEmb _ 𝕄)
        iprop(xSet m d (tileSet (Fin.cast nCore_zero c) (Fin.cast nSub_zero s)) ∗ oSet d (tileSet (Fin.cast nCore_zero c) (Fin.cast nSub_zero s)) (outArr (arg m d))))

/-! ## The launch theorem's obligations -/

theorem defs₀_vector (c : Fin τ.nSC) (s : Fin τ.nSub) :
    defs₀ (F := F) (.scVector c s) 0 ()
      = SparseCore.onTile hcore0 hsub0 (fun c s => cc0__sc_body (coordsV c s) xM (Memref.isWhole_whole _) oM (Memref.isWhole_whole _)
          bufM (Memref.isWhole_whole _) candM (Memref.isWhole_whole _) blksM (Memref.isWhole_whole _) lanesM (Memref.isWhole_whole _)
          cc0_scratch4 cc0_scratch5) ⟨⟩ c s := rfl

theorem obl_post {thr : Thread nD τ} {A B C : sProp (MT nD τ sig (HIx 1) (Elt F) ℕ UU ℕ)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (arg m d) (m (oT d)) O W hO).trans (wp_mono frame _ _ fun _ => obl_post)

theorem xSet_tiles (d : Dev nD) (c : Fin 2) : xSet m d (coreSet c) = bigSep Finset.univ fun s : Fin 16 => xSet m d (tileSet c s) := by
  unfold xSet coreSet
  exact pointsTo_biUnion Finset.univ (ℓ := xT d) (tileSet c) (tileSet_disjoint c)
theorem oSet_tiles (d : Dev nD) (c : Fin 2) (f : Vec F S8192x4096 .f32) :
    (oSet d (coreSet c) f : sProp 𝕄) = bigSep Finset.univ fun s : Fin 16 => oSet d (tileSet c s) f := by
  unfold oSet coreSet
  exact pointsTo_biUnion Finset.univ (ℓ := oT d) (tileSet c) (tileSet_disjoint c)

theorem bigSep_tasks (Φ : Fin 16 → sProp (MT nD τ sig (HIx 1) (Elt F) ℕ UU ℕ)) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp (MT nD τ sig (HIx 1) (Elt F) ℕ UU ℕ)) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show iprop(xSet m d (coreSet (Fin.cast nCore_zero c)) ∗ oSet d (coreSet (Fin.cast nCore_zero c)) (m (oT d))) ⊢ |={Set.univ}=> iprop(
      (bigSep Finset.univ fun s : Fin ((K (F := F)).nSub 0) =>
        iprop(xSet m d (tileSet (Fin.cast nCore_zero c) (Fin.cast nSub_zero s)) ∗ oSet d (tileSet (Fin.cast nCore_zero c) (Fin.cast nSub_zero s)) (m (oT d))))
      ∗ ((bigSep Finset.univ fun s : Fin ((K (F := F)).nSub 0) =>
          iprop(xSet m d (tileSet (Fin.cast nCore_zero c) (Fin.cast nSub_zero s)) ∗ oSet d (tileSet (Fin.cast nCore_zero c) (Fin.cast nSub_zero s)) (outArr (arg m d))))
          -∗ iprop(xSet m d (coreSet (Fin.cast nCore_zero c)) ∗ oSet d (coreSet (Fin.cast nCore_zero c)) (outArr (arg m d)))))
  rw [bigSep_tasks (F := F) (fun s => iprop(xSet m d (tileSet (Fin.cast nCore_zero c) s) ∗ oSet d (tileSet (Fin.cast nCore_zero c) s) (m (oT d)))),
    bigSep_tasks (F := F) (fun s => iprop(xSet m d (tileSet (Fin.cast nCore_zero c) s) ∗ oSet d (tileSet (Fin.cast nCore_zero c) s) (outArr (arg m d)))),
    bigSep_sep', bigSep_sep', ← xSet_tiles, ← oSet_tiles, ← oSet_tiles]
  iintro H; imodintro
  isplitl [H]; · iexact H
  iintro H; iexact H

/-! ## The launch element of the ghost state -/

def u₀ : UU := (initOf (K (F := F)).hsCells (K (F := F)).hsToks, 1)

theorem ownU_split (a : UH) (b : Counters) : (ownU (a, b) : sProp 𝕄) ⊢ iprop(BI.own (EH a) ∗ BI.own (EC.toEmb b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_split _ _) $$ Hu
  icases H with ⟨H, -⟩
  imodintro
  isplitl [H]; · iexact H
  isplitr; · rw [bigSep_emp']; iempintro
  rw [show (bigSep Finset.univ fun thr : Thread nD τ => bigSep Finset.univ fun q : Fin 1 => (P (F := F) m).x q thr)
      = bigSep Finset.univ fun _ : Thread nD τ => (iprop(emp) : sProp 𝕄) from bigSep_congr fun _ _ => bigSep_emp' _, bigSep_emp']
  iempintro

/-! ## The call on the TensorCore -/

theorem unscopedBufs_eq (d : Dev nD) (W : (b : Ref sig .tc) → Buf (Elt F) ((d.tc : Thread nD τ).loc b)) :
    (unscopedBufs d W : sProp 𝕄) = iprop((xT d ↦{fullShare} W main_arg0) ∗ oT d ↦{fullShare} W main_v0) := by
  unfold unscopedBufs
  rw [show (Finset.univ.filter fun b : Ref sig .tc => ¬ b.isScoped) = {main_arg0, main_v0} by decide,
    SparseCore.bigSep_insert' (by decide), bigSep_singleton]

theorem xSet_cores (d : Dev nD) : (xT d ↦{fullShare} m (xT d) : sProp 𝕄) = bigSep Finset.univ fun c : Fin 2 => xSet m d (coreSet c) := by
  unfold xSet
  rw [← pointsTo_biUnion Finset.univ (ℓ := xT d) coreSet coreSet_disjoint, coreSet_cover]; try rfl
theorem oSet_cores (d : Dev nD) (f : Vec F S8192x4096 .f32) :
    (oT d ↦{fullShare} f : sProp 𝕄) = bigSep Finset.univ fun c : Fin 2 => oSet d (coreSet c) f := by
  unfold oSet
  rw [← pointsTo_biUnion Finset.univ (ℓ := oT d) coreSet coreSet_disjoint, coreSet_cover]; try rfl

theorem st0_eq (d : Dev nD) : (bigSep Finset.univ fun c : Fin ((K (F := F)).nCore 0) => (P m).st 0 d c)
    = iprop((xT d ↦{fullShare} m (xT d)) ∗ oT d ↦{fullShare} m (oT d)) := by
  rw [xSet_cores, oSet_cores, ← bigSep_sep']
  exact bigSep_cores (F := F) (fun c => iprop(xSet m d (coreSet c) ∗ oSet d (coreSet c) (m (oT d))))
theorem dn0_eq (d : Dev nD) : (bigSep Finset.univ fun c : Fin ((K (F := F)).nCore 0) => (P m).dn 0 d c)
    = iprop((xT d ↦{fullShare} m (xT d)) ∗ oT d ↦{fullShare} (outArr (arg m d) : Vec F S8192x4096 .f32)) := by
  rw [xSet_cores, oSet_cores, ← bigSep_sep']
  exact bigSep_cores (F := F) (fun c => iprop(xSet m d (coreSet c) ∗ oSet d (coreSet c) (outArr (arg m d))))

/-- What the call leaves: the argument as it was, the result holding the kernel's rows. -/
abbrev FIN (d : Dev nD) : sProp 𝕄 :=
  iprop((xT d ↦{fullShare} m (xT d)) ∗ oT d ↦{fullShare} (outArr (arg m d) : Vec F S8192x4096 .f32))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  imodintro
  isplitl [Hst]; · iexact Hst
  isplitl [Hdn']; · iexact Hdn'
  isplitl [Hb] <;> iassumption

def fq (d : Dev nD) (s' : Phys nD τ sig (Elt F)) : Prop := s'.mem.mem (xT d) = m (xT d) ∧ s'.mem.mem (oT d) = outArr (arg m d)

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xT d) (I := Finset.univ) (q := fullShare) (f := m (xT d)))) $$ [HSI Hx]
  · isplitl [HSI] <;> iassumption
  icases H with ⟨%h1, HSI, -⟩
  ihave H := (SI_pointsTo_agree (st := s') (ℓ := oT d) (I := Finset.univ) (q := fullShare) (f := (outArr (arg m d) : Vec F S8192x4096 .f32))) $$ [HSI Ho]
  · isplitl [HSI] <;> iassumption
  icases H with %h2
  ipureintro; exact ⟨funext fun i => h1 i (Finset.mem_univ i), funext fun i => h2 i (Finset.mem_univ i)⟩

/-- How the program ends: the argument as it was, the result holding the kernel's rows, every counter at zero. -/
def QC : PUnit × MemSt nD τ sig (Elt F) → Prop := fun r =>
  (∀ d : Dev nD, r.2.mem (xT d) = m (xT d) ∧ r.2.mem (oT d) = outArr (arg m d)) ∧ r.2.sem = fun _ => 0

/-- Every weakly fair run of the program's threads ends, and ends as `QC` says. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Frames.lean ====
/- The frames: the kernel, the kernel over extended reals and the reference each run to the end, leave the argument as
   it was and every counter at zero. -/
module

public import proofs.«01_k».proof.Proof.Run
public import proofs.«01_k».proof.Proof.Gen.Kernel
public import proofs.«01_k».proof.Proof.Gen.ReferenceIdeal
public import proofs.«01_k».proof.Proof.Gen.ReferenceIdeal.Run
public import proofs.«01_k».proof.Proof.Gen.Pre_separated

@[expose] public section

noncomputable section

namespace Cert.Proof

open Idealize.ShloMosaic Idealize.SL.Sem

/-- The kernel's frame: its text is the one `run_main` runs, read at the float formats. -/
theorem frame_kernel : Cert.quiescent_Kernel := fun m ρ _ =>
  (θ_run Cert.KernelIdeal.defs _ _).mono (fun _ h => ⟨fun c => (h.1 c).1, h.2⟩) (run_main (F := Bits) m ρ)

/-- The frame of the kernel over extended reals. -/
theorem frame_ideal : Cert.quiescent_KernelIdeal := fun m ρ _ =>
  (θ_run Cert.KernelIdeal.defs _ _).mono (fun _ h => ⟨fun c => (h.1 c).1, h.2⟩) (run_main (F := Ideal) m ρ)

theorem frame_ideal_pre : Cert.quiescent_KernelIdeal_pre_separated := fun m ρ _ => frame_ideal m ρ trivial

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_separated := fun m ρ _ => frame_reference m ρ trivial

end Cert.Proof

end
-- ==== Proof.Solve.lean ====
module

public import Mathlib.Algebra.BigOperators.Field
public import Mathlib.Data.Real.Basic
public import Mathlib.Tactic.Linarith
public import Mathlib.Tactic.Positivity
public import Mathlib.Tactic.FieldSimp
public import Mathlib.Tactic.NormNum
public import Mathlib.Tactic.Push
public import Mathlib.Tactic.Ring

/-! The row problem over the reals: the excess of a family above a threshold, its halvings and its Newton steps. -/

@[expose] public section

namespace Cert.Proof
open Finset

section Real
variable {ι : Type} (A : Finset ι) (x : ι → ℝ)

/-- The excess of the family above `t`. -/
noncomputable def exc (t : ℝ) : ℝ := ∑ c ∈ A, max (x c - t) 0

open Classical in
/-- How many of the family lie above `t`. -/
noncomputable def num (t : ℝ) : ℝ := ∑ c ∈ A, if t < x c then 1 else 0

/-- One Newton step for an excess of one. -/
noncomputable def newt (t : ℝ) : ℝ := t + (exc A x t - 1) / max (num A x t) 1

/-- One halving of a bracket. -/
noncomputable def halve (b : ℝ × ℝ) : ℝ × ℝ :=
  if 1 ≤ exc A x (2⁻¹ * (b.1 + b.2)) then (2⁻¹ * (b.1 + b.2), b.2) else (b.1, 2⁻¹ * (b.1 + b.2))

theorem exc_anti {s t : ℝ} (h : s ≤ t) : exc A x t ≤ exc A x s :=
  Finset.sum_le_sum fun c _ => max_le_max (by linarith) le_rfl

/-- The excess is strictly decreasing where it is positive. -/
theorem exc_strict {s t : ℝ} (h : s < t) (h0 : 0 < exc A x s) : exc A x t < exc A x s := by
  refine Finset.sum_lt_sum (fun c _ => max_le_max (by linarith) le_rfl) ?_
  by_contra hn
  push Not at hn
  refine absurd h0 (not_lt.mpr (Finset.sum_nonpos fun c hc => ?_))
  have := hn c hc
  rcases le_or_gt (x c - s) 0 with h' | h'
  · rw [max_eq_right h']
  · rw [max_eq_left h'.le] at this
    rcases le_or_gt (x c - t) 0 with h'' | h''
    · rw [max_eq_right h''] at this; linarith
    · rw [max_eq_left h''.le] at this; linarith

variable {A x} {τ : ℝ} (hτ : exc A x τ = 1)
include hτ

theorem one_le_exc (t : ℝ) : 1 ≤ exc A x t ↔ t ≤ τ := by
  constructor
  · intro h; by_contra hn
    have := exc_strict A x (not_le.mp hn) (by rw [hτ]; norm_num)
    linarith
  · intro h; rw [← hτ]; exact exc_anti A x h

/-- Where the excess is one is determined. -/
theorem exc_unique {t : ℝ} (h : exc A x t = 1) : t = τ :=
  le_antisymm ((one_le_exc hτ t).mp h.ge) ((one_le_exc h τ).mp hτ.ge)

/-- Halvings keep the bracket about the threshold and halve its width. -/
theorem halve_run {lo hi : ℝ} (h1 : lo ≤ τ) (h2 : τ < hi) (n : ℕ) :
    ((halve A x)^[n] (lo, hi)).1 ≤ τ ∧ τ < ((halve A x)^[n] (lo, hi)).2
      ∧ ((halve A x)^[n] (lo, hi)).2 - ((halve A x)^[n] (lo, hi)).1 = (hi - lo) / 2 ^ n
      ∧ lo ≤ ((halve A x)^[n] (lo, hi)).1 ∧ ((halve A x)^[n] (lo, hi)).2 ≤ hi := by
  induction n with
  | zero => simp; exact ⟨h1, h2⟩
  | succ n ih =>
    rw [Function.iterate_succ_apply']
    obtain ⟨i1, i2, i3, i4, i5⟩ := ih
    generalize (halve A x)^[n] (lo, hi) = b at *
    unfold halve
    have e : (hi - lo) / 2 ^ (n + 1) = (b.2 - b.1) / 2 := by rw [i3, pow_succ]; field_simp
    rw [e]
    split <;> rename_i hc <;> rw [one_le_exc hτ] at hc <;> dsimp only
    · refine ⟨hc, i2, ?_, ?_, i5⟩ <;> linarith
    · refine ⟨i1, not_le.mp hc, ?_, i4, ?_⟩ <;> linarith

/-- What a Newton step misses the threshold by: the distances of the elements between it and where the step began. -/
theorem newt_miss {t : ℝ} (hN : 1 ≤ num A x t) [DecidablePred fun c => (t < x c ∧ x c < τ) ∨ (τ < x c ∧ x c ≤ t)] :
    newt A x t = τ - (∑ c ∈ A with (t < x c ∧ x c < τ) ∨ (τ < x c ∧ x c ≤ t), |x c - τ|) / num A x t := by
  have hN0 : num A x t ≠ 0 := by linarith
  have key : ∀ c ∈ A, max (x c - τ) 0 = max (x c - t) 0 - (τ - t) * (if t < x c then 1 else 0)
      + (if (t < x c ∧ x c < τ) ∨ (τ < x c ∧ x c ≤ t) then |x c - τ| else 0) := by
    intro c _
    by_cases h1 : t < x c <;> by_cases h2 : x c < τ
    · rw [if_pos h1, if_pos (.inl ⟨h1, h2⟩), max_eq_right (by linarith), max_eq_left (by linarith), abs_of_neg (by linarith)]; ring
    · rw [if_pos h1, if_neg (by rintro (h | h); exacts [h2 h.2, absurd h.2 (not_le.mpr h1)]), max_eq_left (by linarith), max_eq_left (by linarith)]; ring
    · rw [if_neg h1, if_neg (by rintro (h | h); exacts [h1 h.1, absurd h.1 (by linarith)]), max_eq_right (by linarith), max_eq_right (by linarith)]; ring
    · rw [if_neg h1, max_eq_left (b := (0:ℝ)) (by linarith), max_eq_right (b := (0:ℝ)) (by linarith)]
      rcases eq_or_lt_of_le (not_lt.mp h2) with h | h
      · rw [if_neg (by rintro (h' | h'); exacts [h1 h'.1, absurd h'.1 (by linarith)]), h]; ring
      · rw [if_pos (.inr ⟨h, not_lt.mp h1⟩), abs_of_pos (by linarith)]; ring
  have e : exc A x τ = exc A x t - (τ - t) * num A x t + ∑ c ∈ A with (t < x c ∧ x c < τ) ∨ (τ < x c ∧ x c ≤ t), |x c - τ| := by
    rw [Finset.sum_filter]
    unfold exc num
    rw [Finset.mul_sum, ← Finset.sum_sub_distrib, ← Finset.sum_add_distrib]
    refine Finset.sum_congr rfl fun c hc => ?_
    rw [key c hc]
  unfold newt
  rw [max_eq_left hN]
  field_simp
  rw [hτ] at e
  linarith

omit hτ in
theorem one_le_num {t : ℝ} {c : ι} (hc : c ∈ A) (h : t < x c) : 1 ≤ num A x t := by
  unfold num
  refine le_trans ?_ (Finset.single_le_sum (f := fun c => if t < x c then (1 : ℝ) else 0) (fun c _ => by split <;> norm_num) hc)
  rw [if_pos h]

omit hτ in
theorem two_le_num {t : ℝ} {c e : ι} (hc : c ∈ A) (he : e ∈ A) (hce : c ≠ e) (h : t < x c) (h' : t < x e) : 2 ≤ num A x t := by
  classical
  unfold num
  have : ∑ c ∈ ({c, e} : Finset ι), (if t < x c then (1 : ℝ) else 0) ≤ ∑ c ∈ A, if t < x c then (1 : ℝ) else 0 :=
    Finset.sum_le_sum_of_subset_of_nonneg (by intro y hy; simp at hy; rcases hy with rfl | rfl <;> assumption) (fun c _ _ => by split <;> norm_num)
  rw [Finset.sum_pair hce, if_pos h, if_pos h'] at this
  convert this using 1; norm_num

/-- Two Newton steps from within `ε` of the threshold reach it, where at most one element lies within `ε` of it and
    apart from it. -/
theorem newt_twice {m ε : ℝ} (hm : ∃ c ∈ A, x c = m) (hτm : τ < m)
    (hnear : ∀ c ∈ A, ∀ e ∈ A, (0 < |x c - τ| ∧ |x c - τ| ≤ ε) → (0 < |x e - τ| ∧ |x e - τ| ≤ ε) → c = e)
    {t : ℝ} (ht : |t - τ| ≤ ε) (htm : t < m) :
    newt A x (newt A x t) = τ ∧ τ - ε ≤ newt A x t ∧ newt A x t ≤ τ := by
  classical
  obtain ⟨cm, hcm, rfl⟩ := hm
  have hε : 0 ≤ ε := (abs_nonneg _).trans ht
  have hN := one_le_num hcm htm
  obtain ⟨ht1, ht2⟩ := abs_le.mp ht
  have near : ∀ s, τ - ε ≤ s → s ≤ τ + ε → ∀ c, ((s < x c ∧ x c < τ) ∨ (τ < x c ∧ x c ≤ s)) → 0 < |x c - τ| ∧ |x c - τ| ≤ ε := by
    rintro s h1 h2 c (h | h)
    · rw [abs_of_neg (by linarith)]; constructor <;> linarith
    · rw [abs_of_pos (by linarith)]; constructor <;> linarith
  have e1 := newt_miss hτ hN
  by_cases hex : ∃ c ∈ A, (t < x c ∧ x c < τ) ∨ (τ < x c ∧ x c ≤ t)
  · obtain ⟨c, hc, hb⟩ := hex
    have hnc := near t (by linarith) (by linarith) c hb
    have hone : (A.filter fun c => (t < x c ∧ x c < τ) ∨ (τ < x c ∧ x c ≤ t)) = {c} := by
      ext e
      simp only [Finset.mem_filter, Finset.mem_singleton]
      constructor
      · rintro ⟨he, hb'⟩; exact hnear e he c hc (near t (by linarith) (by linarith) e hb') hnc
      · rintro rfl; exact ⟨hc, hb⟩
    rw [hone, Finset.sum_singleton] at e1
    have hq : |x c - τ| / num A x t ≤ |x c - τ| := div_le_self (abs_nonneg _) hN
    have hq0 : 0 < |x c - τ| / num A x t := div_pos hnc.1 (by linarith)
    have hlo : τ - ε ≤ newt A x t := by rw [e1]; linarith [hnc.2]
    have hhi : newt A x t < τ := by rw [e1]; linarith
    refine ⟨?_, hlo, hhi.le⟩
    have hN' := one_le_num hcm (hhi.trans hτm)
    rw [newt_miss hτ hN', Finset.filter_eq_empty_iff.mpr ?_]
    · simp
    intro e he hb'
    have := hnear e he c hc (near _ hlo (by linarith) e hb') hnc
    subst this
    rcases hb' with hb' | hb'
    · rcases hb with hb | hb
      · have h2 : 2 ≤ num A x t := two_le_num hc hcm (by rintro rfl; linarith) hb.1 htm
        have h3 : |x e - τ| / num A x t ≤ |x e - τ| / 2 := div_le_div_of_nonneg_left (abs_nonneg _) (by norm_num) h2
        rw [abs_of_neg (by linarith)] at *
        linarith
      · linarith
    · linarith
  · push Not at hex
    rw [Finset.filter_eq_empty_iff.mpr (fun {c} hc hb => ?_), Finset.sum_empty, zero_div, sub_zero] at e1
    · rw [e1]
      have e2 := newt_miss hτ (one_le_num hcm hτm)
      rw [Finset.filter_eq_empty_iff.mpr (fun {c} hc hb => by rcases hb with hb | hb <;> linarith), Finset.sum_empty, zero_div, sub_zero] at e2
      exact ⟨e2, by linarith, le_rfl⟩
    · rcases hb with hb | hb
      · exact absurd hb.2 (not_lt.mpr ((hex c hc).1 hb.1))
      · exact absurd hb.2 (not_le.mpr ((hex c hc).2 hb.1))

end Real
end Cert.Proof
-- ==== Proof.Threshold.lean ====
module

public import proofs.«01_k».proof.Proof.Solve
public import Mathlib.Data.EReal.Inv
public import Mathlib.Topology.Order.IntermediateValue
public import Mathlib.Topology.Instances.Real.Lemmas
public import Mathlib.Topology.Algebra.Monoid
public import Mathlib.Order.Interval.Finset.Fin

/-! The threshold of a sorted row: the reference's indicator, its sum and its count give the root of the excess. -/

@[expose] public section

namespace Cert.Proof
open Finset

/-- A root exists: with some element equal to zero and every element at most zero, there is a `τ` in `[-1, 0)` where the
excess over `τ` is one. -/
theorem exc_root {ι : Type} (A : Finset ι) (x : ι → ℝ) (h0 : ∃ c ∈ A, x c = 0) (hle : ∀ c ∈ A, x c ≤ 0) :
    ∃ τ : ℝ, -1 ≤ τ ∧ τ < 0 ∧ exc A x τ = 1 := by
  have hc : Continuous fun t => exc A x t := by
    unfold exc
    exact continuous_finsetSum _ fun c _ => (continuous_const.sub continuous_id).max continuous_const
  have hz : exc A x 0 = 0 := Finset.sum_eq_zero fun c hc' => max_eq_right (by linarith [hle c hc'])
  have h1 : 1 ≤ exc A x (-1) := by
    obtain ⟨c, hcA, hc0⟩ := h0
    have := Finset.single_le_sum (f := fun c => max (x c - (-1)) 0) (fun _ _ => le_max_right _ _) hcA
    refine le_trans ?_ this
    simp [hc0]
  obtain ⟨τ, ⟨ha, hb⟩, hτ⟩ := intermediate_value_Icc' (by norm_num : (-1 : ℝ) ≤ 0) hc.continuousOn
    (show (1 : ℝ) ∈ Set.Icc (exc A x 0) (exc A x (-1)) from ⟨by rw [hz]; norm_num, h1⟩)
  refine ⟨τ, ha, lt_of_le_of_ne hb ?_, hτ⟩
  rintro rfl
  have hτ : exc A x 0 = 1 := hτ
  rw [hz] at hτ
  norm_num at hτ

section
variable {n : ℕ} (s : Fin n → EReal)

/-- The indices of a sorted row whose element is above minus one. -/
noncomputable def near : Finset (Fin n) := Finset.univ.filter fun i => ((-1 : ℝ) : EReal) < s i

/-- The reference's indicator at `i`: the running sum is below one plus `i + 1` times the element. -/
def supp (i : Fin n) : Prop := (∑ j ∈ Finset.Iic i, s j) < 1 + ((i.val : EReal) + 1) * s i

variable {s}

theorem sum_coe {ι : Type} (A : Finset ι) (f : ι → EReal) (g : ι → ℝ) (h : ∀ c ∈ A, f c = ((g c : ℝ) : EReal)) :
    ∑ c ∈ A, f c = ((∑ c ∈ A, g c : ℝ) : EReal) := by
  rw [Finset.sum_congr rfl h]
  exact (map_sum (⟨⟨fun r : ℝ => (r : EReal), EReal.coe_zero⟩, EReal.coe_add⟩ : ℝ →+ EReal) g A).symm

theorem coe_of (h1 : ∀ i, s i ≤ 0) {i : Fin n} (hb : s i ≠ ⊥) : s i = (((s i).toReal : ℝ) : EReal) :=
  (EReal.coe_toReal (ne_of_lt (lt_of_le_of_lt (h1 i) EReal.zero_lt_top)) hb).symm

/-- The reference's indicator, over a row sorted downwards whose largest element is zero, says that the element is above
the root. -/
theorem supp_iff (hs : Antitone s) (h1 : ∀ i, s i ≤ 0) (h0 : ∃ i, s i = 0) {τ : ℝ} (hl : -1 ≤ τ)
    (hτ : exc (near s) (fun i => (s i).toReal) τ = 1) (i : Fin n) : supp s i ↔ (τ : EReal) < s i := by
  unfold supp
  by_cases hb : s i = ⊥
  · rw [hb]
    have : ((i.val : EReal) + 1) * ⊥ = ⊥ := EReal.mul_bot_of_pos (by positivity)
    rw [this, EReal.add_bot]
    simp
  have hreal : ∀ j ∈ Finset.Iic i, s j = (((s j).toReal : ℝ) : EReal) := fun j hj =>
    coe_of h1 fun h => hb (le_bot_iff.1 (h ▸ hs (Finset.mem_Iic.1 hj)))
  have hi := hreal i (Finset.mem_Iic.2 le_rfl)
  have hmono : ∀ j ∈ Finset.Iic i, (s i).toReal ≤ (s j).toReal := fun j hj => by
    have := hs (Finset.mem_Iic.1 hj)
    rw [hi, hreal j hj] at this
    exact_mod_cast this
  rw [sum_coe _ _ _ hreal, hi]
  have hcast : (1 : EReal) + ((i.val : EReal) + 1) * (((s i).toReal : ℝ) : EReal)
      = ((1 + ((i.val : ℝ) + 1) * (s i).toReal : ℝ) : EReal) := by push_cast; rfl
  rw [hcast, EReal.coe_lt_coe_iff, EReal.coe_lt_coe_iff]
  have hdiff : ∑ j ∈ Finset.Iic i, ((s j).toReal - (s i).toReal)
      = (∑ j ∈ Finset.Iic i, (s j).toReal) - ((i.val : ℝ) + 1) * (s i).toReal := by
    rw [Finset.sum_sub_distrib, Finset.sum_const, Fin.card_Iic, nsmul_eq_mul]; push_cast; rfl
  by_cases hm : -1 < (s i).toReal
  · have hexc : exc (near s) (fun i => (s i).toReal) (s i).toReal
        = ∑ j ∈ Finset.Iic i, ((s j).toReal - (s i).toReal) := by
      unfold exc
      have hsub : Finset.Iic i ⊆ near s := fun j hj => Finset.mem_filter.2 ⟨Finset.mem_univ _, by
        rw [hreal j hj]; exact_mod_cast lt_of_lt_of_le hm (hmono j hj)⟩
      rw [← Finset.sum_subset hsub]
      · exact Finset.sum_congr rfl fun j hj => max_eq_left (by linarith [hmono j hj])
      · intro j hj hj'
        have hji : i ≤ j := le_of_not_ge fun h => hj' (Finset.mem_Iic.2 h)
        have hjb : s j ≠ ⊥ := fun h => by
          have := (Finset.mem_filter.1 hj).2; rw [h] at this; exact absurd this (by simp)
        have := hs hji
        rw [hi, coe_of h1 hjb] at this
        have : (s j).toReal ≤ (s i).toReal := by exact_mod_cast this
        exact max_eq_right (by linarith)
    have hone := one_le_exc hτ (s i).toReal
    rw [hexc, hdiff] at hone
    constructor
    · intro h
      by_contra hc
      have := hone.2 (not_lt.1 hc)
      linarith
    · intro h
      by_contra hc
      have := hone.1 (by linarith)
      linarith
  · have hm := not_lt.1 hm
    constructor
    · intro h
      exfalso
      obtain ⟨e, he⟩ := h0
      by_cases hei : e ≤ i
      · have e0 : (s e).toReal = 0 := by rw [he]; exact EReal.toReal_zero
        have : (s e).toReal - (s i).toReal ≤ _ := Finset.single_le_sum (f := fun j => (s j).toReal - (s i).toReal)
          (fun j hj => by have := hmono j hj; linarith) (Finset.mem_Iic.2 hei)
        rw [e0, hdiff] at this
        linarith
      · have := hs (le_of_not_ge hei)
        rw [he, hi] at this
        have : (0 : ℝ) ≤ (s i).toReal := by exact_mod_cast this
        linarith
    · intro h
      linarith

/-- How many of a sorted row's elements are above the root. -/
noncomputable def over (s : Fin n → EReal) (τ : ℝ) : Finset (Fin n) := Finset.univ.filter fun i => (τ : EReal) < s i

/-- The largest position, counted from one, that is above the root is the number of elements above it. -/
theorem sup_over (hs : Antitone s) (h0 : ∃ i, s i = 0) {τ : ℝ} (ht : τ < 0) (g : Fin n → EReal)
    (hg : ∀ i, g i = if (τ : EReal) < s i then 1 else 0) :
    (Finset.univ : Finset (Fin n)).fold max ⊥ (fun i => g i * ((i.val : EReal) + 1)) = (((over s τ).card : ℝ) : EReal) := by
  have hne : (over s τ).Nonempty := by
    obtain ⟨e, he⟩ := h0
    exact ⟨e, Finset.mem_filter.2 ⟨Finset.mem_univ _, by rw [he]; exact_mod_cast ht⟩⟩
  have hcast : ∀ i : Fin n, (i.val : EReal) + 1 = (((i.val + 1 : ℕ) : ℝ) : EReal) := fun i => by push_cast; rfl
  apply le_antisymm
  · rw [Finset.fold_max_le]
    refine ⟨bot_le, fun i _ => ?_⟩
    rw [hg]
    by_cases h : (τ : EReal) < s i
    · rw [if_pos h, one_mul, hcast]
      have : (Finset.Iic i).card ≤ (over s τ).card := Finset.card_le_card fun j hj =>
        Finset.mem_filter.2 ⟨Finset.mem_univ _, lt_of_lt_of_le h (hs (Finset.mem_Iic.1 hj))⟩
      rw [Fin.card_Iic] at this
      exact_mod_cast this
    · rw [if_neg h, zero_mul]
      exact_mod_cast Nat.zero_le _
  · rw [Finset.le_fold_max]
    refine Or.inr ⟨(over s τ).max' hne, Finset.mem_univ _, ?_⟩
    have hmem := (over s τ).max'_mem hne
    rw [hg, if_pos (Finset.mem_filter.1 hmem).2, one_mul, hcast]
    have : (over s τ).card ≤ (Finset.Iic ((over s τ).max' hne)).card := Finset.card_le_card fun j hj =>
      Finset.mem_Iic.2 ((over s τ).le_max' j hj)
    rw [Fin.card_Iic] at this
    exact_mod_cast this

/-- The sum the reference takes, less one, over the count is the root. -/
theorem root_eq (h1 : ∀ i, s i ≤ 0) (h0 : ∃ i, s i = 0) {τ : ℝ} (hl : -1 ≤ τ) (ht : τ < 0)
    (hτ : exc (near s) (fun i => (s i).toReal) τ = 1) (g : Fin n → EReal)
    (hg : ∀ i, g i = if (τ : EReal) < s i then 1 else 0) :
    ((∑ i, g i * s i) - 1) * ((((over s τ).card : ℝ) : EReal))⁻¹ = τ ∧ (((over s τ).card : ℝ) : EReal) ≠ 0 := by
  have hne : (over s τ).Nonempty := by
    obtain ⟨e, he⟩ := h0
    exact ⟨e, Finset.mem_filter.2 ⟨Finset.mem_univ _, by rw [he]; exact_mod_cast ht⟩⟩
  have hpos : (0 : ℝ) < (over s τ).card := by exact_mod_cast hne.card_pos
  have hmem : ∀ i ∈ over s τ, s i = (((s i).toReal : ℝ) : EReal) ∧ τ < (s i).toReal := fun i hi => by
    have h := (Finset.mem_filter.1 hi).2
    have e := coe_of h1 (i := i) (fun hb => by rw [hb] at h; exact absurd h (by simp))
    refine ⟨e, ?_⟩
    rw [e] at h
    exact_mod_cast h
  have hsum : ∑ i, g i * s i = ((∑ i ∈ over s τ, (s i).toReal : ℝ) : EReal) := by
    rw [← sum_coe (over s τ) s _ fun i hi => (hmem i hi).1]
    unfold over
    rw [Finset.sum_filter]
    refine Finset.sum_congr rfl fun i _ => ?_
    rw [hg]
    split <;> simp
  have hexc : exc (near s) (fun i => (s i).toReal) τ = ∑ i ∈ over s τ, ((s i).toReal - τ) := by
    unfold exc
    have hsub : over s τ ⊆ near s := fun j hj => Finset.mem_filter.2 ⟨Finset.mem_univ _, by
      rw [(hmem j hj).1]; exact_mod_cast lt_of_le_of_lt hl (hmem j hj).2⟩
    rw [← Finset.sum_subset hsub]
    · exact Finset.sum_congr rfl fun j hj => max_eq_left (by linarith [(hmem j hj).2])
    · intro j hj hj'
      have hjb : s j ≠ ⊥ := fun h => by
        have := (Finset.mem_filter.1 hj).2; rw [h] at this; exact absurd this (by simp)
      have : ¬ (τ : EReal) < s j := fun h => hj' (Finset.mem_filter.2 ⟨Finset.mem_univ _, h⟩)
      rw [coe_of h1 hjb] at this
      have : (s j).toReal ≤ τ := by exact_mod_cast not_lt.1 this
      exact max_eq_right (by linarith)
  rw [hexc, Finset.sum_sub_distrib, Finset.sum_const, nsmul_eq_mul] at hτ
  refine ⟨?_, by exact_mod_cast hpos.ne'⟩
  rw [hsum, ← EReal.coe_inv, ← EReal.coe_one, ← EReal.coe_sub, ← EReal.coe_mul]
  congr 1
  field_simp
  linarith

end

end Cert.Proof
-- ==== Proof.KerRow.lean ====
/- The kernel's row over the extended reals: the row's largest element, sums over the elements kept, and the sums over
   registers that the solver takes. -/
module

public import proofs.«01_k».proof.Proof.Model
public import proofs.«01_k».proof.Proof.Threshold
public import Idealize.ShloMosaic.PureOps.Ideal.Laws
public import Idealize.ShloMosaic.Lib.IdealHost

@[expose] public section

noncomputable section

namespace Cert.Proof

open Cert.KernelIdeal Cert.KernelIdeal.Gen
open Idealize.ShloMosaic

/-! ## Registers read at a lane -/

theorem ofBits_half_f32 : Ideal.ofBits .f32 0x3F000000#32 = (((2 : ℝ)⁻¹ : ℝ) : EReal) := by
  simp [Ideal.ofBits, Ideal.ieee, -EReal.coe_mul]; norm_num

theorem ones_at (l : S16.Idx) : (ones : V16 Ideal) l = (1 : EReal) := Ideal.ofBits_one_f32
theorem zeros_at (l : S16.Idx) : (zeros : V16 Ideal) l = (0 : EReal) := Ideal.ofBits_zero_f32
theorem halves_at (l : S16.Idx) : (halves : V16 Ideal) l = (((2 : ℝ)⁻¹ : ℝ) : EReal) := ofBits_half_f32

theorem maxf_at (a b : V16 Ideal) (l : S16.Idx) : maximumf a b l = (max (a l) (b l) : EReal) := rfl
theorem addf_at (a b : V16 Ideal) (l : S16.Idx) : addf a b l = (a l + b l : EReal) := rfl
theorem subf_at (a b : V16 Ideal) (l : S16.Idx) : subf a b l = (a l - b l : EReal) := rfl
theorem mulf_at (a b : V16 Ideal) (l : S16.Idx) : mulf a b l = (a l * b l : EReal) := rfl
theorem divf_at (a b : V16 Ideal) (l : S16.Idx) : divf a b l = Ideal.div (a l) (b l) := rfl

theorem ofBool_one (p : Prop) [Decidable p] : BitVec.ofBool (decide p) = 1#1 ↔ p := by
  by_cases h : p <;> simp [h]

theorem ogt_at (a b : V16 Ideal) (l : S16.Idx) : cmpf .ogt a b l = 1#1 ↔ (b l : EReal) < a l := ofBool_one _
theorem oge_at (a b : V16 Ideal) (l : S16.Idx) : cmpf .oge a b l = 1#1 ↔ (b l : EReal) ≤ a l := ofBool_one _

theorem select_at {α : Type} (m : IVec S16 1) (a b : S16.Idx → α) (l : S16.Idx) :
    select m a b l = if m l = 1#1 then a l else b l := rfl

theorem vec_at (x : ℕ → EReal) (j n : ℕ) (h : n < 16) : (vec x j : V16 Ideal) (lane n) = x (16 * j + n) := by
  show x (16 * j + n % 16) = _
  rw [Nat.mod_eq_of_lt h]

theorem shuf_at (k : ℕ) (v : V16 Ideal) {n : ℕ} (h : n < 16) : shuf k v (lane n) = v (lane (n ^^^ k)) := by
  show v (lane ((n % 16) ^^^ k)) = _
  rw [Nat.mod_eq_of_lt h]

/-- A lane of a butterfly of sums is the sum over all sixteen lanes. -/
theorem bfly_add (v : V16 Ideal) (l : S16.Idx) : bfly addf v l = (∑ n ∈ Finset.range 16, v (lane n) : EReal) := by
  rw [← lane_eq l]
  have hl := (l 0).isLt
  generalize (l 0).val = k at hl
  replace hl : k < 16 := hl
  simp only [Finset.sum_range_succ, Finset.sum_range_zero, zero_add]
  interval_cases k <;> simp (decide := true) only [bfly, addf_at, shuf_at, Nat.reduceXor] <;> ac_rfl

/-- A lane of a butterfly of maxima is bounded exactly where all sixteen lanes are. -/
theorem bfly_max_le (v : V16 Ideal) (l : S16.Idx) (y : EReal) :
    (bfly maximumf v l : EReal) ≤ y ↔ ∀ n < 16, v (lane n) ≤ y := by
  rw [← lane_eq l]
  have hl := (l 0).isLt
  generalize (l 0).val = k at hl
  replace hl : k < 16 := hl
  have e : (∀ n < 16, v (lane n) ≤ y) ↔ ∀ n : Fin 16, v (lane n.val) ≤ y :=
    ⟨fun h n => h n.val n.isLt, fun h n hn => h ⟨n, hn⟩⟩
  rw [e]
  simp only [Fin.forall_fin_succ, Fin.val_zero, Fin.val_succ, Nat.reduceAdd, IsEmpty.forall_iff, and_true]
  interval_cases k <;> simp (decide := true) only [bfly, maxf_at, shuf_at, Nat.reduceXor, max_le_iff] <;> tauto

/-! ## The row's largest element -/

theorem blk4_le (x : ℕ → EReal) (b k : ℕ) (n : ℕ) (hn : n < 16) (y : EReal) :
    (blk4 (F := Ideal) x b k 3 (lane n) : EReal) ≤ y ↔ ∀ i < 4, x (16 * (16 * b + (4 * i + k)) + n) ≤ y := by
  have e : (∀ i < 4, x (16 * (16 * b + (4 * i + k)) + n) ≤ y) ↔ ∀ i : Fin 4, x (16 * (16 * b + (4 * i.val + k)) + n) ≤ y :=
    ⟨fun h n => h n.val n.isLt, fun h n hn => h ⟨n, hn⟩⟩
  rw [e]
  simp only [Fin.forall_fin_succ, Fin.val_zero, Fin.val_succ, Nat.reduceAdd, IsEmpty.forall_iff, and_true]
  simp only [blk4, itr, maxf_at, vec_at _ _ _ hn, max_le_iff, Nat.add_assoc, Nat.reduceMul, Nat.reduceAdd, Nat.mul_zero, Nat.zero_add]
  tauto

theorem blkMax_le (x : ℕ → EReal) (b : ℕ) (n : ℕ) (hn : n < 16) (y : EReal) :
    (blkMax (F := Ideal) x b (lane n) : EReal) ≤ y ↔ ∀ j < 16, x (16 * (16 * b + j) + n) ≤ y := by
  simp only [blkMax, maxf_at, max_le_iff, blk4_le _ _ _ _ hn]
  constructor
  · rintro ⟨⟨h0, h1⟩, h2, h3⟩ j hj
    have hd : j / 4 < 4 := by omega
    have hm : j % 4 = 0 ∨ j % 4 = 1 ∨ j % 4 = 2 ∨ j % 4 = 3 := by omega
    rcases hm with h | h | h | h
    · have := h0 _ hd; rwa [show 4 * (j / 4) + 0 = j by omega] at this
    · have := h1 _ hd; rwa [show 4 * (j / 4) + 1 = j by omega] at this
    · have := h2 _ hd; rwa [show 4 * (j / 4) + 2 = j by omega] at this
    · have := h3 _ hd; rwa [show 4 * (j / 4) + 3 = j by omega] at this
  · intro h
    exact ⟨⟨fun i hi => h _ (by omega), fun i hi => h _ (by omega)⟩, fun i hi => h _ (by omega), fun i hi => h _ (by omega)⟩

theorem gAcc_le (x : ℕ → EReal) (b n : ℕ) (hn : n < 16) (y : EReal) :
    (gAcc (F := Ideal) x b (lane n) : EReal) ≤ y ↔ x n ≤ y ∧ ∀ a < b, ∀ j < 16, x (16 * (16 * a + j) + n) ≤ y := by
  induction b with
  | zero =>
    rw [show gAcc (F := Ideal) x 0 = vec x 0 from rfl, vec_at _ _ _ hn]
    simp
  | succ b ih =>
    rw [show gAcc (F := Ideal) x (b + 1) = maximumf (gAcc (F := Ideal) x b) (blkMax (F := Ideal) x b) from rfl, maxf_at, max_le_iff, ih,
      blkMax_le _ _ _ hn]
    simp only [Nat.lt_succ_iff_lt_or_eq]
    constructor
    · rintro ⟨⟨h0, h1⟩, h2⟩
      refine ⟨h0, fun a ha => ?_⟩
      rcases ha with ha | rfl
      · exact h1 a ha
      · exact h2
    · rintro ⟨h0, h1⟩
      exact ⟨⟨h0, fun a ha => h1 a (.inl ha)⟩, h1 b (.inr rfl)⟩

/-- The register of the row's largest element is bounded exactly where every element of the row is. -/
theorem rowMax_le (x : ℕ → EReal) (l : S16.Idx) (y : EReal) :
    (rowMax (F := Ideal) x l : EReal) ≤ y ↔ ∀ c < 4096, x c ≤ y := by
  unfold rowMax
  rw [bfly_max_le]
  constructor
  · intro h c hc
    have := ((gAcc_le x 16 (c % 16) (by omega) y).1 (h _ (by omega))).2 (c / 256) (by omega) (c / 16 % 16) (by omega)
    rwa [show 16 * (16 * (c / 256) + c / 16 % 16) + c % 16 = c by omega] at this
  · intro h n hn
    exact (gAcc_le x 16 n hn y).2 ⟨h _ (by omega), fun a ha j hj => h _ (by omega)⟩

/-- So it is the row's bound `M` in every lane. -/
theorem rowMax_eq (x : ℕ → EReal) (M : EReal) (hM : ∀ y, M ≤ y ↔ ∀ c < 4096, x c ≤ y) :
    rowMax (F := Ideal) x = fun _ => M :=
  funext fun l => le_antisymm ((rowMax_le x l M).2 ((hM M).1 le_rfl)) ((hM _).2 ((rowMax_le x l _).1 le_rfl))

/-! ## Sums over the elements kept -/

/-- A sum of `f` over the elements of a list. -/
def lsum (f : EReal → EReal) (L : List EReal) : EReal := (L.map f).sum

theorem lsum_append (f : EReal → EReal) (L K : List EReal) : lsum f (L ++ K) = lsum f L + lsum f K := by
  unfold lsum; rw [List.map_append, List.sum_append]

theorem lsum_kept (f : EReal → EReal) (T : EReal) (v : V16 Ideal) :
    lsum f (kept (F := Ideal) (fun _ => T) v) = ∑ n ∈ Finset.range 16, if T < v (lane n) then f (v (lane n)) else 0 := by
  unfold kept
  generalize 16 = n
  induction n with
  | zero => rfl
  | succ n ih =>
    rw [show keptN (cmpf .ogt v fun _ => T) v (n + 1) = keptN (cmpf .ogt v fun _ => T) v n
      ++ if cmpf .ogt v (fun _ => T) (lane n) = 1#1 then [v (lane n)] else [] from rfl, lsum_append, ih, Finset.sum_range_succ]
    congr 1
    by_cases h : T < v (lane n)
    · rw [if_pos h, if_pos ((ogt_at v _ _).2 h)]
      simp [lsum]
    · rw [if_neg h, if_neg (fun h' => h ((ogt_at v _ _).1 h'))]
      rfl

/-- What the elements above `T` of a row contribute to a sum of `f`, one by one. -/
def pick (f : EReal → EReal) (T : EReal) (x : ℕ → EReal) (c : ℕ) : EReal := if T < x c then f (x c) else 0

theorem lsum_blkL (f : EReal → EReal) (T : EReal) (x : ℕ → EReal) (b : ℕ) (L : List EReal) (n : ℕ) :
    lsum f (blkL (F := Ideal) x (fun _ => T) b L n) = lsum f L + ∑ i ∈ Finset.range (16 * n), pick f T x (256 * b + i) := by
  induction n with
  | zero => simp [blkL, itr]
  | succ n ih =>
    rw [show blkL (F := Ideal) x (fun _ => T) b L (n + 1) = blkL (F := Ideal) x (fun _ => T) b L n
      ++ kept (F := Ideal) (fun _ => T) (vec x (16 * b + n)) from rfl, lsum_append, ih, lsum_kept, Nat.mul_succ,
      Finset.sum_range_add, add_assoc]
    congr 2
    refine Finset.sum_congr rfl fun i hi => ?_
    rw [vec_at _ _ _ (Finset.mem_range.1 hi), show 16 * (16 * b + n) + i = 256 * b + (16 * n + i) by omega]
    rfl

theorem cntN_pos (m : IVec S16 1) : 0 < cntN m 16 ↔ ∃ n < 16, m (lane n) = 1#1 := by
  unfold cntN
  rw [List.length_pos_iff_exists_mem]
  constructor
  · rintro ⟨a, ha⟩
    obtain ⟨l, hl, hm, -⟩ := (mem_keptN m _ a 16).1 ha
    exact ⟨l, hl, hm⟩
  · rintro ⟨n, hn, hm⟩
    exact ⟨(), (mem_keptN m _ _ 16).2 ⟨n, hn, hm, rfl⟩⟩

theorem lsum_rowL (f : EReal → EReal) (T : EReal) (x : ℕ → EReal) (b : ℕ) :
    lsum f (rowL (F := Ideal) x (fun _ => T) b) = ∑ c ∈ Finset.range (256 * b), pick f T x c := by
  induction b with
  | zero => rfl
  | succ b ih =>
    rw [Nat.mul_succ, Finset.sum_range_add, ← ih]
    by_cases h : 0 < cntN (cmpf .ogt (blkMax (F := Ideal) x b) fun _ => T) 16
    · rw [show rowL (F := Ideal) x (fun _ => T) (b + 1) = blkL (F := Ideal) x (fun _ => T) b (rowL (F := Ideal) x (fun _ => T) b) 16
        from if_pos h]
      exact lsum_blkL f T x b _ 16
    · rw [show rowL (F := Ideal) x (fun _ => T) (b + 1) = rowL (F := Ideal) x (fun _ => T) b from if_neg h]
      rw [Finset.sum_eq_zero, add_zero]
      intro i hi
      have hi := Finset.mem_range.1 hi
      refine if_neg (not_lt.2 ?_)
      rw [cntN_pos] at h
      have hle : (blkMax (F := Ideal) x b (lane (i % 16)) : EReal) ≤ T := not_lt.1 fun h' =>
        h ⟨i % 16, by omega, (ogt_at _ _ _).2 h'⟩
      have := (blkMax_le x b (i % 16) (by omega) T).1 hle (i / 16) (by omega)
      rwa [show 16 * (16 * b + i / 16) + i % 16 = 256 * b + i by omega] at this

/-! ## The sums the solver takes -/

theorem tree_add (a : ℕ → V16 Ideal) (l : S16.Idx) : tree a l = (∑ n ∈ Finset.range 16, a n l : EReal) := by
  simp only [Finset.sum_range_succ, Finset.sum_range_zero, zero_add, tree, addf_at]
  ac_rfl

/-- Past its end a padded list adds nothing to a sum of an `f` that is zero on the padding. -/
theorem sum_padded (f : EReal → EReal) (p : EReal) (hp : f p = 0) (L : List EReal) (K : ℕ) (h : L.length ≤ K) :
    ∑ i ∈ Finset.range K, f (padded (F := Ideal) L (fun _ => p) i) = lsum f L := by
  induction L generalizing K with
  | nil => exact Finset.sum_eq_zero fun i _ => by simp [padded, hp]
  | cons a L ih =>
    obtain ⟨K, rfl⟩ : ∃ k, K = k + 1 := ⟨K - 1, by simp at h; omega⟩
    rw [Finset.sum_range_succ', show lsum f (a :: L) = f a + lsum f L by simp [lsum], ← ih K (by simpa using h), add_comm]
    congr 1
    refine Finset.sum_congr rfl fun i _ => ?_
    simp [padded]

theorem relu_at (t v : V16 Ideal) (l : S16.Idx) : relu t v l = (max (v l - t l) 0 : EReal) := by
  unfold relu; rw [maxf_at, subf_at, zeros_at]

theorem above_at (t v : V16 Ideal) (l : S16.Idx) : above t v l = (if 0 < v l - t l then 1 else 0 : EReal) := by
  unfold above
  rw [select_at, ones_at, zeros_at]
  exact if_congr (by rw [ogt_at, subf_at, zeros_at]) rfl rfl

/-- A function of a register taken lane by lane, at a threshold that is the same in every lane. -/
def Lanewise (g : V16 Ideal → V16 Ideal → V16 Ideal) (f : EReal → EReal → EReal) : Prop := ∀ t v l, g t v l = f (t l) (v l)

theorem reg_sum {g : V16 Ideal → V16 Ideal → V16 Ideal} {f : EReal → EReal → EReal} (hg : Lanewise g f) (w : ℕ → EReal) (t : EReal) :
    (tree fun n => g (fun _ => t) (bc (vec w 0 : V16 Ideal) n)) = fun _ => ∑ i ∈ Finset.range 16, f t (w i) := by
  funext l
  rw [tree_add]
  refine Finset.sum_congr rfl fun n hn => ?_
  rw [hg]
  show f t (vec w 0 (lane n)) = _
  rw [vec_at _ _ _ (Finset.mem_range.1 hn), Nat.mul_zero, Nat.zero_add]

theorem loop_sum {g : V16 Ideal → V16 Ideal → V16 Ideal} {f : EReal → EReal → EReal} (hg : Lanewise g f) (w : ℕ → EReal) (t : EReal) (N : ℕ) :
    bfly addf (itr (fun k a => addf a (g (fun _ => t) (vec w k : V16 Ideal))) (zeros (F := Ideal)) N) = fun _ => ∑ i ∈ Finset.range (16 * N), f t (w i) := by
  funext l
  rw [bfly_add]
  induction N with
  | zero => exact Finset.sum_eq_zero fun n _ => zeros_at (lane n)
  | succ N ih =>
    rw [Nat.mul_succ, Finset.sum_range_add, ← ih, ← Finset.sum_add_distrib]
    refine Finset.sum_congr rfl fun n hn => ?_
    show addf _ _ (lane n) = _
    rw [addf_at, hg, vec_at _ _ _ (Finset.mem_range.1 hn)]

end Cert.Proof

end
-- ==== Proof.KerTau.lean ====
/- The kernel's shift over the extended reals: where the row's largest element is a real number it is the root of the
   excess of the elements less than one below it, and where it is infinite it is that infinity. -/
module

public import proofs.«01_k».proof.Proof.KerRow

@[expose] public section

noncomputable section

namespace Cert.Proof

open Cert.KernelIdeal Cert.KernelIdeal.Gen
open Idealize.ShloMosaic

/-- The same number in every lane. -/
def kst (t : EReal) : V16 Ideal := fun _ => t

def reluF (t v : EReal) : EReal := max (v - t) 0
def aboveF (t v : EReal) : EReal := if 0 < v - t then 1 else 0

/-- A sum over the row's elements above `T`. -/
def rowSum (f : EReal → EReal) (T : EReal) (x : ℕ → EReal) : EReal := ∑ c ∈ Finset.range 4096, pick f T x c

/-- What the solver is given: a sum and a count of the candidates, wherever the padding adds nothing to them. -/
def Sums (x : ℕ → EReal) (M : EReal) (f : EReal → EReal → EReal) (S : V16 Ideal → V16 Ideal) : Prop :=
  ∀ t, f t (M - 1 - 1) = 0 → S (kst t) = kst (rowSum (f t) (M - 1) x)

theorem tau_of (x : ℕ → EReal) (M : EReal) (hM : ∀ y, M ≤ y ↔ ∀ c < 4096, x c ≤ y) (R : V16 Ideal)
    (h : ∀ S C, Sums x M reluF S → Sums x M aboveF C → solve (F := Ideal) S C (kst (M - 1)) (kst M) = R) :
    tau (F := Ideal) x = R := by
  have hm : rowMax (F := Ideal) x = kst M := rowMax_eq x M hM
  have ht : thr (F := Ideal) x = kst (M - 1) := by
    unfold thr; rw [hm]; funext l; rw [subf_at, ones_at]; rfl
  have hp : subf (thr (F := Ideal) x) ones = kst (M - 1 - 1) := by
    rw [ht]; funext l; rw [subf_at, ones_at]; rfl
  have hC : rowC (F := Ideal) x = rowL (F := Ideal) x (fun _ => M - 1) 16 := by unfold rowC; rw [ht]; rfl
  have hP : rowP (F := Ideal) x = padded (F := Ideal) (rowC (F := Ideal) x) (fun _ => M - 1 - 1) := by unfold rowP; rw [hp]; rfl
  have key : ∀ (f : EReal → EReal) K, f (M - 1 - 1) = 0 → (rowC (F := Ideal) x).length ≤ K →
      ∑ i ∈ Finset.range K, f (rowP (F := Ideal) x i) = rowSum f (M - 1) x := fun f K h0 hK => by
    rw [hP, sum_padded f _ h0 _ K hK, hC]
    exact lsum_rowL f (M - 1) x 16
  have hr : Lanewise (relu (F := Ideal)) reluF := relu_at
  have ha : Lanewise (above (F := Ideal)) aboveF := above_at
  unfold tau
  rw [hm, ht]
  split
  · next hlen =>
    exact h _ _ (fun t h0 => (reg_sum hr _ t).trans (funext fun _ => key _ 16 h0 hlen))
      (fun t h0 => (reg_sum ha _ t).trans (funext fun _ => key _ 16 h0 hlen))
  · have hlen : (rowC (F := Ideal) x).length ≤ 16 * rowN (F := Ideal) x := by unfold rowN; omega
    exact h _ _ (fun t h0 => (loop_sum hr _ t _).trans (funext fun _ => key _ _ h0 hlen))
      (fun t h0 => (loop_sum ha _ t _).trans (funext fun _ => key _ _ h0 hlen))

/-! ## An infinite largest element -/

theorem midOf_at (a b : V16 Ideal) (l : S16.Idx) : midOf a b l = ((((2 : ℝ)⁻¹ : ℝ) : EReal) * (a l + b l) : EReal) := by
  unfold midOf; rw [mulf_at, halves_at, addf_at]

theorem sub_inf {M y : EReal} (hM : M = ⊤ ∨ M = ⊥) (hy : y ≤ M) : y - M = ⊥ := by
  rcases hM with rfl | rfl
  · rw [sub_eq_add_neg, EReal.neg_top, EReal.add_bot]
  · rw [le_bot_iff.1 hy, sub_eq_add_neg, EReal.bot_add]

theorem inf_sub {M : EReal} (hM : M = ⊤ ∨ M = ⊥) : M - 1 = M := by
  rcases hM with rfl | rfl <;> rfl

theorem tau_inf (x : ℕ → EReal) (M : EReal) (hM : ∀ y, M ≤ y ↔ ∀ c < 4096, x c ≤ y) (hi : M = ⊤ ∨ M = ⊥) :
    tau (F := Ideal) x = kst M := by
  refine tau_of x M hM _ fun S C hS hC => ?_
  have hx := (hM M).1 le_rfl
  have hz : ∀ f : EReal → EReal, rowSum f (M - 1) x = 0 := fun f =>
    Finset.sum_eq_zero fun c hc => if_neg (not_lt.2 (by rw [inf_sub hi]; exact hx c (Finset.mem_range.1 hc)))
  have hS : S (kst M) = kst 0 := by
    rw [hS M (by rw [inf_sub hi, inf_sub hi]; unfold reluF; rw [sub_inf hi le_rfl]; exact max_eq_right bot_le), hz]
  have hC : C (kst M) = kst 0 := by
    rw [hC M (by rw [inf_sub hi, inf_sub hi]; unfold aboveF; rw [sub_inf hi le_rfl]; exact if_neg (by simp)), hz]
  have hmid : midOf (kst M) (kst M) = kst M := by
    funext l
    rw [midOf_at]
    show _ * (M + M) = M
    rcases hi with rfl | rfl
    · rw [EReal.top_add_top]; exact EReal.coe_mul_top_of_pos (by norm_num)
    · rw [EReal.bot_add]; exact EReal.coe_mul_bot_of_pos (by norm_num)
  have hstep : bisStep S (kst M, kst M) = (kst M, kst M) := by
    unfold bisStep
    simp only [hmid]
    refine Prod.ext ?_ ?_ <;> funext l <;> simp only [select_at, ite_self]
  have hnew : newton S C (kst M) = kst M := by
    unfold newton
    funext l
    rw [addf_at, divf_at, subf_at, maxf_at, hS, hC, ones_at]
    show M + Ideal.div (0 - 1) (max 0 1) = M
    have : Ideal.div (0 - 1) (max 0 1) = ((-1 : ℝ) : EReal) := by
      rw [max_eq_right (zero_le_one), Ideal.div, if_neg one_ne_zero, inv_one, mul_one]; simp
    rw [this]
    rcases hi with rfl | rfl <;> rfl
  unfold solve
  rw [inf_sub hi]
  have hrun : ∀ n, itr (fun _ => bisStep S) (kst M, kst M) n = (kst M, kst M) := fun n => by
    induction n with
    | zero => rfl
    | succ n ih => exact (congrArg (bisStep S) ih).trans hstep
  rw [hrun, hmid]
  show newton S C (newton S C (kst M)) = _
  rw [hnew, hnew]

/-! ## A real largest element -/

theorem coe_max (a b : ℝ) : ((max a b : ℝ) : EReal) = max (a : EReal) b := EReal.coe_strictMono.monotone.map_max

/-- The positions of the elements less than one below `m`. -/
def cand (x : ℕ → EReal) (m : ℝ) : Finset ℕ := (Finset.range 4096).filter fun c => ((m - 1 : ℝ) : EReal) < x c

theorem coe_cand {x : ℕ → EReal} {m : ℝ} (hx : ∀ c < 4096, x c ≤ m) {c : ℕ} (hc : c ∈ cand x m) : x c = ((x c).toReal : ℝ) := by
  have h := Finset.mem_filter.1 hc
  refine (EReal.coe_toReal (ne_of_lt (lt_of_le_of_lt (hx c (Finset.mem_range.1 h.1)) (EReal.coe_lt_top m))) ?_).symm
  intro hb
  rw [hb] at h
  exact absurd h.2 (by simp)

theorem rowSum_relu {x : ℕ → EReal} {m : ℝ} (hx : ∀ c < 4096, x c ≤ m) (t : ℝ) :
    rowSum (reluF t) ((m - 1 : ℝ) : EReal) x = ((exc (cand x m) (fun c => (x c).toReal) t : ℝ) : EReal) := by
  unfold rowSum exc
  rw [← sum_coe (cand x m) (fun c => reluF t (x c))]
  · unfold cand; rw [Finset.sum_filter]; rfl
  · intro c hc
    rw [coe_cand hx hc]
    unfold reluF
    rw [← EReal.coe_sub, coe_max, EReal.coe_zero]

theorem rowSum_above {x : ℕ → EReal} {m : ℝ} (hx : ∀ c < 4096, x c ≤ m) (t : ℝ) :
    rowSum (aboveF t) ((m - 1 : ℝ) : EReal) x = ((num (cand x m) (fun c => (x c).toReal) t : ℝ) : EReal) := by
  unfold rowSum num
  rw [← sum_coe (cand x m) (fun c => aboveF t (x c))]
  · unfold cand; rw [Finset.sum_filter]; rfl
  · intro c hc
    rw [coe_cand hx hc]
    unfold aboveF
    have e : (0 : EReal) < (((x c).toReal : ℝ) : EReal) - t ↔ t < (x c).toReal := by
      rw [← EReal.coe_sub, ← EReal.coe_zero, EReal.coe_lt_coe_iff, sub_pos]
    by_cases h : t < (x c).toReal
    · rw [if_pos (e.2 h), if_pos h]; rfl
    · rw [if_neg (fun h' => h (e.1 h')), if_neg h]; rfl

theorem tau_real (x : ℕ → EReal) (m : ℝ) (hM : ∀ y, (m : EReal) ≤ y ↔ ∀ c < 4096, x c ≤ y) (hm : ∃ c < 4096, x c = m) {τ : ℝ}
    (hτ : exc (cand x m) (fun c => (x c).toReal) τ = 1) (h1 : m - 1 ≤ τ)
    (hnear : ∀ c ∈ cand x m, ∀ e ∈ cand x m, (0 < |(x c).toReal - τ| ∧ |(x c).toReal - τ| ≤ 1 / 2 ^ 17)
      → (0 < |(x e).toReal - τ| ∧ |(x e).toReal - τ| ≤ 1 / 2 ^ 17) → c = e) :
    tau (F := Ideal) x = kst τ := by
  refine tau_of x m hM _ fun S C hS hC => ?_
  have hx : ∀ c < 4096, x c ≤ m := (hM m).1 le_rfl
  have hT : (m : EReal) - 1 = ((m - 1 : ℝ) : EReal) := by rw [EReal.coe_sub, EReal.coe_one]
  have hp : ((m - 1 : ℝ) : EReal) - 1 = ((m - 2 : ℝ) : EReal) := by
    rw [← EReal.coe_one, ← EReal.coe_sub]; congr 1; ring
  unfold Sums at hS hC
  rw [hT, hp] at hS hC
  rw [hT]
  have hS' : ∀ t : ℝ, m - 2 ≤ t → S (kst t) = kst (exc (cand x m) (fun c => (x c).toReal) t : ℝ) := fun t ht => by
    rw [hS t (by unfold reluF; rw [← EReal.coe_sub]; exact max_eq_right (by exact_mod_cast (by linarith : m - 2 - t ≤ 0))), rowSum_relu hx]
  have hC' : ∀ t : ℝ, m - 2 ≤ t → C (kst t) = kst (num (cand x m) (fun c => (x c).toReal) t : ℝ) := fun t ht => by
    rw [hC t (by unfold aboveF; rw [← EReal.coe_sub]; exact if_neg (by exact_mod_cast (by linarith : ¬ 0 < m - 2 - t))), rowSum_above hx]
  generalize hA : cand x m = A at *
  generalize hxr : (fun c => (x c).toReal) = xr at *
  have hmid : ∀ a b : ℝ, midOf (kst a) (kst b) = kst (2⁻¹ * (a + b) : ℝ) := fun a b => by
    funext l
    rw [midOf_at]
    show _ * ((a : EReal) + b) = _
    rw [← EReal.coe_add, ← EReal.coe_mul]; rfl
  have hstep : ∀ a b : ℝ, m - 1 ≤ a → m - 1 ≤ b → bisStep S (kst a, kst b) = (kst (halve A xr (a, b)).1, kst (halve A xr (a, b)).2) := by
    intro a b ha hb
    unfold bisStep halve
    simp only [hmid]
    rw [hS' _ (by linarith)]
    by_cases h : 1 ≤ exc A xr (2⁻¹ * (a + b))
    · have hc : ∀ l, cmpf .oge (kst (exc A xr (2⁻¹ * (a + b)) : ℝ)) ones l = 1#1 := fun l => (oge_at _ _ _).2 (by
        rw [ones_at]; unfold kst; exact_mod_cast h)
      rw [if_pos h]
      refine Prod.ext ?_ ?_ <;> funext l <;> simp only [select_at, if_pos (hc l)]
    · have hc : ∀ l, ¬ cmpf .oge (kst (exc A xr (2⁻¹ * (a + b)) : ℝ)) ones l = 1#1 := fun l h' => h (by
        have := (oge_at _ _ _).1 h'
        rw [ones_at] at this; unfold kst at this; exact_mod_cast this)
      rw [if_neg h]
      refine Prod.ext ?_ ?_ <;> funext l <;> simp only [select_at, if_neg (hc l)]
  have hnew : ∀ t : ℝ, m - 2 ≤ t → newton S C (kst t) = kst (newt A xr t : ℝ) := by
    intro t ht
    unfold newton newt
    funext l
    rw [addf_at, divf_at, subf_at, maxf_at, hS' t ht, hC' t ht, ones_at]
    show (t : EReal) + Ideal.div (((exc A xr t : ℝ) : EReal) - 1) (max ((num A xr t : ℝ) : EReal) 1) = _
    have hne : max ((num A xr t : ℝ) : EReal) 1 ≠ 0 := ne_of_gt (lt_of_lt_of_le zero_lt_one (le_max_right _ _))
    rw [Ideal.div, if_neg hne, ← EReal.coe_one, ← coe_max, ← EReal.coe_inv, ← EReal.coe_sub, ← EReal.coe_mul, ← EReal.coe_add,
      ← div_eq_mul_inv]
    rfl
  have hτm : τ < m := by
    by_contra hn
    have : exc A xr τ = 0 := Finset.sum_eq_zero fun c hc => by
      refine max_eq_right ?_
      have hc' : c ∈ cand x m := hA ▸ hc
      have h := hx c (Finset.mem_range.1 (Finset.mem_filter.1 hc').1)
      rw [coe_cand hx hc'] at h
      have h : (x c).toReal ≤ m := by exact_mod_cast h
      rw [← hxr]
      simp only
      linarith [not_lt.1 hn]
    rw [this] at hτ
    norm_num at hτ
  have hrun : ∀ n, itr (fun _ => bisStep S) (kst (m - 1 : ℝ), kst m) n
      = (kst ((halve A xr)^[n] (m - 1, m)).1, kst ((halve A xr)^[n] (m - 1, m)).2) := fun n => by
    induction n with
    | zero => rfl
    | succ n ih =>
      rw [Function.iterate_succ_apply']
      refine (congrArg (bisStep S) ih).trans ?_
      obtain ⟨a1, a2, -, a4, -⟩ := halve_run hτ h1 hτm n
      exact hstep _ _ a4 (by linarith)
  obtain ⟨a1, a2, a3, a4, a5⟩ := halve_run hτ h1 hτm 16
  unfold solve
  rw [hrun, hmid]
  show newton S C (newton S C (kst (_ : ℝ))) = _
  generalize ((halve A xr)^[16] (m - 1, m)).1 = lo at *
  generalize ((halve A xr)^[16] (m - 1, m)).2 = hi at *
  have ht : |2⁻¹ * (lo + hi) - τ| ≤ 1 / 2 ^ 17 := by
    rw [abs_le]
    norm_num at a3 ⊢
    constructor <;> linarith
  obtain ⟨c0, hc0, hc0m⟩ := hm
  have hmA : ∃ c ∈ A, xr c = m := by
    refine ⟨c0, hA ▸ Finset.mem_filter.2 ⟨Finset.mem_range.2 hc0, ?_⟩, ?_⟩
    · rw [hc0m]; exact_mod_cast (by linarith : m - 1 < m)
    · rw [← hxr]; simp only [hc0m, EReal.toReal_coe]
  obtain ⟨b1, b2, -⟩ := newt_twice hτ hmA hτm (by
    intro c hc e he hc1 he1
    rw [← hxr] at hc1 he1
    exact hnear c hc e he hc1 he1) ht (by linarith)
  rw [hnew _ (by linarith), hnew _ (by norm_num at b2; linarith), b1]

end Cert.Proof

end
-- ==== Proof.RefRow.lean ====
/- The reference's arrays over the extended reals, read at an index: the row less its largest element, that row sorted
   downwards, the running sums, the indicator and the threshold. -/
module

public import proofs.«01_k».proof.Pre_separated
public import proofs.«01_k».proof.Proof.Gen.Pre_separated
public import proofs.«01_k».proof.Proof.Threshold
public import Idealize.ShloMosaic.PureOps.Ideal.Laws
public import Idealize.ShloMosaic.Lib.IdealHost
public import Idealize.ShloMosaic.Lib.SortFacts
public import Idealize.ShloMosaic.Lib.ValueLayout
public import Idealize.ShloMosaic.Lib.Pointwise.Reduce
public import Idealize.ShloMosaic.Lib.StableHlo.Predicate

@[expose] public section

noncomputable section

namespace Cert.Proof.Ref

open Cert.Pre_separated Cert.Pre_separated.Facts
open Idealize.ShloMosaic

abbrev Mat : Type := FVec Ideal S8192x4096 .f32

variable [Facts]

/-! ## The arrays -/

/-- A number everywhere. -/
def all (b : BitVec 32) : Mat := broadcastInDim S8192x4096 ![] bcast_S_S8192x4096 (constant S_ .f32 b)

/-- A column in every column. -/
def wide (v : FVec Ideal S8192x1 .f32) : Mat := broadcastInDim S8192x4096 ![0, 1] bcast_S8192x1_S8192x4096_0_1 v

def col (v : FVec Ideal S8192 .f32) : FVec Ideal S8192x1 .f32 := broadcastInDim S8192x1 ![0] bcast_S8192_S8192x1_0 v

/-- The largest element of each row. -/
def maxOf (X : Mat) : FVec Ideal S8192 .f32 :=
  Host.reduce FloatOps.maximumf X (constant S_ .f32 0xFF800000#32) reducesTo_S8192x4096_S8192_d1 h_S_

/-- The rows less their largest elements. -/
def zOf (X : Mat) : Mat := subf X (wide (col (maxOf X)))

/-- The rows sorted downwards. -/
def sOf (Z : Mat) : Mat := Host.negf (Host.sort S8192x4096 1 (comparator_f32_d1 (F := Ideal)) (Host.negf Z))

/-- The positions counted from one. -/
def posn : FVec Ideal S4096 .f32 :=
  addf (broadcastInDim S4096 ![] bcast_S_S4096 (constant S_ .f32 0x3F800000#32)) (sitofp .f32 (iotaInDim S4096 32 0))

/-- A row in every row. -/
def tall (v : FVec Ideal S1x4096 .f32) : Mat := broadcastInDim S8192x4096 ![0, 1] bcast_S1x4096_S8192x4096_0_1 v

def rank : Mat := tall (shapeCast S1x4096 posn shapeCasts_S4096_S1x4096)

/-- The running sums along the rows. -/
def runOf (s : Mat) : Mat :=
  Host.reduceWindowAdd ![1, 4096] ![1, 1] ![0, 4095] ![0, 0] s (broadcastInDim S_ ![] bcast_S_S_ (constant S_ .f32 0x00000000#32))
    reduceWindows_S8192x4096_S8192x4096_w1s1p0_0_w4096s1p4095_0 h_S_

/-- The indicator of the elements above the threshold. -/
def gOf (s : Mat) : Mat := uitofp .f32 (cmpf .ogt (addf (all 0x3F800000#32) (mulf rank s)) (runOf s))

/-- The sum of each row. -/
def sumOf (v : Mat) : FVec Ideal S8192 .f32 := Host.reduceAdd v (constant S_ .f32 0x00000000#32) reducesTo_S8192x4096_S8192_d1 h_S_

def oneCol : FVec Ideal S8192x1 .f32 := broadcastInDim S8192x1 ![] bcast_S_S8192x1 (constant S_ .f32 0x3F800000#32)

/-- The threshold of each row. -/
def tOf (s : Mat) : FVec Ideal S8192x1 .f32 :=
  Host.divf (subf (col (sumOf (mulf (gOf s) s))) oneCol)
    (col (maxOf (mulf (gOf s) rank)))

/-- The reference's result. -/
def outOf (X : Mat) : Mat := maximumf (all 0x00000000#32) (subf (zOf X) (wide (tOf (sOf (zOf X)))))

/-- Which elements lie near the threshold and apart from it. -/
def nearOf (X : Mat) : IVec S8192x4096 1 :=
  andi (cmpf .ogt (Host.absf (subf (zOf X) (wide (tOf (sOf (zOf X)))))) (all 0x00000000#32))
    (cmpf .ole (Host.absf (subf (zOf X) (wide (tOf (sOf (zOf X)))))) (all 0x37000000#32))

/-- The precondition is that no row has more than one of them. -/
theorem fn_eq (X : Mat) : fn (F := Ideal) X
    = Host.reduce IntOp.andi (cmpi .sle
        (Host.reduce IntOp.addi (extui 32 (nearOf X) natLt_1_32) (constantI S_ 32 0#32) reducesTo_S8192x4096_S8192_d1 h_S_)
        (broadcastInDim S8192 ![] bcast_S_S8192 (constantI S_ 32 1#32))) (constantI S_ 1 1#1) reducesTo_S8192_S_d0 h_S_ := rfl

/-! ## Read at an index -/

theorem all_at (b : BitVec 32) (i : S8192x4096.Idx) : all b i = Ideal.ofBits .f32 b := rfl

theorem wide_col_at (v : FVec Ideal S8192 .f32) (p : Fin 8192) (c : Fin 4096) : wide (col v) (ix2 p c) = v (ix1 p) := by
  refine congrArg v (funext fun a => ?_)
  obtain rfl : a = 0 := Subsingleton.elim _ _
  rfl

theorem wide_at (v : FVec Ideal S8192x1 .f32) (p : Fin 8192) (c : Fin 4096) : wide v (ix2 p c) = v (ix2 p 0) := by
  refine congrArg v (funext fun a => ?_)
  match a with
  | ⟨0, _⟩ => rfl
  | ⟨1, _⟩ => rfl

theorem col_at (v : FVec Ideal S8192 .f32) (p : Fin 8192) : col v (ix2 p 0) = v (ix1 p) := by
  refine congrArg v (funext fun a => ?_)
  obtain rfl : a = 0 := Subsingleton.elim _ _
  rfl

theorem maxOf_at (X : Mat) (p : Fin 8192) : maxOf X (ix1 p) = (Finset.univ : Finset (Fin 4096)).fold max ⊥ (fun c => X (ix2 p c)) := by
  unfold maxOf
  rw [Host.reduce_eq_fold, Shape.ReducesTo.fold_fiber_r2_a1]
  have hb : constant (F := Ideal) S_ .f32 0xFF800000#32 (Shape.Idx.first h_S_) = (⊥ : EReal) := by
    show Ideal.ofBits .f32 0xFF800000#32 = ⊥
    simp [Ideal.ofBits, Ideal.ieee]
  rw [hb]
  rfl

theorem sumOf_at (v : Mat) (p : Fin 8192) : sumOf v (ix1 p) = (∑ c : Fin 4096, v (ix2 p c) : EReal) := by
  unfold sumOf
  rw [ValueIdx.hostReduceAdd_apply, Ideal.hostReduceAdd_r2_a1]
  have hb : constant (F := Ideal) S_ .f32 0x00000000#32 (Shape.Idx.first h_S_) = (0 : EReal) := Ideal.ofBits_zero_f32
  rw [hb]
  exact zero_add _

theorem zOf_at (X : Mat) (p : Fin 8192) (c : Fin 4096) : zOf X (ix2 p c) = (X (ix2 p c) - maxOf X (ix1 p) : EReal) := by
  show (X (ix2 p c) - wide (col (maxOf X)) (ix2 p c) : EReal) = _
  rw [wide_col_at]

theorem tall_at (v : FVec Ideal S1x4096 .f32) (p : Fin 8192) (c : Fin 4096) : tall v (ix2 p c) = v (ix2 0 c) := by
  refine congrArg v (funext fun a => ?_)
  match a with
  | ⟨0, _⟩ => rfl
  | ⟨1, _⟩ => rfl

theorem posn_at (c : Fin 4096) : posn (ix1 c) = ((c.val : EReal) + 1) := by
  show (Ideal.ofBits .f32 0x3F800000#32 + (((BitVec.ofNat 32 c.val).toInt : ℝ) : EReal) : EReal) = _
  have hc := c.isLt
  have e : (BitVec.ofNat 32 c.val).toInt = (c.val : ℤ) := by
    rw [BitVec.toInt_eq_toNat_of_lt (by rw [BitVec.toNat_ofNat]; omega), BitVec.toNat_ofNat, Nat.mod_eq_of_lt (by omega)]
  rw [e, Ideal.ofBits_one_f32, add_comm]
  norm_cast

theorem rank_at (p : Fin 8192) (c : Fin 4096) : rank (ix2 p c) = ((c.val : EReal) + 1) := by
  unfold rank
  rw [tall_at]
  exact (ValueIdx.shapeCast_a_1a_apply posn _ 0 c).trans (posn_at c)

/-- The comparator says the first is the smaller. -/
theorem comparator_eq (l r : EReal) : comparator_f32_d1 (F := Ideal) l r = 1#1 ↔ l < r := by
  have sel : ∀ l : EReal, Scalar.select (FloatOps.cmpf (F := Ideal) (φ := .f32) .une l l) (FloatOps.ofBits (F := Ideal) .f32 0x7FC00000#32)
      (Scalar.select (FloatOps.cmpf (F := Ideal) (φ := .f32) .oeq l (FloatOps.ofBits (F := Ideal) .f32 0x00000000#32))
        (FloatOps.ofBits (F := Ideal) .f32 0x00000000#32) l) = l := by
    intro l
    have h1 : FloatOps.cmpf (F := Ideal) (φ := .f32) .une l l = 0#1 := by
      show BitVec.ofBool (decide (l ≠ l)) = 0#1
      simp
    rw [h1]
    show Scalar.select (BitVec.ofBool (decide (l = Ideal.ofBits .f32 0x00000000#32))) (Ideal.ofBits .f32 0x00000000#32) l = l
    rw [Ideal.ofBits_zero_f32]
    by_cases h : l = 0
    · simp [h, Scalar.select]
    · simp [h, Scalar.select]
  show FloatOps.cmpfTotal (F := Ideal) (φ := .f32) .lt (Scalar.select _ _ _) (Scalar.select _ _ _) = 1#1 ↔ _
  rw [sel, sel]
  show BitVec.ofBool (decide (l < r)) = 1#1 ↔ l < r
  by_cases h : l < r <;> simp [h]

/-- Each sorted row is the row re-ordered, downwards. -/
theorem sOf_at (Z : Mat) (p : Fin 8192) : ∃ σ : Fin 4096 → Fin 4096, Function.Bijective σ
    ∧ (∀ c, sOf Z (ix2 p c) = Z (ix2 p (σ c))) ∧ Antitone fun c => (Z (ix2 p (σ c)) : EReal) := by
  let B : Fin 4096 → Fin 4096 → Bool := fun k k' =>
    comparator_f32_d1 (F := Ideal) (-Z (ix2 p k) : EReal) (-Z (ix2 p k') : EReal) == 1#1
  have hB : ∀ k k', B k k' = true ↔ (Z (ix2 p k') : EReal) < Z (ix2 p k) := fun k k' => by
    show (_ == 1#1) = true ↔ _
    rw [beq_iff_eq, comparator_eq, EReal.neg_lt_neg_iff]
  have hB' : ∀ k k', B k k' = false ↔ (Z (ix2 p k) : EReal) ≤ Z (ix2 p k') := fun k k' => by
    rw [← Bool.not_eq_true, hB, not_lt]
  refine ⟨sortedFrom B, ⟨sortedFrom_injective B, sortedFrom_surjective B⟩, fun c => ?_, fun i j hij => ?_⟩
  · have hal : ∀ k : Fin 4096, Shape.Idx.along (s := S8192x4096) (ix2 p c) 1 k = ix2 p k := fun k => by
      funext a
      match a with
      | ⟨0, _⟩ => rfl
      | ⟨1, _⟩ => rfl
    have e : Host.sort S8192x4096 1 (comparator_f32_d1 (F := Ideal)) (Host.negf Z) (ix2 p c) = Host.negf Z (ix2 p (sortedFrom B c)) := by
      unfold Host.sort
      rw [dif_pos (by decide : 1 < S8192x4096.rank)]
      show Host.negf Z (Shape.Idx.along (s := S8192x4096) (ix2 p c) 1 (sortedFrom (fun k k' : Fin 4096 =>
        comparator_f32_d1 (F := Ideal) (Host.negf Z (Shape.Idx.along (s := S8192x4096) (ix2 p c) 1 k))
          (Host.negf Z (Shape.Idx.along (s := S8192x4096) (ix2 p c) 1 k')) == 1#1) c)) = _
      simp only [hal]
      exact congrArg (Host.negf Z) (hal (sortedFrom B c))
    show (-(Host.sort S8192x4096 1 (comparator_f32_d1 (F := Ideal)) (Host.negf Z) (ix2 p c)) : EReal) = _
    rw [e]
    show (-(-(Z (ix2 p (sortedFrom B c)))) : EReal) = _
    exact neg_neg _
  · rcases hij.lt_or_eq with h | rfl
    · exact (hB' _ _).1 (sortedFrom_noInversion B B (fun a b h => (hB' b a).2 ((hB a b).1 h).le) (fun _ _ h => h)
        (fun a b c h1 h2 => (hB' a c).2 (((hB' a b).1 h1).trans ((hB' b c).1 h2))) i j h)
    · exact le_rfl

theorem foldl_add {ι : Type} (f : ι → EReal) (L : List ι) (b : EReal) : L.foldl (fun r n => r + f n) b = b + (L.map f).sum := by
  induction L generalizing b with
  | nil => simp
  | cons a L ih => rw [List.foldl_cons, ih, List.map_cons, List.sum_cons, add_assoc]

/-- A running sum is the sum of the elements up to the position. -/
theorem runOf_at (s : Mat) (p : Fin 8192) (c : Fin 4096) : runOf s (ix2 p c) = (∑ j ∈ Finset.Iic c, s (ix2 p j) : EReal) := by
  have hb : broadcastInDim S_ ![] bcast_S_S_ (constant (F := Ideal) S_ .f32 0x00000000#32) (Shape.Idx.first h_S_) = (0 : EReal) :=
    Ideal.ofBits_zero_f32
  unfold runOf Host.reduceWindowAdd
  rw [hb, Ideal.hostReduceWindowAdd_def]
  unfold Ideal.hostReduceWindowAdd Host.reduceWindow
  dsimp only
  rw [foldl_add, zero_add, ← Fin.sum_univ_def]
  let G : (⟨2, ![1, 4096]⟩ : Shape).Idx → EReal := fun w =>
    if hin : ∀ a : Fin 2, (![0, 4095] : Fin 2 → ℕ) a ≤ (ix2 p c (Fin.cast rfl a)).val * (![1, 1] : Fin 2 → ℕ) a + (w a).val
        ∧ (ix2 p c (Fin.cast rfl a)).val * (![1, 1] : Fin 2 → ℕ) a + (w a).val - (![0, 4095] : Fin 2 → ℕ) a < S8192x4096.size a then
      s (fun a => ⟨_, (hin a).2⟩) else 0
  have hG : ∀ k : Fin 4096, G (ix2 0 k) = if h : 4095 ≤ c.val + k.val then s (ix2 p ⟨c.val + k.val - 4095, by omega⟩) else 0 := by
    intro k
    by_cases h : 4095 ≤ c.val + k.val
    · rw [dif_pos h]
      have hin : ∀ a : Fin 2, (![0, 4095] : Fin 2 → ℕ) a ≤ (ix2 p c (Fin.cast rfl a)).val * (![1, 1] : Fin 2 → ℕ) a + ((ix2 (0 : Fin 1) k) a).val
          ∧ (ix2 p c (Fin.cast rfl a)).val * (![1, 1] : Fin 2 → ℕ) a + ((ix2 (0 : Fin 1) k) a).val - (![0, 4095] : Fin 2 → ℕ) a < S8192x4096.size a := by
        intro a
        match a with
        | ⟨0, _⟩ =>
          show 0 ≤ p.val * 1 + 0 ∧ p.val * 1 + 0 - 0 < 8192
          omega
        | ⟨1, _⟩ =>
          show 4095 ≤ c.val * 1 + k.val ∧ c.val * 1 + k.val - 4095 < 4096
          omega
      refine (dif_pos hin).trans (congrArg s (funext fun a => ?_))
      match a with
      | ⟨0, _⟩ => exact Fin.ext (show p.val * 1 + 0 - 0 = p.val by omega)
      | ⟨1, _⟩ => exact Fin.ext (show c.val * 1 + k.val - 4095 = c.val + k.val - 4095 by omega)
    · rw [dif_neg h]
      refine dif_neg fun hin => h ?_
      have := (hin 1).1
      have : 4095 ≤ c.val * 1 + k.val := this
      omega
  refine (Finset.sum_congr rfl fun n _ => ?_).trans ((Equiv.sum_comp (Shape.rowMajor ⟨2, ![1, 4096]⟩).symm G).trans ?_)
  · exact dite_congr rfl (fun _ => rfl) (fun _ => rfl)
  have hsum : ∑ w, G w = ∑ k : Fin 4096, G (ix2 0 k) := by
    refine (Fintype.sum_equiv ⟨fun k : Fin 4096 => (ix2 (0 : Fin 1) k : (⟨2, ![1, 4096]⟩ : Shape).Idx), fun w => w 1, fun _ => rfl, fun w => ?_⟩ _ _ fun _ => rfl).symm
    funext a
    match a with
    | ⟨0, _⟩ => exact Subsingleton.elim (α := Fin 1) _ _
    | ⟨1, _⟩ => rfl
  rw [hsum, Finset.sum_congr rfl fun k _ => hG k]
  have hle : ∀ j ∈ Finset.Iic c, j.val ≤ c.val := fun j hj => Fin.le_def.1 (Finset.mem_Iic.1 hj)
  symm
  rw [← Finset.sum_subset (Finset.subset_univ (Finset.univ.filter fun k : Fin 4096 => 4095 ≤ c.val + k.val))]
  · refine Finset.sum_bij' (fun j hj => (⟨j.val + 4095 - c.val, by have := hle j hj; omega⟩ : Fin 4096))
      (fun k hk => (⟨c.val + k.val - 4095, by omega⟩ : Fin 4096)) ?_ ?_ ?_ ?_ ?_
    · intro j hj
      exact Finset.mem_filter.2 ⟨Finset.mem_univ _, by show 4095 ≤ c.val + (j.val + 4095 - c.val); omega⟩
    · intro k hk
      exact Finset.mem_Iic.2 (show c.val + k.val - 4095 ≤ c.val by omega)
    · intro j hj
      have := hle j hj
      exact Fin.ext (show c.val + (j.val + 4095 - c.val) - 4095 = j.val by omega)
    · intro k hk
      have := (Finset.mem_filter.1 hk).2
      exact Fin.ext (show c.val + k.val - 4095 + 4095 - c.val = k.val by omega)
    · intro j hj
      have := hle j hj
      rw [dif_pos (show 4095 ≤ c.val + (j.val + 4095 - c.val) by omega)]
      exact congrArg (fun q => s (ix2 p q)) (Fin.ext (show j.val = c.val + (j.val + 4095 - c.val) - 4095 by omega))
  · intro k _ hk
    exact dif_neg fun h => hk (Finset.mem_filter.2 ⟨Finset.mem_univ _, h⟩)

/-- The indicator, read at a place. -/
theorem gOf_at (s : Mat) (p : Fin 8192) (c : Fin 4096) :
    gOf s (ix2 p c) = (if (∑ j ∈ Finset.Iic c, s (ix2 p j) : EReal) < 1 + ((c.val : EReal) + 1) * s (ix2 p c) then 1 else 0 : EReal) := by
  show (((BitVec.ofBool (decide ((runOf s (ix2 p c) : EReal) < all 0x3F800000#32 (ix2 p c) + rank (ix2 p c) * s (ix2 p c)))).toNat : ℝ) : EReal) = _
  rw [runOf_at, rank_at, all_at, Ideal.ofBits_one_f32]
  split <;> simp [*]

theorem quot_at (a b : FVec Ideal S8192x1 .f32) (i : S8192x1.Idx) : Host.divf (subf a oneCol) b i = Ideal.div (a i - 1) (b i) := by
  show Ideal.div (a i - oneCol i) (b i) = _
  rw [show oneCol i = (1 : EReal) from Ideal.ofBits_one_f32]

/-- The threshold, read at a row: the sum of the elements the indicator picks, less one, over the last position picked. -/
theorem tOf_at (s : Mat) (p : Fin 8192) (g : Fin 4096 → EReal) (hg : ∀ c, gOf s (ix2 p c) = g c) :
    tOf s (ix2 p 0) = Ideal.div ((∑ c : Fin 4096, g c * s (ix2 p c)) - 1)
      ((Finset.univ : Finset (Fin 4096)).fold max ⊥ fun c => g c * ((c.val : EReal) + 1)) := by
  unfold tOf
  rw [quot_at, col_at, col_at, sumOf_at, maxOf_at]
  have e1 : ∀ c, mulf (gOf s) s (ix2 p c) = (g c * s (ix2 p c) : EReal) := fun c => by
    show (gOf s (ix2 p c) * s (ix2 p c) : EReal) = _
    rw [hg]
  have e2 : ∀ c, mulf (gOf s) rank (ix2 p c) = (g c * ((c.val : EReal) + 1) : EReal) := fun c => by
    show (gOf s (ix2 p c) * rank (ix2 p c) : EReal) = _
    rw [hg, rank_at]
  simp only [e1, e2]

end Cert.Proof.Ref

end
-- ==== Proof.RefTau.lean ====
/- The reference's threshold of a row over the extended reals, and what the precondition says of the row. -/
module

public import proofs.«01_k».proof.Proof.RefRow
public import Idealize.ShloMosaic.Lib.ReduceAll

@[expose] public section

noncomputable section

namespace Cert.Proof.Ref

open Cert.Pre_separated Cert.Pre_separated.Facts
open Idealize.ShloMosaic

variable [Facts]

/-- The largest element is bounded exactly where every element of the row is. -/
theorem maxOf_le (X : Mat) (p : Fin 8192) (y : EReal) : (maxOf X (ix1 p) : EReal) ≤ y ↔ ∀ c, (X (ix2 p c) : EReal) ≤ y := by
  rw [maxOf_at, Finset.fold_max_le]
  exact ⟨fun h c => h.2 c (Finset.mem_univ _), fun h => ⟨bot_le, fun c _ => h c⟩⟩

/-- It is one of the row's elements. -/
theorem maxOf_mem (X : Mat) (p : Fin 8192) : ∃ c, (X (ix2 p c) : EReal) = maxOf X (ix1 p) := by
  obtain ⟨c, -, hc⟩ := Finset.exists_max_image (Finset.univ : Finset (Fin 4096)) (fun c => (X (ix2 p c) : EReal)) ⟨0, Finset.mem_univ _⟩
  exact ⟨c, le_antisymm ((maxOf_le X p _).1 le_rfl c) ((maxOf_le X p _).2 fun e => hc e (Finset.mem_univ _))⟩

/-- A row whose largest element is zero has a threshold where its excess is one. -/
theorem tOf_root (Z : Mat) (p : Fin 8192) (h1 : ∀ c, (Z (ix2 p c) : EReal) ≤ 0) (h0 : ∃ c, (Z (ix2 p c) : EReal) = 0) :
    ∃ τ : ℝ, -1 ≤ τ ∧ exc (near fun c => (Z (ix2 p c) : EReal)) (fun c => EReal.toReal (Z (ix2 p c))) τ = 1
      ∧ tOf (sOf Z) (ix2 p 0) = (τ : EReal) := by
  obtain ⟨σ, hσ, hs, hanti⟩ := sOf_at Z p
  obtain ⟨c0, hc0⟩ := h0
  obtain ⟨i0, hi0⟩ := hσ.2 c0
  have h0' : ∃ i, (Z (ix2 p (σ i)) : EReal) = 0 := ⟨i0, by rw [hi0]; exact hc0⟩
  have h1' : ∀ i, (Z (ix2 p (σ i)) : EReal) ≤ 0 := fun i => h1 (σ i)
  obtain ⟨τ, ha, hb, hτ⟩ := exc_root (near fun i => (Z (ix2 p (σ i)) : EReal)) (fun i => EReal.toReal (Z (ix2 p (σ i))))
    (by
      obtain ⟨i, hi⟩ := h0'
      exact ⟨i, Finset.mem_filter.2 ⟨Finset.mem_univ _, by
        show ((-1 : ℝ) : EReal) < Z (ix2 p (σ i))
        rw [hi]; exact_mod_cast (by norm_num : (-1 : ℝ) < 0)⟩, by rw [hi]; rfl⟩)
    (fun i _ => by
      have := EReal.toReal_nonpos (h1' i)
      exact this)
  refine ⟨τ, ha, ?_, ?_⟩
  · rw [← hτ]
    unfold exc
    refine (Finset.sum_bij (fun i _ => σ i) ?_ (fun i _ j _ h => hσ.1 h) ?_ fun i _ => rfl).symm
    · intro i hi
      exact Finset.mem_filter.2 ⟨Finset.mem_univ _, (Finset.mem_filter.1 hi).2⟩
    · intro c hc
      obtain ⟨i, rfl⟩ := hσ.2 c
      exact ⟨i, Finset.mem_filter.2 ⟨Finset.mem_univ _, (Finset.mem_filter.1 hc).2⟩, rfl⟩
  · have hg : ∀ c, gOf (sOf Z) (ix2 p c) = (if (τ : EReal) < Z (ix2 p (σ c)) then 1 else 0 : EReal) := fun c => by
      rw [gOf_at, hs]
      simp only [hs]
      exact if_congr (supp_iff hanti h1' h0' ha hτ c) rfl rfl
    rw [tOf_at _ p _ hg]
    simp only [hs]
    rw [sup_over hanti h0' hb _ fun _ => rfl]
    obtain ⟨e, hne⟩ := root_eq h1' h0' ha hb hτ _ fun _ => rfl
    rw [Ideal.div, if_neg hne]
    exact e

/-- A row of lower infinities has that infinity for its threshold. -/
theorem tOf_bot (Z : Mat) (p : Fin 8192) (h : ∀ c, (Z (ix2 p c) : EReal) = ⊥) : tOf (sOf Z) (ix2 p 0) = (⊥ : EReal) := by
  obtain ⟨σ, -, hs, -⟩ := sOf_at Z p
  have hs' : ∀ c, sOf Z (ix2 p c) = (⊥ : EReal) := fun c => (hs c).trans (h _)
  have hg : ∀ c, gOf (sOf Z) (ix2 p c) = (0 : EReal) := fun c => by
    rw [gOf_at, hs']
    refine if_neg ?_
    rw [EReal.mul_bot_of_pos (by positivity), EReal.add_bot]
    exact not_lt_bot
  rw [tOf_at _ p _ hg]
  simp only [zero_mul, Finset.sum_const_zero]
  have : (Finset.univ : Finset (Fin 4096)).fold max (⊥ : EReal) (fun _ => 0) = 0 :=
    le_antisymm ((Finset.fold_max_le _).2 ⟨bot_le, fun _ _ => le_rfl⟩)
      ((Finset.le_fold_max _).2 (.inr ⟨0, Finset.mem_univ _, le_rfl⟩))
  rw [this, Ideal.div, if_pos rfl]
  refine if_neg ?_
  rw [zero_sub]
  exact not_lt.2 (by simp)

/-! ## The precondition -/

theorem ofBits_tiny : Ideal.ofBits .f32 0x37000000#32 = ((1 / 2 ^ 17 : ℝ) : EReal) := by
  simp [Ideal.ofBits, Ideal.ieee, -EReal.coe_mul]; norm_num

theorem nearOf_at (X : Mat) (p : Fin 8192) (c : Fin 4096) {d : ℝ}
    (hd : (zOf X (ix2 p c) : EReal) - tOf (sOf (zOf X)) (ix2 p 0) = d) (h : 0 < |d| ∧ |d| ≤ 1 / 2 ^ 17) : nearOf X (ix2 p c) = 1#1 := by
  have e : Host.absf (subf (zOf X) (wide (tOf (sOf (zOf X))))) (ix2 p c) = ((|d| : ℝ) : EReal) := by
    show (max ((zOf X (ix2 p c) : EReal) - wide (tOf (sOf (zOf X))) (ix2 p c))
      (-((zOf X (ix2 p c) : EReal) - wide (tOf (sOf (zOf X))) (ix2 p c))) : EReal) = _
    rw [wide_at, hd, abs_eq_max_neg, EReal.coe_strictMono.monotone.map_max, EReal.coe_neg]
  show IntOp.andi (BitVec.ofBool (decide ((all 0x00000000#32 (ix2 p c) : EReal) < Host.absf (subf (zOf X) (wide (tOf (sOf (zOf X))))) (ix2 p c))))
    (BitVec.ofBool (decide ((Host.absf (subf (zOf X) (wide (tOf (sOf (zOf X))))) (ix2 p c) : EReal) ≤ all 0x37000000#32 (ix2 p c)))) = 1#1
  rw [e, all_at, all_at, Ideal.ofBits_zero_f32, ofBits_tiny]
  have h1 : (0 : EReal) < ((|d| : ℝ) : EReal) := by exact_mod_cast h.1
  have h2 : ((|d| : ℝ) : EReal) ≤ ((1 / 2 ^ 17 : ℝ) : EReal) := EReal.coe_le_coe_iff.2 h.2
  rw [decide_eq_true h1, decide_eq_true h2]
  rfl

/-- Under the precondition at most one element of a row lies near its threshold and apart from it. -/
theorem near_unique (X : Mat) (hX : fn (F := Ideal) X = fun _ => 1#1) (p : Fin 8192) (c e : Fin 4096)
    (hc : nearOf X (ix2 p c) = 1#1) (he : nearOf X (ix2 p e) = 1#1) : c = e := by
  have h := congrFun hX ix0
  rw [fn_eq] at h
  have h := Host.reduce_andi_eq_one _ _ _ _ _ h (ix1 p) (Subsingleton.elim _ _)
  have hn := StableHlo.Predicate.toNat_reduce_count_cols (by norm_num) (nearOf X) natLt_1_32 reducesTo_S8192x4096_S8192_d1 h_S_ (ix1 p)
  have hle : (Finset.univ.filter (fun q : Fin 4096 => nearOf X (StableHlo.Predicate.ij p q) = 1#1)).card ≤ 1 := by
    generalize Host.reduce IntOp.addi (extui 32 (nearOf X) natLt_1_32) (constantI S_ 32 0#32) reducesTo_S8192x4096_S8192_d1 h_S_ = v at h hn
    have hs : (v (ix1 p)).toInt ≤ 1 := by
      have h : BitVec.ofBool ((v (ix1 p)).sle 1#32) = 1#1 := h
      rcases hb : (v (ix1 p)).sle 1#32 with _ | _
      · rw [hb] at h; exact absurd h (by decide)
      · have := BitVec.sle_iff_toInt_le.1 hb
        simpa using this
    have hlt : (v (ix1 p)).toNat ≤ 4096 := by
      rw [hn]
      exact (Finset.card_le_univ _).trans (by simp)
    rw [BitVec.toInt_eq_toNat_of_lt (by omega)] at hs
    have hn : (v (ix1 p)).toNat = (Finset.univ.filter (fun q : Fin 4096 => nearOf X (StableHlo.Predicate.ij p q) = 1#1)).card := hn
    omega
  have hij : ∀ q : Fin 4096, (StableHlo.Predicate.ij p q : S8192x4096.Idx) = ix2 p q := fun q => by
    funext a
    match a with
    | ⟨0, _⟩ => rfl
    | ⟨1, _⟩ => rfl
  exact Finset.card_le_one.1 hle c (Finset.mem_filter.2 ⟨Finset.mem_univ _, by rw [hij]; exact hc⟩) e
    (Finset.mem_filter.2 ⟨Finset.mem_univ _, by rw [hij]; exact he⟩)

end Cert.Proof.Ref

end
-- ==== Proof.Value.lean ====
/- The value: under the precondition the kernel's row and the reference's row are the same over the extended reals. -/
module

public import proofs.«01_k».proof.Proof.Frames
public import proofs.«01_k».proof.Proof.KerTau
public import proofs.«01_k».proof.Proof.RefTau

@[expose] public section

noncomputable section

namespace Cert.Proof

open Idealize.ShloMosaic Idealize.SL.Sem

/-- The kernel's element: the row's element less the shift, or zero. -/
theorem rowOut_at (x : ℕ → EReal) (t : EReal) (ht : tau (F := Ideal) x = kst t) (c : ℕ) :
    (rowOut (F := Ideal) x c : EReal) = max (x c - t) 0 := by
  unfold rowOut
  rw [relu_at, ht]
  have e : (vec x (c / 16) : V16 Ideal) (lane c) = x c := by
    show x (16 * (c / 16) + c % 16) = x c
    rw [Nat.div_add_mod]
  rw [e]
  rfl

open Cert.Proof.Ref in
/-- A row whose largest element is real: the kernel's shift is that element plus the reference's threshold, and the two
results agree. -/
theorem row_real (X : Mat) (hX : Cert.Pre_separated.fn (F := Ideal) X = fun _ => 1#1) (p : Fin 8192) (x : ℕ → EReal)
    (hx : ∀ c : Fin 4096, x c.val = X (Idealize.ShloMosaic.ix2 p c)) (m : ℝ) (hm : maxOf X (Idealize.ShloMosaic.ix1 p) = (m : EReal))
    (c : Fin 4096) : (rowOut (F := Ideal) x c.val : EReal)
      = max 0 ((zOf X (Idealize.ShloMosaic.ix2 p c) : EReal) - tOf (sOf (zOf X)) (Idealize.ShloMosaic.ix2 p 0)) := by
  have hle : ∀ c : Fin 4096, x c.val ≤ m := fun c => by rw [hx, ← hm]; exact (maxOf_le X p _).1 le_rfl c
  have hz : ∀ c : Fin 4096, (zOf X (Idealize.ShloMosaic.ix2 p c) : EReal) = x c.val - m := fun c => by rw [zOf_at, hx, hm]
  have hcase : ∀ c : Fin 4096, x c.val = ⊥ ∨ ∃ r : ℝ, x c.val = r := fun c => by
    have := hle c
    revert this
    induction x c.val with
    | bot => exact fun _ => .inl rfl
    | coe r => exact fun _ => .inr ⟨r, rfl⟩
    | top => intro h; exact absurd h (not_le.2 (EReal.coe_lt_top m))
  obtain ⟨c0, hc0⟩ := maxOf_mem X p
  rw [hm, ← hx] at hc0
  obtain ⟨τ, h1, hτ, hT⟩ := tOf_root (zOf X) p
    (fun c => by
      rw [hz]
      rcases hcase c with h | ⟨r, h⟩
      · rw [h]; simp
      · have := hle c
        rw [h] at this ⊢
        rw [← EReal.coe_sub]
        exact_mod_cast sub_nonpos.2 (EReal.coe_le_coe_iff.1 this))
    ⟨c0, by rw [hz, hc0, ← EReal.coe_sub, sub_self]; rfl⟩
  have hmem : ∀ c : Fin 4096, ∀ r : ℝ, x c.val = r →
      (zOf X (Idealize.ShloMosaic.ix2 p c) : EReal) = ((r - m : ℝ) : EReal) := fun c r h => by rw [hz, h, ← EReal.coe_sub]
  have hexc : exc (cand x m) (fun c => (x c).toReal) (m + τ) = 1 := by
    rw [← hτ]
    unfold exc
    refine Finset.sum_bij' (fun c hc => (⟨c, Finset.mem_range.1 (Finset.mem_filter.1 hc).1⟩ : Fin 4096)) (fun c _ => c.val) ?_ ?_
      (fun _ _ => rfl) (fun _ _ => rfl) ?_
    · intro c hc
      have h := (Finset.mem_filter.1 hc)
      refine Finset.mem_filter.2 ⟨Finset.mem_univ _, ?_⟩
      rcases hcase ⟨c, Finset.mem_range.1 h.1⟩ with hb | ⟨r, hr⟩
      · rw [show x c = ⊥ from hb] at h
        exact absurd h.2 (by simp)
      · have h2 := h.2
        rw [show x c = r from hr] at h2
        have h2 := EReal.coe_lt_coe_iff.1 h2
        show ((-1 : ℝ) : EReal) < zOf X _
        rw [hmem _ r hr]
        exact EReal.coe_lt_coe_iff.2 (by linarith)
    · intro c hc
      have h := (Finset.mem_filter.1 hc).2
      refine Finset.mem_filter.2 ⟨Finset.mem_range.2 c.isLt, ?_⟩
      have h : ((-1 : ℝ) : EReal) < zOf X (Idealize.ShloMosaic.ix2 p c) := h
      rcases hcase c with hb | ⟨r, hr⟩
      · rw [hz, hb] at h
        exact absurd h (by simp)
      · rw [hmem _ r hr] at h
        have h := EReal.coe_lt_coe_iff.1 h
        rw [hr]
        exact EReal.coe_lt_coe_iff.2 (by linarith)
    · intro c hc
      rcases hcase ⟨c, Finset.mem_range.1 (Finset.mem_filter.1 hc).1⟩ with hb | ⟨r, hr⟩
      · have h := (Finset.mem_filter.1 hc).2
        rw [show x c = ⊥ from hb] at h
        exact absurd h (by simp)
      · have hc' : c < 4096 := Finset.mem_range.1 (Finset.mem_filter.1 hc).1
        show max ((x c).toReal - (m + τ)) 0 = max (EReal.toReal (zOf X (Idealize.ShloMosaic.ix2 p ⟨c, hc'⟩)) - τ) 0
        rw [hmem ⟨c, hc'⟩ r hr, EReal.toReal_coe, show x c = r from hr, EReal.toReal_coe, sub_add_eq_sub_sub]
  have hnr : ∀ c ∈ cand x m, ∀ hc : c < 4096, 0 < |(x c).toReal - (m + τ)| ∧ |(x c).toReal - (m + τ)| ≤ 1 / 2 ^ 17 →
      nearOf X (Idealize.ShloMosaic.ix2 p ⟨c, hc⟩) = 1#1 := by
    intro c hcm hc h
    refine nearOf_at X p ⟨c, hc⟩ ?_ h
    rcases hcase ⟨c, hc⟩ with hb | ⟨r, hr⟩
    · have h := (Finset.mem_filter.1 hcm).2
      rw [show x c = ⊥ from hb] at h
      exact absurd h (by simp)
    · rw [hmem _ r hr, hT, ← EReal.coe_sub, show x c = r from hr, EReal.toReal_coe, sub_add_eq_sub_sub]
  have htau := tau_real x m
    (fun y => by
      rw [← hm, maxOf_le]
      exact ⟨fun h c hc => by rw [hx ⟨c, hc⟩]; exact h _, fun h c => by rw [← hx]; exact h _ c.isLt⟩)
    ⟨c0.val, c0.isLt, hc0⟩ hexc (by linarith)
    (fun c hc e he h1 h2 => by
      have hc' := Finset.mem_range.1 (Finset.mem_filter.1 hc).1
      have he' := Finset.mem_range.1 (Finset.mem_filter.1 he).1
      exact congrArg Fin.val (near_unique X hX p ⟨c, hc'⟩ ⟨e, he'⟩ (hnr c hc hc' h1) (hnr e he he' h2)))
  rw [rowOut_at x _ htau, hT, max_comm]
  rcases hcase c with hb | ⟨r, hr⟩
  · rw [hz, hb, EReal.bot_sub, EReal.bot_sub, EReal.bot_sub]
  · rw [hmem c r hr, hr, ← EReal.coe_sub, ← EReal.coe_sub, sub_add_eq_sub_sub]

open Cert.Proof.Ref in
/-- A row whose largest element is infinite: both results are zero. -/
theorem row_inf (X : Mat) (p : Fin 8192) (x : ℕ → EReal)
    (hx : ∀ c : Fin 4096, x c.val = X (Idealize.ShloMosaic.ix2 p c)) (M : EReal) (hm : maxOf X (Idealize.ShloMosaic.ix1 p) = M)
    (hi : M = ⊤ ∨ M = ⊥) (c : Fin 4096) : (rowOut (F := Ideal) x c.val : EReal)
      = max 0 ((zOf X (Idealize.ShloMosaic.ix2 p c) : EReal) - tOf (sOf (zOf X)) (Idealize.ShloMosaic.ix2 p 0)) := by
  have hle : ∀ c : Fin 4096, x c.val ≤ M := fun c => by rw [hx, ← hm]; exact (maxOf_le X p _).1 le_rfl c
  have hz : ∀ c : Fin 4096, (zOf X (Idealize.ShloMosaic.ix2 p c) : EReal) = ⊥ := fun c => by
    rw [zOf_at, ← hx, hm]; exact sub_inf hi (hle c)
  have htau := tau_inf x M
    (fun y => by
      rw [← hm, maxOf_le]
      exact ⟨fun h c hc => by rw [hx ⟨c, hc⟩]; exact h _, fun h c => by rw [← hx]; exact h _ c.isLt⟩) hi
  rw [rowOut_at x _ htau, tOf_bot _ p hz, hz, sub_inf hi (hle c), max_comm]
  rfl

open Cert.Proof.Ref in
/-- The kernel's array is the reference's. -/
theorem out_eq (X : Mat) (hX : Cert.Pre_separated.fn (F := Ideal) X = fun _ => 1#1) : outArr (F := Ideal) X = outOf X := by
  funext y
  obtain ⟨p, c, rfl⟩ : ∃ p c, y = Idealize.ShloMosaic.ix2 p c := ⟨y 0, y 1, (Idealize.ShloMosaic.ix2_eta y).symm⟩
  have hx : ∀ c : Fin 4096, X (ix2 p.val c.val) = X (Idealize.ShloMosaic.ix2 p c) := fun c => congrArg X (funext fun a => by
    match a with
    | ⟨0, _⟩ => exact Fin.ext (Nat.mod_eq_of_lt p.isLt)
    | ⟨1, _⟩ => exact Fin.ext (Nat.mod_eq_of_lt c.isLt))
  have hr : outOf X (Idealize.ShloMosaic.ix2 p c)
      = (max 0 ((zOf X (Idealize.ShloMosaic.ix2 p c) : EReal) - tOf (sOf (zOf X)) (Idealize.ShloMosaic.ix2 p 0)) : EReal) := by
    rw [← wide_at (tOf (sOf (zOf X))) p c, ← Ideal.ofBits_zero_f32]
    rfl
  rw [hr]
  show (rowOut (F := Ideal) (fun c => X (ix2 p.val c)) c.val : EReal) = _
  rcases hM : (maxOf X (Idealize.ShloMosaic.ix1 p) : EReal) with _ | _ | m
  · exact row_inf X p _ hx ⊥ hM (.inr rfl) c
  · exact row_inf X p _ hx ⊤ hM (.inl rfl) c
  · exact row_real X hX p _ hx m hM c

/-- On inputs the precondition takes, kernel and reference return the same array. -/
theorem algebraic : Cert.algebraic_KernelIdeal_ReferenceIdeal_pre_separated := by
  intro m g m' g' hpre hargs
  refine ⟨fun d => outArr (arg m d), ?_, ?_⟩
  · refine (θ_run _ _ _).mono (fun r h c => ?_) (run_main m g)
    exact ⟨(h.1 c).2, (h.1 c).1⟩
  · refine (θ_run _ _ _).mono (fun r h c => ?_) (Cert.ReferenceIdeal.Value.run m' g')
    refine ⟨(h c).1.trans ?_, (h c).2⟩
    refine Eq.trans ?_ (out_eq (arg m c) (hpre c)).symm
    have e : Cert.ReferenceIdeal.Value.res_main_v31 m' c = Ref.outOf (m' ((c.tc : Thread Cert.ReferenceIdeal.nD Cert.ReferenceIdeal.τ).loc Cert.ReferenceIdeal.main_arg0)) := rfl
    rw [e, hargs c]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_separated
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate: the frames, and that kernel and reference agree over extended reals. -/
theorem claim : Cert.Claim :=
  ⟨Cert.Kernel.Gen.facts, Cert.KernelIdeal.Gen.facts, Cert.ReferenceIdeal.Gen.facts, Cert.Pre_separated.Gen.facts,
    frame_kernel, frame_ideal, frame_ideal_pre, frame_reference, frame_reference_pre, trivial, algebraic⟩

end Cert.Proof

end
